-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 12288]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![12288, 768]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S768x768 : Shape := ⟨2, ![768, 768]⟩
abbrev S31x24x768 : Shape := ⟨3, ![31, 24, 768]⟩
abbrev S24x768 : Shape := ⟨2, ![24, 768]⟩
abbrev S3x31 : Shape := ⟨2, ![3, 31]⟩
abbrev S_ : Shape := ⟨0, ![]⟩
abbrev S1x1 : Shape := ⟨2, ![1, 1]⟩
abbrev S1x24x256 : Shape := ⟨3, ![1, 24, 256]⟩
abbrev S24x256 : Shape := ⟨2, ![24, 256]⟩
abbrev S31x24x256 : Shape := ⟨3, ![31, 24, 256]⟩

abbrev nBuf : Space → Nat
  | .hbm => 3
  | .vmem => 6
  | .smem => 0
  | _ => 0

abbrev bufTy : (tb : Table) → Fin (tcTables nBuf tb) → BufTy
  | .hbm, ⟨0, _⟩ => ⟨S768x384, .bf16⟩
  | .hbm, ⟨1, _⟩ => ⟨S384x768, .bf16⟩
  | .hbm, ⟨2, _⟩ => ⟨S768x768, .bf16⟩
  | .local _ .vmem, ⟨0, _⟩ => ⟨S768x384, .bf16⟩
  | .local _ .vmem, ⟨1, _⟩ => ⟨S384x768, .bf16⟩
  | .local _ .vmem, ⟨2, _⟩ => ⟨S768x768, .bf16⟩
  | .local _ .vmem, ⟨3, _⟩ => ⟨S768x768, .bf16⟩
  | .local _ .vmem, ⟨4, _⟩ => ⟨S31x24x768, .bf16⟩
  | .local _ .vmem, ⟨5, _⟩ => ⟨S24x768, .bf16⟩
  | _, _ => ⟨S768x384, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 375 → Bool
  | ⟨i, _⟩ => dmaSemScopedAt i

abbrev sig : RefSig :=
  (ofTc nBuf bufTy 2 375 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_11 : BitVec 32 := 8#32
  let v30 : BitVec 32 := Scalar.muli v29 c8_i32_11
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_12 : BitVec 32 := 1#32
  let v32 : BitVec 32 := Scalar.addi v12 c1_i32_12
  let c8_i32_13 : BitVec 32 := 8#32
  let c0_i32_14 : BitVec 32 := 0#32
  let v33 : BitVec 1 := Scalar.cmpi .eq c8_i32_13 c0_i32_14
  let c1_i32_15 : BitVec 32 := 1#32
  let v34 : BitVec 32 := Scalar.select v33 c1_i32_15 c8_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v43 : BitVec 32 := Scalar.addi v30 v42
  let c1_i32_20 : BitVec 32 := 1#32
  let v44 : BitVec 32 := Scalar.muli v43 c1_i32_20
  let v45 : BitVec 32 := Scalar.addi c0_i32_21 v44
  v45.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_11 : BitVec 32 := 8#32
  let v30 : BitVec 32 := Scalar.muli v29 c8_i32_11
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v46 : BitVec 32 := Scalar.addi v12 c2_i32
  let c8_i32_22 : BitVec 32 := 8#32
  let c0_i32_23 : BitVec 32 := 0#32
  let v47 : BitVec 1 := Scalar.cmpi .eq c8_i32_22 c0_i32_23
  let c1_i32_24 : BitVec 32 := 1#32
  let v48 : BitVec 32 := Scalar.select v47 c1_i32_24 c8_i32_22
  let v49 : BitVec 32 := Scalar.remsi v46 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v57 : BitVec 32 := Scalar.addi v30 v56
  let c1_i32_29 : BitVec 32 := 1#32
  let v58 : BitVec 32 := Scalar.muli v57 c1_i32_29
  let v59 : BitVec 32 := Scalar.addi c0_i32_30 v58
  v59.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_11 : BitVec 32 := 8#32
  let v30 : BitVec 32 := Scalar.muli v29 c8_i32_11
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v60 : BitVec 32 := Scalar.addi v12 c3_i32
  let c8_i32_31 : BitVec 32 := 8#32
  let c0_i32_32 : BitVec 32 := 0#32
  let v61 : BitVec 1 := Scalar.cmpi .eq c8_i32_31 c0_i32_32
  let c1_i32_33 : BitVec 32 := 1#32
  let v62 : BitVec 32 := Scalar.select v61 c1_i32_33 c8_i32_31
  let v63 : BitVec 32 := Scalar.remsi v60 v62
  let c0_i32_35 : BitVec 32 := 0#32
  let v65 : BitVec 1 := Scalar.cmpi .slt v63 c0_i32_35
  let c0_i32_36 : BitVec 32 := 0#32
  let v66 : BitVec 1 := Scalar.cmpi .slt v62 c0_i32_36
  let v67 : BitVec 1 := Scalar.xori v65 v66
  let c0_i32_34 : BitVec 32 := 0#32
  let v64 : BitVec 1 := Scalar.cmpi .ne v63 c0_i32_34
  let v68 : BitVec 1 := Scalar.andi v67 v64
  let v69 : BitVec 32 := Scalar.addi v63 v62
  let v70 : BitVec 32 := Scalar.select v68 v69 v63
  let v71 : BitVec 32 := Scalar.addi v30 v70
  let c1_i32_38 : BitVec 32 := 1#32
  let v72 : BitVec 32 := Scalar.muli v71 c1_i32_38
  let v73 : BitVec 32 := Scalar.addi c0_i32_39 v72
  v73.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_11 : BitVec 32 := 8#32
  let v30 : BitVec 32 := Scalar.muli v29 c8_i32_11
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32 : BitVec 32 := 4#32
  let v74 : BitVec 32 := Scalar.addi v12 c4_i32
  let c8_i32_40 : BitVec 32 := 8#32
  let c0_i32_41 : BitVec 32 := 0#32
  let v75 : BitVec 1 := Scalar.cmpi .eq c8_i32_40 c0_i32_41
  let c1_i32_42 : BitVec 32 := 1#32
  let v76 : BitVec 32 := Scalar.select v75 c1_i32_42 c8_i32_40
  let v77 : BitVec 32 := Scalar.remsi v74 v76
  let c0_i32_44 : BitVec 32 := 0#32
  let v79 : BitVec 1 := Scalar.cmpi .slt v77 c0_i32_44
  let c0_i32_45 : BitVec 32 := 0#32
  let v80 : BitVec 1 := Scalar.cmpi .slt v76 c0_i32_45
  let v81 : BitVec 1 := Scalar.xori v79 v80
  let c0_i32_43 : BitVec 32 := 0#32
  let v78 : BitVec 1 := Scalar.cmpi .ne v77 c0_i32_43
  let v82 : BitVec 1 := Scalar.andi v81 v78
  let v83 : BitVec 32 := Scalar.addi v77 v76
  let v84 : BitVec 32 := Scalar.select v82 v83 v77
  let v85 : BitVec 32 := Scalar.addi v30 v84
  let c1_i32_47 : BitVec 32 := 1#32
  let v86 : BitVec 32 := Scalar.muli v85 c1_i32_47
  let v87 : BitVec 32 := Scalar.addi c0_i32_48 v86
  v87.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_11 : BitVec 32 := 8#32
  let v30 : BitVec 32 := Scalar.muli v29 c8_i32_11
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c5_i32 : BitVec 32 := 5#32
  let v88 : BitVec 32 := Scalar.addi v12 c5_i32
  let c8_i32_49 : BitVec 32 := 8#32
  let c0_i32_50 : BitVec 32 := 0#32
  let v89 : BitVec 1 := Scalar.cmpi .eq c8_i32_49 c0_i32_50
  let c1_i32_51 : BitVec 32 := 1#32
  let v90 : BitVec 32 := Scalar.select v89 c1_i32_51 c8_i32_49
  let v91 : BitVec 32 := Scalar.remsi v88 v90
  let c0_i32_53 : BitVec 32 := 0#32
  let v93 : BitVec 1 := Scalar.cmpi .slt v91 c0_i32_53
  let c0_i32_54 : BitVec 32 := 0#32
  let v94 : BitVec 1 := Scalar.cmpi .slt v90 c0_i32_54
  let v95 : BitVec 1 := Scalar.xori v93 v94
  let c0_i32_52 : BitVec 32 := 0#32
  let v92 : BitVec 1 := Scalar.cmpi .ne v91 c0_i32_52
  let v96 : BitVec 1 := Scalar.andi v95 v92
  let v97 : BitVec 32 := Scalar.addi v91 v90
  let v98 : BitVec 32 := Scalar.select v96 v97 v91
  let v99 : BitVec 32 := Scalar.addi v30 v98
  let c1_i32_56 : BitVec 32 := 1#32
  let v100 : BitVec 32 := Scalar.muli v99 c1_i32_56
  let v101 : BitVec 32 := Scalar.addi c0_i32_57 v100
  v101.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_11 : BitVec 32 := 8#32
  let v30 : BitVec 32 := Scalar.muli v29 c8_i32_11
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c6_i32 : BitVec 32 := 6#32
  let v102 : BitVec 32 := Scalar.addi v12 c6_i32
  let c8_i32_58 : BitVec 32 := 8#32
  let c0_i32_59 : BitVec 32 := 0#32
  let v103 : BitVec 1 := Scalar.cmpi .eq c8_i32_58 c0_i32_59
  let c1_i32_60 : BitVec 32 := 1#32
  let v104 : BitVec 32 := Scalar.select v103 c1_i32_60 c8_i32_58
  let v105 : BitVec 32 := Scalar.remsi v102 v104
  let c0_i32_62 : BitVec 32 := 0#32
  let v107 : BitVec 1 := Scalar.cmpi .slt v105 c0_i32_62
  let c0_i32_63 : BitVec 32 := 0#32
  let v108 : BitVec 1 := Scalar.cmpi .slt v104 c0_i32_63
  let v109 : BitVec 1 := Scalar.xori v107 v108
  let c0_i32_61 : BitVec 32 := 0#32
  let v106 : BitVec 1 := Scalar.cmpi .ne v105 c0_i32_61
  let v110 : BitVec 1 := Scalar.andi v109 v106
  let v111 : BitVec 32 := Scalar.addi v105 v104
  let v112 : BitVec 32 := Scalar.select v110 v111 v105
  let v113 : BitVec 32 := Scalar.addi v30 v112
  let c1_i32_65 : BitVec 32 := 1#32
  let v114 : BitVec 32 := Scalar.muli v113 c1_i32_65
  let v115 : BitVec 32 := Scalar.addi c0_i32_66 v114
  v115.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_11 : BitVec 32 := 8#32
  let v30 : BitVec 32 := Scalar.muli v29 c8_i32_11
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c7_i32 : BitVec 32 := 7#32
  let v116 : BitVec 32 := Scalar.addi v12 c7_i32
  let c8_i32_67 : BitVec 32 := 8#32
  let c0_i32_68 : BitVec 32 := 0#32
  let v117 : BitVec 1 := Scalar.cmpi .eq c8_i32_67 c0_i32_68
  let c1_i32_69 : BitVec 32 := 1#32
  let v118 : BitVec 32 := Scalar.select v117 c1_i32_69 c8_i32_67
  let v119 : BitVec 32 := Scalar.remsi v116 v118
  let c0_i32_71 : BitVec 32 := 0#32
  let v121 : BitVec 1 := Scalar.cmpi .slt v119 c0_i32_71
  let c0_i32_72 : BitVec 32 := 0#32
  let v122 : BitVec 1 := Scalar.cmpi .slt v118 c0_i32_72
  let v123 : BitVec 1 := Scalar.xori v121 v122
  let c0_i32_70 : BitVec 32 := 0#32
  let v120 : BitVec 1 := Scalar.cmpi .ne v119 c0_i32_70
  let v124 : BitVec 1 := Scalar.andi v123 v120
  let v125 : BitVec 32 := Scalar.addi v119 v118
  let v126 : BitVec 32 := Scalar.select v124 v125 v119
  let v127 : BitVec 32 := Scalar.addi v30 v126
  let c1_i32_74 : BitVec 32 := 1#32
  let v128 : BitVec 32 := Scalar.muli v127 c1_i32_74
  let v129 : BitVec 32 := Scalar.addi c0_i32_75 v128
  v129.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_82 : BitVec 32 := 1#32
  let v139 : BitVec 32 := Scalar.addi v29 c1_i32_82
  let c4_i32_83 : BitVec 32 := 4#32
  let c0_i32_84 : BitVec 32 := 0#32
  let v140 : BitVec 1 := Scalar.cmpi .eq c4_i32_83 c0_i32_84
  let c1_i32_85 : BitVec 32 := 1#32
  let v141 : BitVec 32 := Scalar.select v140 c1_i32_85 c4_i32_83
  let v142 : BitVec 32 := Scalar.remsi v139 v141
  let c0_i32_87 : BitVec 32 := 0#32
  let v144 : BitVec 1 := Scalar.cmpi .slt v142 c0_i32_87
  let c0_i32_88 : BitVec 32 := 0#32
  let v145 : BitVec 1 := Scalar.cmpi .slt v141 c0_i32_88
  let v146 : BitVec 1 := Scalar.xori v144 v145
  let c0_i32_86 : BitVec 32 := 0#32
  let v143 : BitVec 1 := Scalar.cmpi .ne v142 c0_i32_86
  let v147 : BitVec 1 := Scalar.andi v146 v143
  let v148 : BitVec 32 := Scalar.addi v142 v141
  let v149 : BitVec 32 := Scalar.select v147 v148 v142
  let c8_i32_89 : BitVec 32 := 8#32
  let v150 : BitVec 32 := Scalar.muli v149 c8_i32_89
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v151 : BitVec 32 := Scalar.addi v150 v12
  let c1_i32_91 : BitVec 32 := 1#32
  let v152 : BitVec 32 := Scalar.muli v151 c1_i32_91
  let v153 : BitVec 32 := Scalar.addi c0_i32_92 v152
  v153.toNat
def k0_dev9 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c2_i32_93 : BitVec 32 := 2#32
  let v154 : BitVec 32 := Scalar.addi v29 c2_i32_93
  let c4_i32_94 : BitVec 32 := 4#32
  let c0_i32_95 : BitVec 32 := 0#32
  let v155 : BitVec 1 := Scalar.cmpi .eq c4_i32_94 c0_i32_95
  let c1_i32_96 : BitVec 32 := 1#32
  let v156 : BitVec 32 := Scalar.select v155 c1_i32_96 c4_i32_94
  let v157 : BitVec 32 := Scalar.remsi v154 v156
  let c0_i32_98 : BitVec 32 := 0#32
  let v159 : BitVec 1 := Scalar.cmpi .slt v157 c0_i32_98
  let c0_i32_99 : BitVec 32 := 0#32
  let v160 : BitVec 1 := Scalar.cmpi .slt v156 c0_i32_99
  let v161 : BitVec 1 := Scalar.xori v159 v160
  let c0_i32_97 : BitVec 32 := 0#32
  let v158 : BitVec 1 := Scalar.cmpi .ne v157 c0_i32_97
  let v162 : BitVec 1 := Scalar.andi v161 v158
  let v163 : BitVec 32 := Scalar.addi v157 v156
  let v164 : BitVec 32 := Scalar.select v162 v163 v157
  let c8_i32_100 : BitVec 32 := 8#32
  let v165 : BitVec 32 := Scalar.muli v164 c8_i32_100
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v166 : BitVec 32 := Scalar.addi v165 v12
  let c1_i32_102 : BitVec 32 := 1#32
  let v167 : BitVec 32 := Scalar.muli v166 c1_i32_102
  let v168 : BitVec 32 := Scalar.addi c0_i32_103 v167
  v168.toNat
def k0_dev10 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c3_i32_104 : BitVec 32 := 3#32
  let v169 : BitVec 32 := Scalar.addi v29 c3_i32_104
  let c4_i32_105 : BitVec 32 := 4#32
  let c0_i32_106 : BitVec 32 := 0#32
  let v170 : BitVec 1 := Scalar.cmpi .eq c4_i32_105 c0_i32_106
  let c1_i32_107 : BitVec 32 := 1#32
  let v171 : BitVec 32 := Scalar.select v170 c1_i32_107 c4_i32_105
  let v172 : BitVec 32 := Scalar.remsi v169 v171
  let c0_i32_109 : BitVec 32 := 0#32
  let v174 : BitVec 1 := Scalar.cmpi .slt v172 c0_i32_109
  let c0_i32_110 : BitVec 32 := 0#32
  let v175 : BitVec 1 := Scalar.cmpi .slt v171 c0_i32_110
  let v176 : BitVec 1 := Scalar.xori v174 v175
  let c0_i32_108 : BitVec 32 := 0#32
  let v173 : BitVec 1 := Scalar.cmpi .ne v172 c0_i32_108
  let v177 : BitVec 1 := Scalar.andi v176 v173
  let v178 : BitVec 32 := Scalar.addi v172 v171
  let v179 : BitVec 32 := Scalar.select v177 v178 v172
  let c8_i32_111 : BitVec 32 := 8#32
  let v180 : BitVec 32 := Scalar.muli v179 c8_i32_111
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v181 : BitVec 32 := Scalar.addi v180 v12
  let c1_i32_113 : BitVec 32 := 1#32
  let v182 : BitVec 32 := Scalar.muli v181 c1_i32_113
  let v183 : BitVec 32 := Scalar.addi c0_i32_114 v182
  v183.toNat
def k0_off1 (d0 : Dev nD) (c1_i32_117 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v184 : BitVec 32 := Scalar.addi v2 c1_i32_117
  let c32_i32_118 : BitVec 32 := 32#32
  let c0_i32_119 : BitVec 32 := 0#32
  let v185 : BitVec 1 := Scalar.cmpi .eq c32_i32_118 c0_i32_119
  let c1_i32_120 : BitVec 32 := 1#32
  let v186 : BitVec 32 := Scalar.select v185 c1_i32_120 c32_i32_118
  let v187 : BitVec 32 := Scalar.remsi v184 v186
  let c0_i32_122 : BitVec 32 := 0#32
  let v189 : BitVec 1 := Scalar.cmpi .slt v187 c0_i32_122
  let c0_i32_123 : BitVec 32 := 0#32
  let v190 : BitVec 1 := Scalar.cmpi .slt v186 c0_i32_123
  let v191 : BitVec 1 := Scalar.xori v189 v190
  let c0_i32_121 : BitVec 32 := 0#32
  let v188 : BitVec 1 := Scalar.cmpi .ne v187 c0_i32_121
  let v192 : BitVec 1 := Scalar.andi v191 v188
  let v193 : BitVec 32 := Scalar.addi v187 v186
  let v194 : BitVec 32 := Scalar.select v192 v193 v187
  let c24_i32 : BitVec 32 := 24#32
  let v195 : BitVec 32 := Scalar.muli v194 c24_i32
  let c0_i32_133 : BitVec 32 := 0#32
  ![v195.toNat, 0]
def k0_dev11 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_117 : BitVec 32 := 1#32
  let v184 : BitVec 32 := Scalar.addi v2 c1_i32_117
  let c32_i32_118 : BitVec 32 := 32#32
  let c0_i32_119 : BitVec 32 := 0#32
  let v185 : BitVec 1 := Scalar.cmpi .eq c32_i32_118 c0_i32_119
  let c1_i32_120 : BitVec 32 := 1#32
  let v186 : BitVec 32 := Scalar.select v185 c1_i32_120 c32_i32_118
  let v187 : BitVec 32 := Scalar.remsi v184 v186
  let c0_i32_122 : BitVec 32 := 0#32
  let v189 : BitVec 1 := Scalar.cmpi .slt v187 c0_i32_122
  let c0_i32_123 : BitVec 32 := 0#32
  let v190 : BitVec 1 := Scalar.cmpi .slt v186 c0_i32_123
  let v191 : BitVec 1 := Scalar.xori v189 v190
  let c0_i32_121 : BitVec 32 := 0#32
  let v188 : BitVec 1 := Scalar.cmpi .ne v187 c0_i32_121
  let v192 : BitVec 1 := Scalar.andi v191 v188
  let v193 : BitVec 32 := Scalar.addi v187 v186
  let v194 : BitVec 32 := Scalar.select v192 v193 v187
  let c1_i32_129 : BitVec 32 := 1#32
  let v196 : BitVec 32 := Scalar.muli v194 c1_i32_129
  let v197 : BitVec 32 := Scalar.addi c0_i32_130 v196
  v197.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_134 : BitVec 32 := 2#32
  let v205 : BitVec 32 := Scalar.addi v2 c2_i32_134
  let c32_i32_135 : BitVec 32 := 32#32
  let c0_i32_136 : BitVec 32 := 0#32
  let v206 : BitVec 1 := Scalar.cmpi .eq c32_i32_135 c0_i32_136
  let c1_i32_137 : BitVec 32 := 1#32
  let v207 : BitVec 32 := Scalar.select v206 c1_i32_137 c32_i32_135
  let v208 : BitVec 32 := Scalar.remsi v205 v207
  let c0_i32_139 : BitVec 32 := 0#32
  let v210 : BitVec 1 := Scalar.cmpi .slt v208 c0_i32_139
  let c0_i32_140 : BitVec 32 := 0#32
  let v211 : BitVec 1 := Scalar.cmpi .slt v207 c0_i32_140
  let v212 : BitVec 1 := Scalar.xori v210 v211
  let c0_i32_138 : BitVec 32 := 0#32
  let v209 : BitVec 1 := Scalar.cmpi .ne v208 c0_i32_138
  let v213 : BitVec 1 := Scalar.andi v212 v209
  let v214 : BitVec 32 := Scalar.addi v208 v207
  let v215 : BitVec 32 := Scalar.select v213 v214 v208
  let c1_i32_147 : BitVec 32 := 1#32
  let v217 : BitVec 32 := Scalar.muli v215 c1_i32_147
  let v218 : BitVec 32 := Scalar.addi c0_i32_148 v217
  v218.toNat
def k0_dev13 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_152 : BitVec 32 := 3#32
  let v226 : BitVec 32 := Scalar.addi v2 c3_i32_152
  let c32_i32_153 : BitVec 32 := 32#32
  let c0_i32_154 : BitVec 32 := 0#32
  let v227 : BitVec 1 := Scalar.cmpi .eq c32_i32_153 c0_i32_154
  let c1_i32_155 : BitVec 32 := 1#32
  let v228 : BitVec 32 := Scalar.select v227 c1_i32_155 c32_i32_153
  let v229 : BitVec 32 := Scalar.remsi v226 v228
  let c0_i32_157 : BitVec 32 := 0#32
  let v231 : BitVec 1 := Scalar.cmpi .slt v229 c0_i32_157
  let c0_i32_158 : BitVec 32 := 0#32
  let v232 : BitVec 1 := Scalar.cmpi .slt v228 c0_i32_158
  let v233 : BitVec 1 := Scalar.xori v231 v232
  let c0_i32_156 : BitVec 32 := 0#32
  let v230 : BitVec 1 := Scalar.cmpi .ne v229 c0_i32_156
  let v234 : BitVec 1 := Scalar.andi v233 v230
  let v235 : BitVec 32 := Scalar.addi v229 v228
  let v236 : BitVec 32 := Scalar.select v234 v235 v229
  let c1_i32_165 : BitVec 32 := 1#32
  let v238 : BitVec 32 := Scalar.muli v236 c1_i32_165
  let v239 : BitVec 32 := Scalar.addi c0_i32_166 v238
  v239.toNat
def k0_dev14 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_170 : BitVec 32 := 4#32
  let v247 : BitVec 32 := Scalar.addi v2 c4_i32_170
  let c32_i32_171 : BitVec 32 := 32#32
  let c0_i32_172 : BitVec 32 := 0#32
  let v248 : BitVec 1 := Scalar.cmpi .eq c32_i32_171 c0_i32_172
  let c1_i32_173 : BitVec 32 := 1#32
  let v249 : BitVec 32 := Scalar.select v248 c1_i32_173 c32_i32_171
  let v250 : BitVec 32 := Scalar.remsi v247 v249
  let c0_i32_175 : BitVec 32 := 0#32
  let v252 : BitVec 1 := Scalar.cmpi .slt v250 c0_i32_175
  let c0_i32_176 : BitVec 32 := 0#32
  let v253 : BitVec 1 := Scalar.cmpi .slt v249 c0_i32_176
  let v254 : BitVec 1 := Scalar.xori v252 v253
  let c0_i32_174 : BitVec 32 := 0#32
  let v251 : BitVec 1 := Scalar.cmpi .ne v250 c0_i32_174
  let v255 : BitVec 1 := Scalar.andi v254 v251
  let v256 : BitVec 32 := Scalar.addi v250 v249
  let v257 : BitVec 32 := Scalar.select v255 v256 v250
  let c1_i32_183 : BitVec 32 := 1#32
  let v259 : BitVec 32 := Scalar.muli v257 c1_i32_183
  let v260 : BitVec 32 := Scalar.addi c0_i32_184 v259
  v260.toNat
def k0_dev15 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_188 : BitVec 32 := 5#32
  let v268 : BitVec 32 := Scalar.addi v2 c5_i32_188
  let c32_i32_189 : BitVec 32 := 32#32
  let c0_i32_190 : BitVec 32 := 0#32
  let v269 : BitVec 1 := Scalar.cmpi .eq c32_i32_189 c0_i32_190
  let c1_i32_191 : BitVec 32 := 1#32
  let v270 : BitVec 32 := Scalar.select v269 c1_i32_191 c32_i32_189
  let v271 : BitVec 32 := Scalar.remsi v268 v270
  let c0_i32_193 : BitVec 32 := 0#32
  let v273 : BitVec 1 := Scalar.cmpi .slt v271 c0_i32_193
  let c0_i32_194 : BitVec 32 := 0#32
  let v274 : BitVec 1 := Scalar.cmpi .slt v270 c0_i32_194
  let v275 : BitVec 1 := Scalar.xori v273 v274
  let c0_i32_192 : BitVec 32 := 0#32
  let v272 : BitVec 1 := Scalar.cmpi .ne v271 c0_i32_192
  let v276 : BitVec 1 := Scalar.andi v275 v272
  let v277 : BitVec 32 := Scalar.addi v271 v270
  let v278 : BitVec 32 := Scalar.select v276 v277 v271
  let c1_i32_201 : BitVec 32 := 1#32
  let v280 : BitVec 32 := Scalar.muli v278 c1_i32_201
  let v281 : BitVec 32 := Scalar.addi c0_i32_202 v280
  v281.toNat
def k0_dev16 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_206 : BitVec 32 := 6#32
  let v289 : BitVec 32 := Scalar.addi v2 c6_i32_206
  let c32_i32_207 : BitVec 32 := 32#32
  let c0_i32_208 : BitVec 32 := 0#32
  let v290 : BitVec 1 := Scalar.cmpi .eq c32_i32_207 c0_i32_208
  let c1_i32_209 : BitVec 32 := 1#32
  let v291 : BitVec 32 := Scalar.select v290 c1_i32_209 c32_i32_207
  let v292 : BitVec 32 := Scalar.remsi v289 v291
  let c0_i32_211 : BitVec 32 := 0#32
  let v294 : BitVec 1 := Scalar.cmpi .slt v292 c0_i32_211
  let c0_i32_212 : BitVec 32 := 0#32
  let v295 : BitVec 1 := Scalar.cmpi .slt v291 c0_i32_212
  let v296 : BitVec 1 := Scalar.xori v294 v295
  let c0_i32_210 : BitVec 32 := 0#32
  let v293 : BitVec 1 := Scalar.cmpi .ne v292 c0_i32_210
  let v297 : BitVec 1 := Scalar.andi v296 v293
  let v298 : BitVec 32 := Scalar.addi v292 v291
  let v299 : BitVec 32 := Scalar.select v297 v298 v292
  let c1_i32_219 : BitVec 32 := 1#32
  let v301 : BitVec 32 := Scalar.muli v299 c1_i32_219
  let v302 : BitVec 32 := Scalar.addi c0_i32_220 v301
  v302.toNat
def k0_dev17 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_224 : BitVec 32 := 7#32
  let v310 : BitVec 32 := Scalar.addi v2 c7_i32_224
  let c32_i32_225 : BitVec 32 := 32#32
  let c0_i32_226 : BitVec 32 := 0#32
  let v311 : BitVec 1 := Scalar.cmpi .eq c32_i32_225 c0_i32_226
  let c1_i32_227 : BitVec 32 := 1#32
  let v312 : BitVec 32 := Scalar.select v311 c1_i32_227 c32_i32_225
  let v313 : BitVec 32 := Scalar.remsi v310 v312
  let c0_i32_229 : BitVec 32 := 0#32
  let v315 : BitVec 1 := Scalar.cmpi .slt v313 c0_i32_229
  let c0_i32_230 : BitVec 32 := 0#32
  let v316 : BitVec 1 := Scalar.cmpi .slt v312 c0_i32_230
  let v317 : BitVec 1 := Scalar.xori v315 v316
  let c0_i32_228 : BitVec 32 := 0#32
  let v314 : BitVec 1 := Scalar.cmpi .ne v313 c0_i32_228
  let v318 : BitVec 1 := Scalar.andi v317 v314
  let v319 : BitVec 32 := Scalar.addi v313 v312
  let v320 : BitVec 32 := Scalar.select v318 v319 v313
  let c1_i32_237 : BitVec 32 := 1#32
  let v322 : BitVec 32 := Scalar.muli v320 c1_i32_237
  let v323 : BitVec 32 := Scalar.addi c0_i32_238 v322
  v323.toNat
def k0_dev18 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_242 : BitVec 32 := 8#32
  let v331 : BitVec 32 := Scalar.addi v2 c8_i32_242
  let c32_i32_243 : BitVec 32 := 32#32
  let c0_i32_244 : BitVec 32 := 0#32
  let v332 : BitVec 1 := Scalar.cmpi .eq c32_i32_243 c0_i32_244
  let c1_i32_245 : BitVec 32 := 1#32
  let v333 : BitVec 32 := Scalar.select v332 c1_i32_245 c32_i32_243
  let v334 : BitVec 32 := Scalar.remsi v331 v333
  let c0_i32_247 : BitVec 32 := 0#32
  let v336 : BitVec 1 := Scalar.cmpi .slt v334 c0_i32_247
  let c0_i32_248 : BitVec 32 := 0#32
  let v337 : BitVec 1 := Scalar.cmpi .slt v333 c0_i32_248
  let v338 : BitVec 1 := Scalar.xori v336 v337
  let c0_i32_246 : BitVec 32 := 0#32
  let v335 : BitVec 1 := Scalar.cmpi .ne v334 c0_i32_246
  let v339 : BitVec 1 := Scalar.andi v338 v335
  let v340 : BitVec 32 := Scalar.addi v334 v333
  let v341 : BitVec 32 := Scalar.select v339 v340 v334
  let c1_i32_255 : BitVec 32 := 1#32
  let v343 : BitVec 32 := Scalar.muli v341 c1_i32_255
  let v344 : BitVec 32 := Scalar.addi c0_i32_256 v343
  v344.toNat
def k0_dev19 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v352 : BitVec 32 := Scalar.addi v2 c9_i32
  let c32_i32_260 : BitVec 32 := 32#32
  let c0_i32_261 : BitVec 32 := 0#32
  let v353 : BitVec 1 := Scalar.cmpi .eq c32_i32_260 c0_i32_261
  let c1_i32_262 : BitVec 32 := 1#32
  let v354 : BitVec 32 := Scalar.select v353 c1_i32_262 c32_i32_260
  let v355 : BitVec 32 := Scalar.remsi v352 v354
  let c0_i32_264 : BitVec 32 := 0#32
  let v357 : BitVec 1 := Scalar.cmpi .slt v355 c0_i32_264
  let c0_i32_265 : BitVec 32 := 0#32
  let v358 : BitVec 1 := Scalar.cmpi .slt v354 c0_i32_265
  let v359 : BitVec 1 := Scalar.xori v357 v358
  let c0_i32_263 : BitVec 32 := 0#32
  let v356 : BitVec 1 := Scalar.cmpi .ne v355 c0_i32_263
  let v360 : BitVec 1 := Scalar.andi v359 v356
  let v361 : BitVec 32 := Scalar.addi v355 v354
  let v362 : BitVec 32 := Scalar.select v360 v361 v355
  let c1_i32_272 : BitVec 32 := 1#32
  let v364 : BitVec 32 := Scalar.muli v362 c1_i32_272
  let v365 : BitVec 32 := Scalar.addi c0_i32_273 v364
  v365.toNat
def k0_dev20 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v373 : BitVec 32 := Scalar.addi v2 c10_i32
  let c32_i32_277 : BitVec 32 := 32#32
  let c0_i32_278 : BitVec 32 := 0#32
  let v374 : BitVec 1 := Scalar.cmpi .eq c32_i32_277 c0_i32_278
  let c1_i32_279 : BitVec 32 := 1#32
  let v375 : BitVec 32 := Scalar.select v374 c1_i32_279 c32_i32_277
  let v376 : BitVec 32 := Scalar.remsi v373 v375
  let c0_i32_281 : BitVec 32 := 0#32
  let v378 : BitVec 1 := Scalar.cmpi .slt v376 c0_i32_281
  let c0_i32_282 : BitVec 32 := 0#32
  let v379 : BitVec 1 := Scalar.cmpi .slt v375 c0_i32_282
  let v380 : BitVec 1 := Scalar.xori v378 v379
  let c0_i32_280 : BitVec 32 := 0#32
  let v377 : BitVec 1 := Scalar.cmpi .ne v376 c0_i32_280
  let v381 : BitVec 1 := Scalar.andi v380 v377
  let v382 : BitVec 32 := Scalar.addi v376 v375
  let v383 : BitVec 32 := Scalar.select v381 v382 v376
  let c1_i32_289 : BitVec 32 := 1#32
  let v385 : BitVec 32 := Scalar.muli v383 c1_i32_289
  let v386 : BitVec 32 := Scalar.addi c0_i32_290 v385
  v386.toNat
def k0_dev21 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v394 : BitVec 32 := Scalar.addi v2 c11_i32
  let c32_i32_294 : BitVec 32 := 32#32
  let c0_i32_295 : BitVec 32 := 0#32
  let v395 : BitVec 1 := Scalar.cmpi .eq c32_i32_294 c0_i32_295
  let c1_i32_296 : BitVec 32 := 1#32
  let v396 : BitVec 32 := Scalar.select v395 c1_i32_296 c32_i32_294
  let v397 : BitVec 32 := Scalar.remsi v394 v396
  let c0_i32_298 : BitVec 32 := 0#32
  let v399 : BitVec 1 := Scalar.cmpi .slt v397 c0_i32_298
  let c0_i32_299 : BitVec 32 := 0#32
  let v400 : BitVec 1 := Scalar.cmpi .slt v396 c0_i32_299
  let v401 : BitVec 1 := Scalar.xori v399 v400
  let c0_i32_297 : BitVec 32 := 0#32
  let v398 : BitVec 1 := Scalar.cmpi .ne v397 c0_i32_297
  let v402 : BitVec 1 := Scalar.andi v401 v398
  let v403 : BitVec 32 := Scalar.addi v397 v396
  let v404 : BitVec 32 := Scalar.select v402 v403 v397
  let c1_i32_306 : BitVec 32 := 1#32
  let v406 : BitVec 32 := Scalar.muli v404 c1_i32_306
  let v407 : BitVec 32 := Scalar.addi c0_i32_307 v406
  v407.toNat
def k0_dev22 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v415 : BitVec 32 := Scalar.addi v2 c12_i32
  let c32_i32_311 : BitVec 32 := 32#32
  let c0_i32_312 : BitVec 32 := 0#32
  let v416 : BitVec 1 := Scalar.cmpi .eq c32_i32_311 c0_i32_312
  let c1_i32_313 : BitVec 32 := 1#32
  let v417 : BitVec 32 := Scalar.select v416 c1_i32_313 c32_i32_311
  let v418 : BitVec 32 := Scalar.remsi v415 v417
  let c0_i32_315 : BitVec 32 := 0#32
  let v420 : BitVec 1 := Scalar.cmpi .slt v418 c0_i32_315
  let c0_i32_316 : BitVec 32 := 0#32
  let v421 : BitVec 1 := Scalar.cmpi .slt v417 c0_i32_316
  let v422 : BitVec 1 := Scalar.xori v420 v421
  let c0_i32_314 : BitVec 32 := 0#32
  let v419 : BitVec 1 := Scalar.cmpi .ne v418 c0_i32_314
  let v423 : BitVec 1 := Scalar.andi v422 v419
  let v424 : BitVec 32 := Scalar.addi v418 v417
  let v425 : BitVec 32 := Scalar.select v423 v424 v418
  let c1_i32_323 : BitVec 32 := 1#32
  let v427 : BitVec 32 := Scalar.muli v425 c1_i32_323
  let v428 : BitVec 32 := Scalar.addi c0_i32_324 v427
  v428.toNat
def k0_dev23 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v436 : BitVec 32 := Scalar.addi v2 c13_i32
  let c32_i32_328 : BitVec 32 := 32#32
  let c0_i32_329 : BitVec 32 := 0#32
  let v437 : BitVec 1 := Scalar.cmpi .eq c32_i32_328 c0_i32_329
  let c1_i32_330 : BitVec 32 := 1#32
  let v438 : BitVec 32 := Scalar.select v437 c1_i32_330 c32_i32_328
  let v439 : BitVec 32 := Scalar.remsi v436 v438
  let c0_i32_332 : BitVec 32 := 0#32
  let v441 : BitVec 1 := Scalar.cmpi .slt v439 c0_i32_332
  let c0_i32_333 : BitVec 32 := 0#32
  let v442 : BitVec 1 := Scalar.cmpi .slt v438 c0_i32_333
  let v443 : BitVec 1 := Scalar.xori v441 v442
  let c0_i32_331 : BitVec 32 := 0#32
  let v440 : BitVec 1 := Scalar.cmpi .ne v439 c0_i32_331
  let v444 : BitVec 1 := Scalar.andi v443 v440
  let v445 : BitVec 32 := Scalar.addi v439 v438
  let v446 : BitVec 32 := Scalar.select v444 v445 v439
  let c1_i32_340 : BitVec 32 := 1#32
  let v448 : BitVec 32 := Scalar.muli v446 c1_i32_340
  let v449 : BitVec 32 := Scalar.addi c0_i32_341 v448
  v449.toNat
def k0_dev24 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v457 : BitVec 32 := Scalar.addi v2 c14_i32
  let c32_i32_345 : BitVec 32 := 32#32
  let c0_i32_346 : BitVec 32 := 0#32
  let v458 : BitVec 1 := Scalar.cmpi .eq c32_i32_345 c0_i32_346
  let c1_i32_347 : BitVec 32 := 1#32
  let v459 : BitVec 32 := Scalar.select v458 c1_i32_347 c32_i32_345
  let v460 : BitVec 32 := Scalar.remsi v457 v459
  let c0_i32_349 : BitVec 32 := 0#32
  let v462 : BitVec 1 := Scalar.cmpi .slt v460 c0_i32_349
  let c0_i32_350 : BitVec 32 := 0#32
  let v463 : BitVec 1 := Scalar.cmpi .slt v459 c0_i32_350
  let v464 : BitVec 1 := Scalar.xori v462 v463
  let c0_i32_348 : BitVec 32 := 0#32
  let v461 : BitVec 1 := Scalar.cmpi .ne v460 c0_i32_348
  let v465 : BitVec 1 := Scalar.andi v464 v461
  let v466 : BitVec 32 := Scalar.addi v460 v459
  let v467 : BitVec 32 := Scalar.select v465 v466 v460
  let c1_i32_357 : BitVec 32 := 1#32
  let v469 : BitVec 32 := Scalar.muli v467 c1_i32_357
  let v470 : BitVec 32 := Scalar.addi c0_i32_358 v469
  v470.toNat
def k0_dev25 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v478 : BitVec 32 := Scalar.addi v2 c15_i32
  let c32_i32_362 : BitVec 32 := 32#32
  let c0_i32_363 : BitVec 32 := 0#32
  let v479 : BitVec 1 := Scalar.cmpi .eq c32_i32_362 c0_i32_363
  let c1_i32_364 : BitVec 32 := 1#32
  let v480 : BitVec 32 := Scalar.select v479 c1_i32_364 c32_i32_362
  let v481 : BitVec 32 := Scalar.remsi v478 v480
  let c0_i32_366 : BitVec 32 := 0#32
  let v483 : BitVec 1 := Scalar.cmpi .slt v481 c0_i32_366
  let c0_i32_367 : BitVec 32 := 0#32
  let v484 : BitVec 1 := Scalar.cmpi .slt v480 c0_i32_367
  let v485 : BitVec 1 := Scalar.xori v483 v484
  let c0_i32_365 : BitVec 32 := 0#32
  let v482 : BitVec 1 := Scalar.cmpi .ne v481 c0_i32_365
  let v486 : BitVec 1 := Scalar.andi v485 v482
  let v487 : BitVec 32 := Scalar.addi v481 v480
  let v488 : BitVec 32 := Scalar.select v486 v487 v481
  let c1_i32_374 : BitVec 32 := 1#32
  let v490 : BitVec 32 := Scalar.muli v488 c1_i32_374
  let v491 : BitVec 32 := Scalar.addi c0_i32_375 v490
  v491.toNat
def k0_dev26 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v499 : BitVec 32 := Scalar.addi v2 c16_i32
  let c32_i32_379 : BitVec 32 := 32#32
  let c0_i32_380 : BitVec 32 := 0#32
  let v500 : BitVec 1 := Scalar.cmpi .eq c32_i32_379 c0_i32_380
  let c1_i32_381 : BitVec 32 := 1#32
  let v501 : BitVec 32 := Scalar.select v500 c1_i32_381 c32_i32_379
  let v502 : BitVec 32 := Scalar.remsi v499 v501
  let c0_i32_383 : BitVec 32 := 0#32
  let v504 : BitVec 1 := Scalar.cmpi .slt v502 c0_i32_383
  let c0_i32_384 : BitVec 32 := 0#32
  let v505 : BitVec 1 := Scalar.cmpi .slt v501 c0_i32_384
  let v506 : BitVec 1 := Scalar.xori v504 v505
  let c0_i32_382 : BitVec 32 := 0#32
  let v503 : BitVec 1 := Scalar.cmpi .ne v502 c0_i32_382
  let v507 : BitVec 1 := Scalar.andi v506 v503
  let v508 : BitVec 32 := Scalar.addi v502 v501
  let v509 : BitVec 32 := Scalar.select v507 v508 v502
  let c1_i32_391 : BitVec 32 := 1#32
  let v511 : BitVec 32 := Scalar.muli v509 c1_i32_391
  let v512 : BitVec 32 := Scalar.addi c0_i32_392 v511
  v512.toNat
def k0_dev27 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v520 : BitVec 32 := Scalar.addi v2 c17_i32
  let c32_i32_396 : BitVec 32 := 32#32
  let c0_i32_397 : BitVec 32 := 0#32
  let v521 : BitVec 1 := Scalar.cmpi .eq c32_i32_396 c0_i32_397
  let c1_i32_398 : BitVec 32 := 1#32
  let v522 : BitVec 32 := Scalar.select v521 c1_i32_398 c32_i32_396
  let v523 : BitVec 32 := Scalar.remsi v520 v522
  let c0_i32_400 : BitVec 32 := 0#32
  let v525 : BitVec 1 := Scalar.cmpi .slt v523 c0_i32_400
  let c0_i32_401 : BitVec 32 := 0#32
  let v526 : BitVec 1 := Scalar.cmpi .slt v522 c0_i32_401
  let v527 : BitVec 1 := Scalar.xori v525 v526
  let c0_i32_399 : BitVec 32 := 0#32
  let v524 : BitVec 1 := Scalar.cmpi .ne v523 c0_i32_399
  let v528 : BitVec 1 := Scalar.andi v527 v524
  let v529 : BitVec 32 := Scalar.addi v523 v522
  let v530 : BitVec 32 := Scalar.select v528 v529 v523
  let c1_i32_408 : BitVec 32 := 1#32
  let v532 : BitVec 32 := Scalar.muli v530 c1_i32_408
  let v533 : BitVec 32 := Scalar.addi c0_i32_409 v532
  v533.toNat
def k0_dev28 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v541 : BitVec 32 := Scalar.addi v2 c18_i32
  let c32_i32_413 : BitVec 32 := 32#32
  let c0_i32_414 : BitVec 32 := 0#32
  let v542 : BitVec 1 := Scalar.cmpi .eq c32_i32_413 c0_i32_414
  let c1_i32_415 : BitVec 32 := 1#32
  let v543 : BitVec 32 := Scalar.select v542 c1_i32_415 c32_i32_413
  let v544 : BitVec 32 := Scalar.remsi v541 v543
  let c0_i32_417 : BitVec 32 := 0#32
  let v546 : BitVec 1 := Scalar.cmpi .slt v544 c0_i32_417
  let c0_i32_418 : BitVec 32 := 0#32
  let v547 : BitVec 1 := Scalar.cmpi .slt v543 c0_i32_418
  let v548 : BitVec 1 := Scalar.xori v546 v547
  let c0_i32_416 : BitVec 32 := 0#32
  let v545 : BitVec 1 := Scalar.cmpi .ne v544 c0_i32_416
  let v549 : BitVec 1 := Scalar.andi v548 v545
  let v550 : BitVec 32 := Scalar.addi v544 v543
  let v551 : BitVec 32 := Scalar.select v549 v550 v544
  let c1_i32_425 : BitVec 32 := 1#32
  let v553 : BitVec 32 := Scalar.muli v551 c1_i32_425
  let v554 : BitVec 32 := Scalar.addi c0_i32_426 v553
  v554.toNat
def k0_dev29 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v562 : BitVec 32 := Scalar.addi v2 c19_i32
  let c32_i32_430 : BitVec 32 := 32#32
  let c0_i32_431 : BitVec 32 := 0#32
  let v563 : BitVec 1 := Scalar.cmpi .eq c32_i32_430 c0_i32_431
  let c1_i32_432 : BitVec 32 := 1#32
  let v564 : BitVec 32 := Scalar.select v563 c1_i32_432 c32_i32_430
  let v565 : BitVec 32 := Scalar.remsi v562 v564
  let c0_i32_434 : BitVec 32 := 0#32
  let v567 : BitVec 1 := Scalar.cmpi .slt v565 c0_i32_434
  let c0_i32_435 : BitVec 32 := 0#32
  let v568 : BitVec 1 := Scalar.cmpi .slt v564 c0_i32_435
  let v569 : BitVec 1 := Scalar.xori v567 v568
  let c0_i32_433 : BitVec 32 := 0#32
  let v566 : BitVec 1 := Scalar.cmpi .ne v565 c0_i32_433
  let v570 : BitVec 1 := Scalar.andi v569 v566
  let v571 : BitVec 32 := Scalar.addi v565 v564
  let v572 : BitVec 32 := Scalar.select v570 v571 v565
  let c1_i32_442 : BitVec 32 := 1#32
  let v574 : BitVec 32 := Scalar.muli v572 c1_i32_442
  let v575 : BitVec 32 := Scalar.addi c0_i32_443 v574
  v575.toNat
def k0_dev30 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v583 : BitVec 32 := Scalar.addi v2 c20_i32
  let c32_i32_447 : BitVec 32 := 32#32
  let c0_i32_448 : BitVec 32 := 0#32
  let v584 : BitVec 1 := Scalar.cmpi .eq c32_i32_447 c0_i32_448
  let c1_i32_449 : BitVec 32 := 1#32
  let v585 : BitVec 32 := Scalar.select v584 c1_i32_449 c32_i32_447
  let v586 : BitVec 32 := Scalar.remsi v583 v585
  let c0_i32_451 : BitVec 32 := 0#32
  let v588 : BitVec 1 := Scalar.cmpi .slt v586 c0_i32_451
  let c0_i32_452 : BitVec 32 := 0#32
  let v589 : BitVec 1 := Scalar.cmpi .slt v585 c0_i32_452
  let v590 : BitVec 1 := Scalar.xori v588 v589
  let c0_i32_450 : BitVec 32 := 0#32
  let v587 : BitVec 1 := Scalar.cmpi .ne v586 c0_i32_450
  let v591 : BitVec 1 := Scalar.andi v590 v587
  let v592 : BitVec 32 := Scalar.addi v586 v585
  let v593 : BitVec 32 := Scalar.select v591 v592 v586
  let c1_i32_459 : BitVec 32 := 1#32
  let v595 : BitVec 32 := Scalar.muli v593 c1_i32_459
  let v596 : BitVec 32 := Scalar.addi c0_i32_460 v595
  v596.toNat
def k0_dev31 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v604 : BitVec 32 := Scalar.addi v2 c21_i32
  let c32_i32_464 : BitVec 32 := 32#32
  let c0_i32_465 : BitVec 32 := 0#32
  let v605 : BitVec 1 := Scalar.cmpi .eq c32_i32_464 c0_i32_465
  let c1_i32_466 : BitVec 32 := 1#32
  let v606 : BitVec 32 := Scalar.select v605 c1_i32_466 c32_i32_464
  let v607 : BitVec 32 := Scalar.remsi v604 v606
  let c0_i32_468 : BitVec 32 := 0#32
  let v609 : BitVec 1 := Scalar.cmpi .slt v607 c0_i32_468
  let c0_i32_469 : BitVec 32 := 0#32
  let v610 : BitVec 1 := Scalar.cmpi .slt v606 c0_i32_469
  let v611 : BitVec 1 := Scalar.xori v609 v610
  let c0_i32_467 : BitVec 32 := 0#32
  let v608 : BitVec 1 := Scalar.cmpi .ne v607 c0_i32_467
  let v612 : BitVec 1 := Scalar.andi v611 v608
  let v613 : BitVec 32 := Scalar.addi v607 v606
  let v614 : BitVec 32 := Scalar.select v612 v613 v607
  let c1_i32_476 : BitVec 32 := 1#32
  let v616 : BitVec 32 := Scalar.muli v614 c1_i32_476
  let v617 : BitVec 32 := Scalar.addi c0_i32_477 v616
  v617.toNat
def k0_dev32 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v625 : BitVec 32 := Scalar.addi v2 c22_i32
  let c32_i32_481 : BitVec 32 := 32#32
  let c0_i32_482 : BitVec 32 := 0#32
  let v626 : BitVec 1 := Scalar.cmpi .eq c32_i32_481 c0_i32_482
  let c1_i32_483 : BitVec 32 := 1#32
  let v627 : BitVec 32 := Scalar.select v626 c1_i32_483 c32_i32_481
  let v628 : BitVec 32 := Scalar.remsi v625 v627
  let c0_i32_485 : BitVec 32 := 0#32
  let v630 : BitVec 1 := Scalar.cmpi .slt v628 c0_i32_485
  let c0_i32_486 : BitVec 32 := 0#32
  let v631 : BitVec 1 := Scalar.cmpi .slt v627 c0_i32_486
  let v632 : BitVec 1 := Scalar.xori v630 v631
  let c0_i32_484 : BitVec 32 := 0#32
  let v629 : BitVec 1 := Scalar.cmpi .ne v628 c0_i32_484
  let v633 : BitVec 1 := Scalar.andi v632 v629
  let v634 : BitVec 32 := Scalar.addi v628 v627
  let v635 : BitVec 32 := Scalar.select v633 v634 v628
  let c1_i32_493 : BitVec 32 := 1#32
  let v637 : BitVec 32 := Scalar.muli v635 c1_i32_493
  let v638 : BitVec 32 := Scalar.addi c0_i32_494 v637
  v638.toNat
def k0_dev33 (d0 : Dev nD) : Nat :=
  let c0_i32_511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v646 : BitVec 32 := Scalar.addi v2 c23_i32
  let c32_i32_498 : BitVec 32 := 32#32
  let c0_i32_499 : BitVec 32 := 0#32
  let v647 : BitVec 1 := Scalar.cmpi .eq c32_i32_498 c0_i32_499
  let c1_i32_500 : BitVec 32 := 1#32
  let v648 : BitVec 32 := Scalar.select v647 c1_i32_500 c32_i32_498
  let v649 : BitVec 32 := Scalar.remsi v646 v648
  let c0_i32_502 : BitVec 32 := 0#32
  let v651 : BitVec 1 := Scalar.cmpi .slt v649 c0_i32_502
  let c0_i32_503 : BitVec 32 := 0#32
  let v652 : BitVec 1 := Scalar.cmpi .slt v648 c0_i32_503
  let v653 : BitVec 1 := Scalar.xori v651 v652
  let c0_i32_501 : BitVec 32 := 0#32
  let v650 : BitVec 1 := Scalar.cmpi .ne v649 c0_i32_501
  let v654 : BitVec 1 := Scalar.andi v653 v650
  let v655 : BitVec 32 := Scalar.addi v649 v648
  let v656 : BitVec 32 := Scalar.select v654 v655 v649
  let c1_i32_510 : BitVec 32 := 1#32
  let v658 : BitVec 32 := Scalar.muli v656 c1_i32_510
  let v659 : BitVec 32 := Scalar.addi c0_i32_511 v658
  v659.toNat
def k0_dev34 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_515 : BitVec 32 := 24#32
  let v667 : BitVec 32 := Scalar.addi v2 c24_i32_515
  let c32_i32_516 : BitVec 32 := 32#32
  let c0_i32_517 : BitVec 32 := 0#32
  let v668 : BitVec 1 := Scalar.cmpi .eq c32_i32_516 c0_i32_517
  let c1_i32_518 : BitVec 32 := 1#32
  let v669 : BitVec 32 := Scalar.select v668 c1_i32_518 c32_i32_516
  let v670 : BitVec 32 := Scalar.remsi v667 v669
  let c0_i32_520 : BitVec 32 := 0#32
  let v672 : BitVec 1 := Scalar.cmpi .slt v670 c0_i32_520
  let c0_i32_521 : BitVec 32 := 0#32
  let v673 : BitVec 1 := Scalar.cmpi .slt v669 c0_i32_521
  let v674 : BitVec 1 := Scalar.xori v672 v673
  let c0_i32_519 : BitVec 32 := 0#32
  let v671 : BitVec 1 := Scalar.cmpi .ne v670 c0_i32_519
  let v675 : BitVec 1 := Scalar.andi v674 v671
  let v676 : BitVec 32 := Scalar.addi v670 v669
  let v677 : BitVec 32 := Scalar.select v675 v676 v670
  let c1_i32_528 : BitVec 32 := 1#32
  let v679 : BitVec 32 := Scalar.muli v677 c1_i32_528
  let v680 : BitVec 32 := Scalar.addi c0_i32_529 v679
  v680.toNat
def k0_dev35 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v688 : BitVec 32 := Scalar.addi v2 c25_i32
  let c32_i32_533 : BitVec 32 := 32#32
  let c0_i32_534 : BitVec 32 := 0#32
  let v689 : BitVec 1 := Scalar.cmpi .eq c32_i32_533 c0_i32_534
  let c1_i32_535 : BitVec 32 := 1#32
  let v690 : BitVec 32 := Scalar.select v689 c1_i32_535 c32_i32_533
  let v691 : BitVec 32 := Scalar.remsi v688 v690
  let c0_i32_537 : BitVec 32 := 0#32
  let v693 : BitVec 1 := Scalar.cmpi .slt v691 c0_i32_537
  let c0_i32_538 : BitVec 32 := 0#32
  let v694 : BitVec 1 := Scalar.cmpi .slt v690 c0_i32_538
  let v695 : BitVec 1 := Scalar.xori v693 v694
  let c0_i32_536 : BitVec 32 := 0#32
  let v692 : BitVec 1 := Scalar.cmpi .ne v691 c0_i32_536
  let v696 : BitVec 1 := Scalar.andi v695 v692
  let v697 : BitVec 32 := Scalar.addi v691 v690
  let v698 : BitVec 32 := Scalar.select v696 v697 v691
  let c1_i32_545 : BitVec 32 := 1#32
  let v700 : BitVec 32 := Scalar.muli v698 c1_i32_545
  let v701 : BitVec 32 := Scalar.addi c0_i32_546 v700
  v701.toNat
def k0_dev36 (d0 : Dev nD) : Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v709 : BitVec 32 := Scalar.addi v2 c26_i32
  let c32_i32_550 : BitVec 32 := 32#32
  let c0_i32_551 : BitVec 32 := 0#32
  let v710 : BitVec 1 := Scalar.cmpi .eq c32_i32_550 c0_i32_551
  let c1_i32_552 : BitVec 32 := 1#32
  let v711 : BitVec 32 := Scalar.select v710 c1_i32_552 c32_i32_550
  let v712 : BitVec 32 := Scalar.remsi v709 v711
  let c0_i32_554 : BitVec 32 := 0#32
  let v714 : BitVec 1 := Scalar.cmpi .slt v712 c0_i32_554
  let c0_i32_555 : BitVec 32 := 0#32
  let v715 : BitVec 1 := Scalar.cmpi .slt v711 c0_i32_555
  let v716 : BitVec 1 := Scalar.xori v714 v715
  let c0_i32_553 : BitVec 32 := 0#32
  let v713 : BitVec 1 := Scalar.cmpi .ne v712 c0_i32_553
  let v717 : BitVec 1 := Scalar.andi v716 v713
  let v718 : BitVec 32 := Scalar.addi v712 v711
  let v719 : BitVec 32 := Scalar.select v717 v718 v712
  let c1_i32_562 : BitVec 32 := 1#32
  let v721 : BitVec 32 := Scalar.muli v719 c1_i32_562
  let v722 : BitVec 32 := Scalar.addi c0_i32_563 v721
  v722.toNat
def k0_dev37 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v730 : BitVec 32 := Scalar.addi v2 c27_i32
  let c32_i32_567 : BitVec 32 := 32#32
  let c0_i32_568 : BitVec 32 := 0#32
  let v731 : BitVec 1 := Scalar.cmpi .eq c32_i32_567 c0_i32_568
  let c1_i32_569 : BitVec 32 := 1#32
  let v732 : BitVec 32 := Scalar.select v731 c1_i32_569 c32_i32_567
  let v733 : BitVec 32 := Scalar.remsi v730 v732
  let c0_i32_571 : BitVec 32 := 0#32
  let v735 : BitVec 1 := Scalar.cmpi .slt v733 c0_i32_571
  let c0_i32_572 : BitVec 32 := 0#32
  let v736 : BitVec 1 := Scalar.cmpi .slt v732 c0_i32_572
  let v737 : BitVec 1 := Scalar.xori v735 v736
  let c0_i32_570 : BitVec 32 := 0#32
  let v734 : BitVec 1 := Scalar.cmpi .ne v733 c0_i32_570
  let v738 : BitVec 1 := Scalar.andi v737 v734
  let v739 : BitVec 32 := Scalar.addi v733 v732
  let v740 : BitVec 32 := Scalar.select v738 v739 v733
  let c1_i32_579 : BitVec 32 := 1#32
  let v742 : BitVec 32 := Scalar.muli v740 c1_i32_579
  let v743 : BitVec 32 := Scalar.addi c0_i32_580 v742
  v743.toNat
def k0_dev38 (d0 : Dev nD) : Nat :=
  let c0_i32_597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v751 : BitVec 32 := Scalar.addi v2 c28_i32
  let c32_i32_584 : BitVec 32 := 32#32
  let c0_i32_585 : BitVec 32 := 0#32
  let v752 : BitVec 1 := Scalar.cmpi .eq c32_i32_584 c0_i32_585
  let c1_i32_586 : BitVec 32 := 1#32
  let v753 : BitVec 32 := Scalar.select v752 c1_i32_586 c32_i32_584
  let v754 : BitVec 32 := Scalar.remsi v751 v753
  let c0_i32_588 : BitVec 32 := 0#32
  let v756 : BitVec 1 := Scalar.cmpi .slt v754 c0_i32_588
  let c0_i32_589 : BitVec 32 := 0#32
  let v757 : BitVec 1 := Scalar.cmpi .slt v753 c0_i32_589
  let v758 : BitVec 1 := Scalar.xori v756 v757
  let c0_i32_587 : BitVec 32 := 0#32
  let v755 : BitVec 1 := Scalar.cmpi .ne v754 c0_i32_587
  let v759 : BitVec 1 := Scalar.andi v758 v755
  let v760 : BitVec 32 := Scalar.addi v754 v753
  let v761 : BitVec 32 := Scalar.select v759 v760 v754
  let c1_i32_596 : BitVec 32 := 1#32
  let v763 : BitVec 32 := Scalar.muli v761 c1_i32_596
  let v764 : BitVec 32 := Scalar.addi c0_i32_597 v763
  v764.toNat
def k0_dev39 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v772 : BitVec 32 := Scalar.addi v2 c29_i32
  let c32_i32_601 : BitVec 32 := 32#32
  let c0_i32_602 : BitVec 32 := 0#32
  let v773 : BitVec 1 := Scalar.cmpi .eq c32_i32_601 c0_i32_602
  let c1_i32_603 : BitVec 32 := 1#32
  let v774 : BitVec 32 := Scalar.select v773 c1_i32_603 c32_i32_601
  let v775 : BitVec 32 := Scalar.remsi v772 v774
  let c0_i32_605 : BitVec 32 := 0#32
  let v777 : BitVec 1 := Scalar.cmpi .slt v775 c0_i32_605
  let c0_i32_606 : BitVec 32 := 0#32
  let v778 : BitVec 1 := Scalar.cmpi .slt v774 c0_i32_606
  let v779 : BitVec 1 := Scalar.xori v777 v778
  let c0_i32_604 : BitVec 32 := 0#32
  let v776 : BitVec 1 := Scalar.cmpi .ne v775 c0_i32_604
  let v780 : BitVec 1 := Scalar.andi v779 v776
  let v781 : BitVec 32 := Scalar.addi v775 v774
  let v782 : BitVec 32 := Scalar.select v780 v781 v775
  let c1_i32_613 : BitVec 32 := 1#32
  let v784 : BitVec 32 := Scalar.muli v782 c1_i32_613
  let v785 : BitVec 32 := Scalar.addi c0_i32_614 v784
  v785.toNat
def k0_dev40 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v793 : BitVec 32 := Scalar.addi v2 c30_i32
  let c32_i32_618 : BitVec 32 := 32#32
  let c0_i32_619 : BitVec 32 := 0#32
  let v794 : BitVec 1 := Scalar.cmpi .eq c32_i32_618 c0_i32_619
  let c1_i32_620 : BitVec 32 := 1#32
  let v795 : BitVec 32 := Scalar.select v794 c1_i32_620 c32_i32_618
  let v796 : BitVec 32 := Scalar.remsi v793 v795
  let c0_i32_622 : BitVec 32 := 0#32
  let v798 : BitVec 1 := Scalar.cmpi .slt v796 c0_i32_622
  let c0_i32_623 : BitVec 32 := 0#32
  let v799 : BitVec 1 := Scalar.cmpi .slt v795 c0_i32_623
  let v800 : BitVec 1 := Scalar.xori v798 v799
  let c0_i32_621 : BitVec 32 := 0#32
  let v797 : BitVec 1 := Scalar.cmpi .ne v796 c0_i32_621
  let v801 : BitVec 1 := Scalar.andi v800 v797
  let v802 : BitVec 32 := Scalar.addi v796 v795
  let v803 : BitVec 32 := Scalar.select v801 v802 v796
  let c1_i32_630 : BitVec 32 := 1#32
  let v805 : BitVec 32 := Scalar.muli v803 c1_i32_630
  let v806 : BitVec 32 := Scalar.addi c0_i32_631 v805
  v806.toNat
def k0_dev41 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v814 : BitVec 32 := Scalar.addi v2 c31_i32
  let c32_i32_635 : BitVec 32 := 32#32
  let c0_i32_636 : BitVec 32 := 0#32
  let v815 : BitVec 1 := Scalar.cmpi .eq c32_i32_635 c0_i32_636
  let c1_i32_637 : BitVec 32 := 1#32
  let v816 : BitVec 32 := Scalar.select v815 c1_i32_637 c32_i32_635
  let v817 : BitVec 32 := Scalar.remsi v814 v816
  let c0_i32_639 : BitVec 32 := 0#32
  let v819 : BitVec 1 := Scalar.cmpi .slt v817 c0_i32_639
  let c0_i32_640 : BitVec 32 := 0#32
  let v820 : BitVec 1 := Scalar.cmpi .slt v816 c0_i32_640
  let v821 : BitVec 1 := Scalar.xori v819 v820
  let c0_i32_638 : BitVec 32 := 0#32
  let v818 : BitVec 1 := Scalar.cmpi .ne v817 c0_i32_638
  let v822 : BitVec 1 := Scalar.andi v821 v818
  let v823 : BitVec 32 := Scalar.addi v817 v816
  let v824 : BitVec 32 := Scalar.select v822 v823 v817
  let c1_i32_647 : BitVec 32 := 1#32
  let v826 : BitVec 32 := Scalar.muli v824 c1_i32_647
  let v827 : BitVec 32 := Scalar.addi c0_i32_648 v826
  v827.toNat
def k0_off2 (d0 : Dev nD) (c1_i32_652 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v835 : BitVec 32 := Scalar.addi v2 c1_i32_652
  let c32_i32_653 : BitVec 32 := 32#32
  let c0_i32_654 : BitVec 32 := 0#32
  let v836 : BitVec 1 := Scalar.cmpi .eq c32_i32_653 c0_i32_654
  let c1_i32_655 : BitVec 32 := 1#32
  let v837 : BitVec 32 := Scalar.select v836 c1_i32_655 c32_i32_653
  let v838 : BitVec 32 := Scalar.remsi v835 v837
  let c0_i32_657 : BitVec 32 := 0#32
  let v840 : BitVec 1 := Scalar.cmpi .slt v838 c0_i32_657
  let c0_i32_658 : BitVec 32 := 0#32
  let v841 : BitVec 1 := Scalar.cmpi .slt v837 c0_i32_658
  let v842 : BitVec 1 := Scalar.xori v840 v841
  let c0_i32_656 : BitVec 32 := 0#32
  let v839 : BitVec 1 := Scalar.cmpi .ne v838 c0_i32_656
  let v843 : BitVec 1 := Scalar.andi v842 v839
  let v844 : BitVec 32 := Scalar.addi v838 v837
  let v845 : BitVec 32 := Scalar.select v843 v844 v838
  let c24_i32_659 : BitVec 32 := 24#32
  let v846 : BitVec 32 := Scalar.muli v845 c24_i32_659
  let c256_i32_668 : BitVec 32 := 256#32
  ![v846.toNat, 256]
def k0_dev42 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_652 : BitVec 32 := 1#32
  let v835 : BitVec 32 := Scalar.addi v2 c1_i32_652
  let c32_i32_653 : BitVec 32 := 32#32
  let c0_i32_654 : BitVec 32 := 0#32
  let v836 : BitVec 1 := Scalar.cmpi .eq c32_i32_653 c0_i32_654
  let c1_i32_655 : BitVec 32 := 1#32
  let v837 : BitVec 32 := Scalar.select v836 c1_i32_655 c32_i32_653
  let v838 : BitVec 32 := Scalar.remsi v835 v837
  let c0_i32_657 : BitVec 32 := 0#32
  let v840 : BitVec 1 := Scalar.cmpi .slt v838 c0_i32_657
  let c0_i32_658 : BitVec 32 := 0#32
  let v841 : BitVec 1 := Scalar.cmpi .slt v837 c0_i32_658
  let v842 : BitVec 1 := Scalar.xori v840 v841
  let c0_i32_656 : BitVec 32 := 0#32
  let v839 : BitVec 1 := Scalar.cmpi .ne v838 c0_i32_656
  let v843 : BitVec 1 := Scalar.andi v842 v839
  let v844 : BitVec 32 := Scalar.addi v838 v837
  let v845 : BitVec 32 := Scalar.select v843 v844 v838
  let c1_i32_665 : BitVec 32 := 1#32
  let v847 : BitVec 32 := Scalar.muli v845 c1_i32_665
  let v848 : BitVec 32 := Scalar.addi c0_i32_666 v847
  v848.toNat
def k0_dev43 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_669 : BitVec 32 := 2#32
  let v856 : BitVec 32 := Scalar.addi v2 c2_i32_669
  let c32_i32_670 : BitVec 32 := 32#32
  let c0_i32_671 : BitVec 32 := 0#32
  let v857 : BitVec 1 := Scalar.cmpi .eq c32_i32_670 c0_i32_671
  let c1_i32_672 : BitVec 32 := 1#32
  let v858 : BitVec 32 := Scalar.select v857 c1_i32_672 c32_i32_670
  let v859 : BitVec 32 := Scalar.remsi v856 v858
  let c0_i32_674 : BitVec 32 := 0#32
  let v861 : BitVec 1 := Scalar.cmpi .slt v859 c0_i32_674
  let c0_i32_675 : BitVec 32 := 0#32
  let v862 : BitVec 1 := Scalar.cmpi .slt v858 c0_i32_675
  let v863 : BitVec 1 := Scalar.xori v861 v862
  let c0_i32_673 : BitVec 32 := 0#32
  let v860 : BitVec 1 := Scalar.cmpi .ne v859 c0_i32_673
  let v864 : BitVec 1 := Scalar.andi v863 v860
  let v865 : BitVec 32 := Scalar.addi v859 v858
  let v866 : BitVec 32 := Scalar.select v864 v865 v859
  let c1_i32_682 : BitVec 32 := 1#32
  let v868 : BitVec 32 := Scalar.muli v866 c1_i32_682
  let v869 : BitVec 32 := Scalar.addi c0_i32_683 v868
  v869.toNat
def k0_dev44 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_687 : BitVec 32 := 3#32
  let v877 : BitVec 32 := Scalar.addi v2 c3_i32_687
  let c32_i32_688 : BitVec 32 := 32#32
  let c0_i32_689 : BitVec 32 := 0#32
  let v878 : BitVec 1 := Scalar.cmpi .eq c32_i32_688 c0_i32_689
  let c1_i32_690 : BitVec 32 := 1#32
  let v879 : BitVec 32 := Scalar.select v878 c1_i32_690 c32_i32_688
  let v880 : BitVec 32 := Scalar.remsi v877 v879
  let c0_i32_692 : BitVec 32 := 0#32
  let v882 : BitVec 1 := Scalar.cmpi .slt v880 c0_i32_692
  let c0_i32_693 : BitVec 32 := 0#32
  let v883 : BitVec 1 := Scalar.cmpi .slt v879 c0_i32_693
  let v884 : BitVec 1 := Scalar.xori v882 v883
  let c0_i32_691 : BitVec 32 := 0#32
  let v881 : BitVec 1 := Scalar.cmpi .ne v880 c0_i32_691
  let v885 : BitVec 1 := Scalar.andi v884 v881
  let v886 : BitVec 32 := Scalar.addi v880 v879
  let v887 : BitVec 32 := Scalar.select v885 v886 v880
  let c1_i32_700 : BitVec 32 := 1#32
  let v889 : BitVec 32 := Scalar.muli v887 c1_i32_700
  let v890 : BitVec 32 := Scalar.addi c0_i32_701 v889
  v890.toNat
def k0_dev45 (d0 : Dev nD) : Nat :=
  let c0_i32_719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_705 : BitVec 32 := 4#32
  let v898 : BitVec 32 := Scalar.addi v2 c4_i32_705
  let c32_i32_706 : BitVec 32 := 32#32
  let c0_i32_707 : BitVec 32 := 0#32
  let v899 : BitVec 1 := Scalar.cmpi .eq c32_i32_706 c0_i32_707
  let c1_i32_708 : BitVec 32 := 1#32
  let v900 : BitVec 32 := Scalar.select v899 c1_i32_708 c32_i32_706
  let v901 : BitVec 32 := Scalar.remsi v898 v900
  let c0_i32_710 : BitVec 32 := 0#32
  let v903 : BitVec 1 := Scalar.cmpi .slt v901 c0_i32_710
  let c0_i32_711 : BitVec 32 := 0#32
  let v904 : BitVec 1 := Scalar.cmpi .slt v900 c0_i32_711
  let v905 : BitVec 1 := Scalar.xori v903 v904
  let c0_i32_709 : BitVec 32 := 0#32
  let v902 : BitVec 1 := Scalar.cmpi .ne v901 c0_i32_709
  let v906 : BitVec 1 := Scalar.andi v905 v902
  let v907 : BitVec 32 := Scalar.addi v901 v900
  let v908 : BitVec 32 := Scalar.select v906 v907 v901
  let c1_i32_718 : BitVec 32 := 1#32
  let v910 : BitVec 32 := Scalar.muli v908 c1_i32_718
  let v911 : BitVec 32 := Scalar.addi c0_i32_719 v910
  v911.toNat
def k0_dev46 (d0 : Dev nD) : Nat :=
  let c0_i32_737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_723 : BitVec 32 := 5#32
  let v919 : BitVec 32 := Scalar.addi v2 c5_i32_723
  let c32_i32_724 : BitVec 32 := 32#32
  let c0_i32_725 : BitVec 32 := 0#32
  let v920 : BitVec 1 := Scalar.cmpi .eq c32_i32_724 c0_i32_725
  let c1_i32_726 : BitVec 32 := 1#32
  let v921 : BitVec 32 := Scalar.select v920 c1_i32_726 c32_i32_724
  let v922 : BitVec 32 := Scalar.remsi v919 v921
  let c0_i32_728 : BitVec 32 := 0#32
  let v924 : BitVec 1 := Scalar.cmpi .slt v922 c0_i32_728
  let c0_i32_729 : BitVec 32 := 0#32
  let v925 : BitVec 1 := Scalar.cmpi .slt v921 c0_i32_729
  let v926 : BitVec 1 := Scalar.xori v924 v925
  let c0_i32_727 : BitVec 32 := 0#32
  let v923 : BitVec 1 := Scalar.cmpi .ne v922 c0_i32_727
  let v927 : BitVec 1 := Scalar.andi v926 v923
  let v928 : BitVec 32 := Scalar.addi v922 v921
  let v929 : BitVec 32 := Scalar.select v927 v928 v922
  let c1_i32_736 : BitVec 32 := 1#32
  let v931 : BitVec 32 := Scalar.muli v929 c1_i32_736
  let v932 : BitVec 32 := Scalar.addi c0_i32_737 v931
  v932.toNat
def k0_dev47 (d0 : Dev nD) : Nat :=
  let c0_i32_755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_741 : BitVec 32 := 6#32
  let v940 : BitVec 32 := Scalar.addi v2 c6_i32_741
  let c32_i32_742 : BitVec 32 := 32#32
  let c0_i32_743 : BitVec 32 := 0#32
  let v941 : BitVec 1 := Scalar.cmpi .eq c32_i32_742 c0_i32_743
  let c1_i32_744 : BitVec 32 := 1#32
  let v942 : BitVec 32 := Scalar.select v941 c1_i32_744 c32_i32_742
  let v943 : BitVec 32 := Scalar.remsi v940 v942
  let c0_i32_746 : BitVec 32 := 0#32
  let v945 : BitVec 1 := Scalar.cmpi .slt v943 c0_i32_746
  let c0_i32_747 : BitVec 32 := 0#32
  let v946 : BitVec 1 := Scalar.cmpi .slt v942 c0_i32_747
  let v947 : BitVec 1 := Scalar.xori v945 v946
  let c0_i32_745 : BitVec 32 := 0#32
  let v944 : BitVec 1 := Scalar.cmpi .ne v943 c0_i32_745
  let v948 : BitVec 1 := Scalar.andi v947 v944
  let v949 : BitVec 32 := Scalar.addi v943 v942
  let v950 : BitVec 32 := Scalar.select v948 v949 v943
  let c1_i32_754 : BitVec 32 := 1#32
  let v952 : BitVec 32 := Scalar.muli v950 c1_i32_754
  let v953 : BitVec 32 := Scalar.addi c0_i32_755 v952
  v953.toNat
def k0_dev48 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_759 : BitVec 32 := 7#32
  let v961 : BitVec 32 := Scalar.addi v2 c7_i32_759
  let c32_i32_760 : BitVec 32 := 32#32
  let c0_i32_761 : BitVec 32 := 0#32
  let v962 : BitVec 1 := Scalar.cmpi .eq c32_i32_760 c0_i32_761
  let c1_i32_762 : BitVec 32 := 1#32
  let v963 : BitVec 32 := Scalar.select v962 c1_i32_762 c32_i32_760
  let v964 : BitVec 32 := Scalar.remsi v961 v963
  let c0_i32_764 : BitVec 32 := 0#32
  let v966 : BitVec 1 := Scalar.cmpi .slt v964 c0_i32_764
  let c0_i32_765 : BitVec 32 := 0#32
  let v967 : BitVec 1 := Scalar.cmpi .slt v963 c0_i32_765
  let v968 : BitVec 1 := Scalar.xori v966 v967
  let c0_i32_763 : BitVec 32 := 0#32
  let v965 : BitVec 1 := Scalar.cmpi .ne v964 c0_i32_763
  let v969 : BitVec 1 := Scalar.andi v968 v965
  let v970 : BitVec 32 := Scalar.addi v964 v963
  let v971 : BitVec 32 := Scalar.select v969 v970 v964
  let c1_i32_772 : BitVec 32 := 1#32
  let v973 : BitVec 32 := Scalar.muli v971 c1_i32_772
  let v974 : BitVec 32 := Scalar.addi c0_i32_773 v973
  v974.toNat
def k0_dev49 (d0 : Dev nD) : Nat :=
  let c0_i32_791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_777 : BitVec 32 := 8#32
  let v982 : BitVec 32 := Scalar.addi v2 c8_i32_777
  let c32_i32_778 : BitVec 32 := 32#32
  let c0_i32_779 : BitVec 32 := 0#32
  let v983 : BitVec 1 := Scalar.cmpi .eq c32_i32_778 c0_i32_779
  let c1_i32_780 : BitVec 32 := 1#32
  let v984 : BitVec 32 := Scalar.select v983 c1_i32_780 c32_i32_778
  let v985 : BitVec 32 := Scalar.remsi v982 v984
  let c0_i32_782 : BitVec 32 := 0#32
  let v987 : BitVec 1 := Scalar.cmpi .slt v985 c0_i32_782
  let c0_i32_783 : BitVec 32 := 0#32
  let v988 : BitVec 1 := Scalar.cmpi .slt v984 c0_i32_783
  let v989 : BitVec 1 := Scalar.xori v987 v988
  let c0_i32_781 : BitVec 32 := 0#32
  let v986 : BitVec 1 := Scalar.cmpi .ne v985 c0_i32_781
  let v990 : BitVec 1 := Scalar.andi v989 v986
  let v991 : BitVec 32 := Scalar.addi v985 v984
  let v992 : BitVec 32 := Scalar.select v990 v991 v985
  let c1_i32_790 : BitVec 32 := 1#32
  let v994 : BitVec 32 := Scalar.muli v992 c1_i32_790
  let v995 : BitVec 32 := Scalar.addi c0_i32_791 v994
  v995.toNat
def k0_dev50 (d0 : Dev nD) : Nat :=
  let c0_i32_809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_795 : BitVec 32 := 9#32
  let v1003 : BitVec 32 := Scalar.addi v2 c9_i32_795
  let c32_i32_796 : BitVec 32 := 32#32
  let c0_i32_797 : BitVec 32 := 0#32
  let v1004 : BitVec 1 := Scalar.cmpi .eq c32_i32_796 c0_i32_797
  let c1_i32_798 : BitVec 32 := 1#32
  let v1005 : BitVec 32 := Scalar.select v1004 c1_i32_798 c32_i32_796
  let v1006 : BitVec 32 := Scalar.remsi v1003 v1005
  let c0_i32_800 : BitVec 32 := 0#32
  let v1008 : BitVec 1 := Scalar.cmpi .slt v1006 c0_i32_800
  let c0_i32_801 : BitVec 32 := 0#32
  let v1009 : BitVec 1 := Scalar.cmpi .slt v1005 c0_i32_801
  let v1010 : BitVec 1 := Scalar.xori v1008 v1009
  let c0_i32_799 : BitVec 32 := 0#32
  let v1007 : BitVec 1 := Scalar.cmpi .ne v1006 c0_i32_799
  let v1011 : BitVec 1 := Scalar.andi v1010 v1007
  let v1012 : BitVec 32 := Scalar.addi v1006 v1005
  let v1013 : BitVec 32 := Scalar.select v1011 v1012 v1006
  let c1_i32_808 : BitVec 32 := 1#32
  let v1015 : BitVec 32 := Scalar.muli v1013 c1_i32_808
  let v1016 : BitVec 32 := Scalar.addi c0_i32_809 v1015
  v1016.toNat
def k0_dev51 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_813 : BitVec 32 := 10#32
  let v1024 : BitVec 32 := Scalar.addi v2 c10_i32_813
  let c32_i32_814 : BitVec 32 := 32#32
  let c0_i32_815 : BitVec 32 := 0#32
  let v1025 : BitVec 1 := Scalar.cmpi .eq c32_i32_814 c0_i32_815
  let c1_i32_816 : BitVec 32 := 1#32
  let v1026 : BitVec 32 := Scalar.select v1025 c1_i32_816 c32_i32_814
  let v1027 : BitVec 32 := Scalar.remsi v1024 v1026
  let c0_i32_818 : BitVec 32 := 0#32
  let v1029 : BitVec 1 := Scalar.cmpi .slt v1027 c0_i32_818
  let c0_i32_819 : BitVec 32 := 0#32
  let v1030 : BitVec 1 := Scalar.cmpi .slt v1026 c0_i32_819
  let v1031 : BitVec 1 := Scalar.xori v1029 v1030
  let c0_i32_817 : BitVec 32 := 0#32
  let v1028 : BitVec 1 := Scalar.cmpi .ne v1027 c0_i32_817
  let v1032 : BitVec 1 := Scalar.andi v1031 v1028
  let v1033 : BitVec 32 := Scalar.addi v1027 v1026
  let v1034 : BitVec 32 := Scalar.select v1032 v1033 v1027
  let c1_i32_826 : BitVec 32 := 1#32
  let v1036 : BitVec 32 := Scalar.muli v1034 c1_i32_826
  let v1037 : BitVec 32 := Scalar.addi c0_i32_827 v1036
  v1037.toNat
def k0_dev52 (d0 : Dev nD) : Nat :=
  let c0_i32_845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_831 : BitVec 32 := 11#32
  let v1045 : BitVec 32 := Scalar.addi v2 c11_i32_831
  let c32_i32_832 : BitVec 32 := 32#32
  let c0_i32_833 : BitVec 32 := 0#32
  let v1046 : BitVec 1 := Scalar.cmpi .eq c32_i32_832 c0_i32_833
  let c1_i32_834 : BitVec 32 := 1#32
  let v1047 : BitVec 32 := Scalar.select v1046 c1_i32_834 c32_i32_832
  let v1048 : BitVec 32 := Scalar.remsi v1045 v1047
  let c0_i32_836 : BitVec 32 := 0#32
  let v1050 : BitVec 1 := Scalar.cmpi .slt v1048 c0_i32_836
  let c0_i32_837 : BitVec 32 := 0#32
  let v1051 : BitVec 1 := Scalar.cmpi .slt v1047 c0_i32_837
  let v1052 : BitVec 1 := Scalar.xori v1050 v1051
  let c0_i32_835 : BitVec 32 := 0#32
  let v1049 : BitVec 1 := Scalar.cmpi .ne v1048 c0_i32_835
  let v1053 : BitVec 1 := Scalar.andi v1052 v1049
  let v1054 : BitVec 32 := Scalar.addi v1048 v1047
  let v1055 : BitVec 32 := Scalar.select v1053 v1054 v1048
  let c1_i32_844 : BitVec 32 := 1#32
  let v1057 : BitVec 32 := Scalar.muli v1055 c1_i32_844
  let v1058 : BitVec 32 := Scalar.addi c0_i32_845 v1057
  v1058.toNat
def k0_dev53 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_849 : BitVec 32 := 12#32
  let v1066 : BitVec 32 := Scalar.addi v2 c12_i32_849
  let c32_i32_850 : BitVec 32 := 32#32
  let c0_i32_851 : BitVec 32 := 0#32
  let v1067 : BitVec 1 := Scalar.cmpi .eq c32_i32_850 c0_i32_851
  let c1_i32_852 : BitVec 32 := 1#32
  let v1068 : BitVec 32 := Scalar.select v1067 c1_i32_852 c32_i32_850
  let v1069 : BitVec 32 := Scalar.remsi v1066 v1068
  let c0_i32_854 : BitVec 32 := 0#32
  let v1071 : BitVec 1 := Scalar.cmpi .slt v1069 c0_i32_854
  let c0_i32_855 : BitVec 32 := 0#32
  let v1072 : BitVec 1 := Scalar.cmpi .slt v1068 c0_i32_855
  let v1073 : BitVec 1 := Scalar.xori v1071 v1072
  let c0_i32_853 : BitVec 32 := 0#32
  let v1070 : BitVec 1 := Scalar.cmpi .ne v1069 c0_i32_853
  let v1074 : BitVec 1 := Scalar.andi v1073 v1070
  let v1075 : BitVec 32 := Scalar.addi v1069 v1068
  let v1076 : BitVec 32 := Scalar.select v1074 v1075 v1069
  let c1_i32_862 : BitVec 32 := 1#32
  let v1078 : BitVec 32 := Scalar.muli v1076 c1_i32_862
  let v1079 : BitVec 32 := Scalar.addi c0_i32_863 v1078
  v1079.toNat
def k0_dev54 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_867 : BitVec 32 := 13#32
  let v1087 : BitVec 32 := Scalar.addi v2 c13_i32_867
  let c32_i32_868 : BitVec 32 := 32#32
  let c0_i32_869 : BitVec 32 := 0#32
  let v1088 : BitVec 1 := Scalar.cmpi .eq c32_i32_868 c0_i32_869
  let c1_i32_870 : BitVec 32 := 1#32
  let v1089 : BitVec 32 := Scalar.select v1088 c1_i32_870 c32_i32_868
  let v1090 : BitVec 32 := Scalar.remsi v1087 v1089
  let c0_i32_872 : BitVec 32 := 0#32
  let v1092 : BitVec 1 := Scalar.cmpi .slt v1090 c0_i32_872
  let c0_i32_873 : BitVec 32 := 0#32
  let v1093 : BitVec 1 := Scalar.cmpi .slt v1089 c0_i32_873
  let v1094 : BitVec 1 := Scalar.xori v1092 v1093
  let c0_i32_871 : BitVec 32 := 0#32
  let v1091 : BitVec 1 := Scalar.cmpi .ne v1090 c0_i32_871
  let v1095 : BitVec 1 := Scalar.andi v1094 v1091
  let v1096 : BitVec 32 := Scalar.addi v1090 v1089
  let v1097 : BitVec 32 := Scalar.select v1095 v1096 v1090
  let c1_i32_880 : BitVec 32 := 1#32
  let v1099 : BitVec 32 := Scalar.muli v1097 c1_i32_880
  let v1100 : BitVec 32 := Scalar.addi c0_i32_881 v1099
  v1100.toNat
def k0_dev55 (d0 : Dev nD) : Nat :=
  let c0_i32_899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_885 : BitVec 32 := 14#32
  let v1108 : BitVec 32 := Scalar.addi v2 c14_i32_885
  let c32_i32_886 : BitVec 32 := 32#32
  let c0_i32_887 : BitVec 32 := 0#32
  let v1109 : BitVec 1 := Scalar.cmpi .eq c32_i32_886 c0_i32_887
  let c1_i32_888 : BitVec 32 := 1#32
  let v1110 : BitVec 32 := Scalar.select v1109 c1_i32_888 c32_i32_886
  let v1111 : BitVec 32 := Scalar.remsi v1108 v1110
  let c0_i32_890 : BitVec 32 := 0#32
  let v1113 : BitVec 1 := Scalar.cmpi .slt v1111 c0_i32_890
  let c0_i32_891 : BitVec 32 := 0#32
  let v1114 : BitVec 1 := Scalar.cmpi .slt v1110 c0_i32_891
  let v1115 : BitVec 1 := Scalar.xori v1113 v1114
  let c0_i32_889 : BitVec 32 := 0#32
  let v1112 : BitVec 1 := Scalar.cmpi .ne v1111 c0_i32_889
  let v1116 : BitVec 1 := Scalar.andi v1115 v1112
  let v1117 : BitVec 32 := Scalar.addi v1111 v1110
  let v1118 : BitVec 32 := Scalar.select v1116 v1117 v1111
  let c1_i32_898 : BitVec 32 := 1#32
  let v1120 : BitVec 32 := Scalar.muli v1118 c1_i32_898
  let v1121 : BitVec 32 := Scalar.addi c0_i32_899 v1120
  v1121.toNat
def k0_dev56 (d0 : Dev nD) : Nat :=
  let c0_i32_917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_903 : BitVec 32 := 15#32
  let v1129 : BitVec 32 := Scalar.addi v2 c15_i32_903
  let c32_i32_904 : BitVec 32 := 32#32
  let c0_i32_905 : BitVec 32 := 0#32
  let v1130 : BitVec 1 := Scalar.cmpi .eq c32_i32_904 c0_i32_905
  let c1_i32_906 : BitVec 32 := 1#32
  let v1131 : BitVec 32 := Scalar.select v1130 c1_i32_906 c32_i32_904
  let v1132 : BitVec 32 := Scalar.remsi v1129 v1131
  let c0_i32_908 : BitVec 32 := 0#32
  let v1134 : BitVec 1 := Scalar.cmpi .slt v1132 c0_i32_908
  let c0_i32_909 : BitVec 32 := 0#32
  let v1135 : BitVec 1 := Scalar.cmpi .slt v1131 c0_i32_909
  let v1136 : BitVec 1 := Scalar.xori v1134 v1135
  let c0_i32_907 : BitVec 32 := 0#32
  let v1133 : BitVec 1 := Scalar.cmpi .ne v1132 c0_i32_907
  let v1137 : BitVec 1 := Scalar.andi v1136 v1133
  let v1138 : BitVec 32 := Scalar.addi v1132 v1131
  let v1139 : BitVec 32 := Scalar.select v1137 v1138 v1132
  let c1_i32_916 : BitVec 32 := 1#32
  let v1141 : BitVec 32 := Scalar.muli v1139 c1_i32_916
  let v1142 : BitVec 32 := Scalar.addi c0_i32_917 v1141
  v1142.toNat
def k0_dev57 (d0 : Dev nD) : Nat :=
  let c0_i32_935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_921 : BitVec 32 := 16#32
  let v1150 : BitVec 32 := Scalar.addi v2 c16_i32_921
  let c32_i32_922 : BitVec 32 := 32#32
  let c0_i32_923 : BitVec 32 := 0#32
  let v1151 : BitVec 1 := Scalar.cmpi .eq c32_i32_922 c0_i32_923
  let c1_i32_924 : BitVec 32 := 1#32
  let v1152 : BitVec 32 := Scalar.select v1151 c1_i32_924 c32_i32_922
  let v1153 : BitVec 32 := Scalar.remsi v1150 v1152
  let c0_i32_926 : BitVec 32 := 0#32
  let v1155 : BitVec 1 := Scalar.cmpi .slt v1153 c0_i32_926
  let c0_i32_927 : BitVec 32 := 0#32
  let v1156 : BitVec 1 := Scalar.cmpi .slt v1152 c0_i32_927
  let v1157 : BitVec 1 := Scalar.xori v1155 v1156
  let c0_i32_925 : BitVec 32 := 0#32
  let v1154 : BitVec 1 := Scalar.cmpi .ne v1153 c0_i32_925
  let v1158 : BitVec 1 := Scalar.andi v1157 v1154
  let v1159 : BitVec 32 := Scalar.addi v1153 v1152
  let v1160 : BitVec 32 := Scalar.select v1158 v1159 v1153
  let c1_i32_934 : BitVec 32 := 1#32
  let v1162 : BitVec 32 := Scalar.muli v1160 c1_i32_934
  let v1163 : BitVec 32 := Scalar.addi c0_i32_935 v1162
  v1163.toNat
def k0_dev58 (d0 : Dev nD) : Nat :=
  let c0_i32_953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_939 : BitVec 32 := 17#32
  let v1171 : BitVec 32 := Scalar.addi v2 c17_i32_939
  let c32_i32_940 : BitVec 32 := 32#32
  let c0_i32_941 : BitVec 32 := 0#32
  let v1172 : BitVec 1 := Scalar.cmpi .eq c32_i32_940 c0_i32_941
  let c1_i32_942 : BitVec 32 := 1#32
  let v1173 : BitVec 32 := Scalar.select v1172 c1_i32_942 c32_i32_940
  let v1174 : BitVec 32 := Scalar.remsi v1171 v1173
  let c0_i32_944 : BitVec 32 := 0#32
  let v1176 : BitVec 1 := Scalar.cmpi .slt v1174 c0_i32_944
  let c0_i32_945 : BitVec 32 := 0#32
  let v1177 : BitVec 1 := Scalar.cmpi .slt v1173 c0_i32_945
  let v1178 : BitVec 1 := Scalar.xori v1176 v1177
  let c0_i32_943 : BitVec 32 := 0#32
  let v1175 : BitVec 1 := Scalar.cmpi .ne v1174 c0_i32_943
  let v1179 : BitVec 1 := Scalar.andi v1178 v1175
  let v1180 : BitVec 32 := Scalar.addi v1174 v1173
  let v1181 : BitVec 32 := Scalar.select v1179 v1180 v1174
  let c1_i32_952 : BitVec 32 := 1#32
  let v1183 : BitVec 32 := Scalar.muli v1181 c1_i32_952
  let v1184 : BitVec 32 := Scalar.addi c0_i32_953 v1183
  v1184.toNat
def k0_dev59 (d0 : Dev nD) : Nat :=
  let c0_i32_971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_957 : BitVec 32 := 18#32
  let v1192 : BitVec 32 := Scalar.addi v2 c18_i32_957
  let c32_i32_958 : BitVec 32 := 32#32
  let c0_i32_959 : BitVec 32 := 0#32
  let v1193 : BitVec 1 := Scalar.cmpi .eq c32_i32_958 c0_i32_959
  let c1_i32_960 : BitVec 32 := 1#32
  let v1194 : BitVec 32 := Scalar.select v1193 c1_i32_960 c32_i32_958
  let v1195 : BitVec 32 := Scalar.remsi v1192 v1194
  let c0_i32_962 : BitVec 32 := 0#32
  let v1197 : BitVec 1 := Scalar.cmpi .slt v1195 c0_i32_962
  let c0_i32_963 : BitVec 32 := 0#32
  let v1198 : BitVec 1 := Scalar.cmpi .slt v1194 c0_i32_963
  let v1199 : BitVec 1 := Scalar.xori v1197 v1198
  let c0_i32_961 : BitVec 32 := 0#32
  let v1196 : BitVec 1 := Scalar.cmpi .ne v1195 c0_i32_961
  let v1200 : BitVec 1 := Scalar.andi v1199 v1196
  let v1201 : BitVec 32 := Scalar.addi v1195 v1194
  let v1202 : BitVec 32 := Scalar.select v1200 v1201 v1195
  let c1_i32_970 : BitVec 32 := 1#32
  let v1204 : BitVec 32 := Scalar.muli v1202 c1_i32_970
  let v1205 : BitVec 32 := Scalar.addi c0_i32_971 v1204
  v1205.toNat
def k0_dev60 (d0 : Dev nD) : Nat :=
  let c0_i32_989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_975 : BitVec 32 := 19#32
  let v1213 : BitVec 32 := Scalar.addi v2 c19_i32_975
  let c32_i32_976 : BitVec 32 := 32#32
  let c0_i32_977 : BitVec 32 := 0#32
  let v1214 : BitVec 1 := Scalar.cmpi .eq c32_i32_976 c0_i32_977
  let c1_i32_978 : BitVec 32 := 1#32
  let v1215 : BitVec 32 := Scalar.select v1214 c1_i32_978 c32_i32_976
  let v1216 : BitVec 32 := Scalar.remsi v1213 v1215
  let c0_i32_980 : BitVec 32 := 0#32
  let v1218 : BitVec 1 := Scalar.cmpi .slt v1216 c0_i32_980
  let c0_i32_981 : BitVec 32 := 0#32
  let v1219 : BitVec 1 := Scalar.cmpi .slt v1215 c0_i32_981
  let v1220 : BitVec 1 := Scalar.xori v1218 v1219
  let c0_i32_979 : BitVec 32 := 0#32
  let v1217 : BitVec 1 := Scalar.cmpi .ne v1216 c0_i32_979
  let v1221 : BitVec 1 := Scalar.andi v1220 v1217
  let v1222 : BitVec 32 := Scalar.addi v1216 v1215
  let v1223 : BitVec 32 := Scalar.select v1221 v1222 v1216
  let c1_i32_988 : BitVec 32 := 1#32
  let v1225 : BitVec 32 := Scalar.muli v1223 c1_i32_988
  let v1226 : BitVec 32 := Scalar.addi c0_i32_989 v1225
  v1226.toNat
def k0_dev61 (d0 : Dev nD) : Nat :=
  let c0_i32_1007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_993 : BitVec 32 := 20#32
  let v1234 : BitVec 32 := Scalar.addi v2 c20_i32_993
  let c32_i32_994 : BitVec 32 := 32#32
  let c0_i32_995 : BitVec 32 := 0#32
  let v1235 : BitVec 1 := Scalar.cmpi .eq c32_i32_994 c0_i32_995
  let c1_i32_996 : BitVec 32 := 1#32
  let v1236 : BitVec 32 := Scalar.select v1235 c1_i32_996 c32_i32_994
  let v1237 : BitVec 32 := Scalar.remsi v1234 v1236
  let c0_i32_998 : BitVec 32 := 0#32
  let v1239 : BitVec 1 := Scalar.cmpi .slt v1237 c0_i32_998
  let c0_i32_999 : BitVec 32 := 0#32
  let v1240 : BitVec 1 := Scalar.cmpi .slt v1236 c0_i32_999
  let v1241 : BitVec 1 := Scalar.xori v1239 v1240
  let c0_i32_997 : BitVec 32 := 0#32
  let v1238 : BitVec 1 := Scalar.cmpi .ne v1237 c0_i32_997
  let v1242 : BitVec 1 := Scalar.andi v1241 v1238
  let v1243 : BitVec 32 := Scalar.addi v1237 v1236
  let v1244 : BitVec 32 := Scalar.select v1242 v1243 v1237
  let c1_i32_1006 : BitVec 32 := 1#32
  let v1246 : BitVec 32 := Scalar.muli v1244 c1_i32_1006
  let v1247 : BitVec 32 := Scalar.addi c0_i32_1007 v1246
  v1247.toNat
def k0_dev62 (d0 : Dev nD) : Nat :=
  let c0_i32_1025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1011 : BitVec 32 := 21#32
  let v1255 : BitVec 32 := Scalar.addi v2 c21_i32_1011
  let c32_i32_1012 : BitVec 32 := 32#32
  let c0_i32_1013 : BitVec 32 := 0#32
  let v1256 : BitVec 1 := Scalar.cmpi .eq c32_i32_1012 c0_i32_1013
  let c1_i32_1014 : BitVec 32 := 1#32
  let v1257 : BitVec 32 := Scalar.select v1256 c1_i32_1014 c32_i32_1012
  let v1258 : BitVec 32 := Scalar.remsi v1255 v1257
  let c0_i32_1016 : BitVec 32 := 0#32
  let v1260 : BitVec 1 := Scalar.cmpi .slt v1258 c0_i32_1016
  let c0_i32_1017 : BitVec 32 := 0#32
  let v1261 : BitVec 1 := Scalar.cmpi .slt v1257 c0_i32_1017
  let v1262 : BitVec 1 := Scalar.xori v1260 v1261
  let c0_i32_1015 : BitVec 32 := 0#32
  let v1259 : BitVec 1 := Scalar.cmpi .ne v1258 c0_i32_1015
  let v1263 : BitVec 1 := Scalar.andi v1262 v1259
  let v1264 : BitVec 32 := Scalar.addi v1258 v1257
  let v1265 : BitVec 32 := Scalar.select v1263 v1264 v1258
  let c1_i32_1024 : BitVec 32 := 1#32
  let v1267 : BitVec 32 := Scalar.muli v1265 c1_i32_1024
  let v1268 : BitVec 32 := Scalar.addi c0_i32_1025 v1267
  v1268.toNat
def k0_dev63 (d0 : Dev nD) : Nat :=
  let c0_i32_1043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1029 : BitVec 32 := 22#32
  let v1276 : BitVec 32 := Scalar.addi v2 c22_i32_1029
  let c32_i32_1030 : BitVec 32 := 32#32
  let c0_i32_1031 : BitVec 32 := 0#32
  let v1277 : BitVec 1 := Scalar.cmpi .eq c32_i32_1030 c0_i32_1031
  let c1_i32_1032 : BitVec 32 := 1#32
  let v1278 : BitVec 32 := Scalar.select v1277 c1_i32_1032 c32_i32_1030
  let v1279 : BitVec 32 := Scalar.remsi v1276 v1278
  let c0_i32_1034 : BitVec 32 := 0#32
  let v1281 : BitVec 1 := Scalar.cmpi .slt v1279 c0_i32_1034
  let c0_i32_1035 : BitVec 32 := 0#32
  let v1282 : BitVec 1 := Scalar.cmpi .slt v1278 c0_i32_1035
  let v1283 : BitVec 1 := Scalar.xori v1281 v1282
  let c0_i32_1033 : BitVec 32 := 0#32
  let v1280 : BitVec 1 := Scalar.cmpi .ne v1279 c0_i32_1033
  let v1284 : BitVec 1 := Scalar.andi v1283 v1280
  let v1285 : BitVec 32 := Scalar.addi v1279 v1278
  let v1286 : BitVec 32 := Scalar.select v1284 v1285 v1279
  let c1_i32_1042 : BitVec 32 := 1#32
  let v1288 : BitVec 32 := Scalar.muli v1286 c1_i32_1042
  let v1289 : BitVec 32 := Scalar.addi c0_i32_1043 v1288
  v1289.toNat
def k0_dev64 (d0 : Dev nD) : Nat :=
  let c0_i32_1061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1047 : BitVec 32 := 23#32
  let v1297 : BitVec 32 := Scalar.addi v2 c23_i32_1047
  let c32_i32_1048 : BitVec 32 := 32#32
  let c0_i32_1049 : BitVec 32 := 0#32
  let v1298 : BitVec 1 := Scalar.cmpi .eq c32_i32_1048 c0_i32_1049
  let c1_i32_1050 : BitVec 32 := 1#32
  let v1299 : BitVec 32 := Scalar.select v1298 c1_i32_1050 c32_i32_1048
  let v1300 : BitVec 32 := Scalar.remsi v1297 v1299
  let c0_i32_1052 : BitVec 32 := 0#32
  let v1302 : BitVec 1 := Scalar.cmpi .slt v1300 c0_i32_1052
  let c0_i32_1053 : BitVec 32 := 0#32
  let v1303 : BitVec 1 := Scalar.cmpi .slt v1299 c0_i32_1053
  let v1304 : BitVec 1 := Scalar.xori v1302 v1303
  let c0_i32_1051 : BitVec 32 := 0#32
  let v1301 : BitVec 1 := Scalar.cmpi .ne v1300 c0_i32_1051
  let v1305 : BitVec 1 := Scalar.andi v1304 v1301
  let v1306 : BitVec 32 := Scalar.addi v1300 v1299
  let v1307 : BitVec 32 := Scalar.select v1305 v1306 v1300
  let c1_i32_1060 : BitVec 32 := 1#32
  let v1309 : BitVec 32 := Scalar.muli v1307 c1_i32_1060
  let v1310 : BitVec 32 := Scalar.addi c0_i32_1061 v1309
  v1310.toNat
def k0_dev65 (d0 : Dev nD) : Nat :=
  let c0_i32_1079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1065 : BitVec 32 := 24#32
  let v1318 : BitVec 32 := Scalar.addi v2 c24_i32_1065
  let c32_i32_1066 : BitVec 32 := 32#32
  let c0_i32_1067 : BitVec 32 := 0#32
  let v1319 : BitVec 1 := Scalar.cmpi .eq c32_i32_1066 c0_i32_1067
  let c1_i32_1068 : BitVec 32 := 1#32
  let v1320 : BitVec 32 := Scalar.select v1319 c1_i32_1068 c32_i32_1066
  let v1321 : BitVec 32 := Scalar.remsi v1318 v1320
  let c0_i32_1070 : BitVec 32 := 0#32
  let v1323 : BitVec 1 := Scalar.cmpi .slt v1321 c0_i32_1070
  let c0_i32_1071 : BitVec 32 := 0#32
  let v1324 : BitVec 1 := Scalar.cmpi .slt v1320 c0_i32_1071
  let v1325 : BitVec 1 := Scalar.xori v1323 v1324
  let c0_i32_1069 : BitVec 32 := 0#32
  let v1322 : BitVec 1 := Scalar.cmpi .ne v1321 c0_i32_1069
  let v1326 : BitVec 1 := Scalar.andi v1325 v1322
  let v1327 : BitVec 32 := Scalar.addi v1321 v1320
  let v1328 : BitVec 32 := Scalar.select v1326 v1327 v1321
  let c1_i32_1078 : BitVec 32 := 1#32
  let v1330 : BitVec 32 := Scalar.muli v1328 c1_i32_1078
  let v1331 : BitVec 32 := Scalar.addi c0_i32_1079 v1330
  v1331.toNat
def k0_dev66 (d0 : Dev nD) : Nat :=
  let c0_i32_1097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1083 : BitVec 32 := 25#32
  let v1339 : BitVec 32 := Scalar.addi v2 c25_i32_1083
  let c32_i32_1084 : BitVec 32 := 32#32
  let c0_i32_1085 : BitVec 32 := 0#32
  let v1340 : BitVec 1 := Scalar.cmpi .eq c32_i32_1084 c0_i32_1085
  let c1_i32_1086 : BitVec 32 := 1#32
  let v1341 : BitVec 32 := Scalar.select v1340 c1_i32_1086 c32_i32_1084
  let v1342 : BitVec 32 := Scalar.remsi v1339 v1341
  let c0_i32_1088 : BitVec 32 := 0#32
  let v1344 : BitVec 1 := Scalar.cmpi .slt v1342 c0_i32_1088
  let c0_i32_1089 : BitVec 32 := 0#32
  let v1345 : BitVec 1 := Scalar.cmpi .slt v1341 c0_i32_1089
  let v1346 : BitVec 1 := Scalar.xori v1344 v1345
  let c0_i32_1087 : BitVec 32 := 0#32
  let v1343 : BitVec 1 := Scalar.cmpi .ne v1342 c0_i32_1087
  let v1347 : BitVec 1 := Scalar.andi v1346 v1343
  let v1348 : BitVec 32 := Scalar.addi v1342 v1341
  let v1349 : BitVec 32 := Scalar.select v1347 v1348 v1342
  let c1_i32_1096 : BitVec 32 := 1#32
  let v1351 : BitVec 32 := Scalar.muli v1349 c1_i32_1096
  let v1352 : BitVec 32 := Scalar.addi c0_i32_1097 v1351
  v1352.toNat
def k0_dev67 (d0 : Dev nD) : Nat :=
  let c0_i32_1115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1101 : BitVec 32 := 26#32
  let v1360 : BitVec 32 := Scalar.addi v2 c26_i32_1101
  let c32_i32_1102 : BitVec 32 := 32#32
  let c0_i32_1103 : BitVec 32 := 0#32
  let v1361 : BitVec 1 := Scalar.cmpi .eq c32_i32_1102 c0_i32_1103
  let c1_i32_1104 : BitVec 32 := 1#32
  let v1362 : BitVec 32 := Scalar.select v1361 c1_i32_1104 c32_i32_1102
  let v1363 : BitVec 32 := Scalar.remsi v1360 v1362
  let c0_i32_1106 : BitVec 32 := 0#32
  let v1365 : BitVec 1 := Scalar.cmpi .slt v1363 c0_i32_1106
  let c0_i32_1107 : BitVec 32 := 0#32
  let v1366 : BitVec 1 := Scalar.cmpi .slt v1362 c0_i32_1107
  let v1367 : BitVec 1 := Scalar.xori v1365 v1366
  let c0_i32_1105 : BitVec 32 := 0#32
  let v1364 : BitVec 1 := Scalar.cmpi .ne v1363 c0_i32_1105
  let v1368 : BitVec 1 := Scalar.andi v1367 v1364
  let v1369 : BitVec 32 := Scalar.addi v1363 v1362
  let v1370 : BitVec 32 := Scalar.select v1368 v1369 v1363
  let c1_i32_1114 : BitVec 32 := 1#32
  let v1372 : BitVec 32 := Scalar.muli v1370 c1_i32_1114
  let v1373 : BitVec 32 := Scalar.addi c0_i32_1115 v1372
  v1373.toNat
def k0_dev68 (d0 : Dev nD) : Nat :=
  let c0_i32_1133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1119 : BitVec 32 := 27#32
  let v1381 : BitVec 32 := Scalar.addi v2 c27_i32_1119
  let c32_i32_1120 : BitVec 32 := 32#32
  let c0_i32_1121 : BitVec 32 := 0#32
  let v1382 : BitVec 1 := Scalar.cmpi .eq c32_i32_1120 c0_i32_1121
  let c1_i32_1122 : BitVec 32 := 1#32
  let v1383 : BitVec 32 := Scalar.select v1382 c1_i32_1122 c32_i32_1120
  let v1384 : BitVec 32 := Scalar.remsi v1381 v1383
  let c0_i32_1124 : BitVec 32 := 0#32
  let v1386 : BitVec 1 := Scalar.cmpi .slt v1384 c0_i32_1124
  let c0_i32_1125 : BitVec 32 := 0#32
  let v1387 : BitVec 1 := Scalar.cmpi .slt v1383 c0_i32_1125
  let v1388 : BitVec 1 := Scalar.xori v1386 v1387
  let c0_i32_1123 : BitVec 32 := 0#32
  let v1385 : BitVec 1 := Scalar.cmpi .ne v1384 c0_i32_1123
  let v1389 : BitVec 1 := Scalar.andi v1388 v1385
  let v1390 : BitVec 32 := Scalar.addi v1384 v1383
  let v1391 : BitVec 32 := Scalar.select v1389 v1390 v1384
  let c1_i32_1132 : BitVec 32 := 1#32
  let v1393 : BitVec 32 := Scalar.muli v1391 c1_i32_1132
  let v1394 : BitVec 32 := Scalar.addi c0_i32_1133 v1393
  v1394.toNat
def k0_dev69 (d0 : Dev nD) : Nat :=
  let c0_i32_1151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1137 : BitVec 32 := 28#32
  let v1402 : BitVec 32 := Scalar.addi v2 c28_i32_1137
  let c32_i32_1138 : BitVec 32 := 32#32
  let c0_i32_1139 : BitVec 32 := 0#32
  let v1403 : BitVec 1 := Scalar.cmpi .eq c32_i32_1138 c0_i32_1139
  let c1_i32_1140 : BitVec 32 := 1#32
  let v1404 : BitVec 32 := Scalar.select v1403 c1_i32_1140 c32_i32_1138
  let v1405 : BitVec 32 := Scalar.remsi v1402 v1404
  let c0_i32_1142 : BitVec 32 := 0#32
  let v1407 : BitVec 1 := Scalar.cmpi .slt v1405 c0_i32_1142
  let c0_i32_1143 : BitVec 32 := 0#32
  let v1408 : BitVec 1 := Scalar.cmpi .slt v1404 c0_i32_1143
  let v1409 : BitVec 1 := Scalar.xori v1407 v1408
  let c0_i32_1141 : BitVec 32 := 0#32
  let v1406 : BitVec 1 := Scalar.cmpi .ne v1405 c0_i32_1141
  let v1410 : BitVec 1 := Scalar.andi v1409 v1406
  let v1411 : BitVec 32 := Scalar.addi v1405 v1404
  let v1412 : BitVec 32 := Scalar.select v1410 v1411 v1405
  let c1_i32_1150 : BitVec 32 := 1#32
  let v1414 : BitVec 32 := Scalar.muli v1412 c1_i32_1150
  let v1415 : BitVec 32 := Scalar.addi c0_i32_1151 v1414
  v1415.toNat
def k0_dev70 (d0 : Dev nD) : Nat :=
  let c0_i32_1169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1155 : BitVec 32 := 29#32
  let v1423 : BitVec 32 := Scalar.addi v2 c29_i32_1155
  let c32_i32_1156 : BitVec 32 := 32#32
  let c0_i32_1157 : BitVec 32 := 0#32
  let v1424 : BitVec 1 := Scalar.cmpi .eq c32_i32_1156 c0_i32_1157
  let c1_i32_1158 : BitVec 32 := 1#32
  let v1425 : BitVec 32 := Scalar.select v1424 c1_i32_1158 c32_i32_1156
  let v1426 : BitVec 32 := Scalar.remsi v1423 v1425
  let c0_i32_1160 : BitVec 32 := 0#32
  let v1428 : BitVec 1 := Scalar.cmpi .slt v1426 c0_i32_1160
  let c0_i32_1161 : BitVec 32 := 0#32
  let v1429 : BitVec 1 := Scalar.cmpi .slt v1425 c0_i32_1161
  let v1430 : BitVec 1 := Scalar.xori v1428 v1429
  let c0_i32_1159 : BitVec 32 := 0#32
  let v1427 : BitVec 1 := Scalar.cmpi .ne v1426 c0_i32_1159
  let v1431 : BitVec 1 := Scalar.andi v1430 v1427
  let v1432 : BitVec 32 := Scalar.addi v1426 v1425
  let v1433 : BitVec 32 := Scalar.select v1431 v1432 v1426
  let c1_i32_1168 : BitVec 32 := 1#32
  let v1435 : BitVec 32 := Scalar.muli v1433 c1_i32_1168
  let v1436 : BitVec 32 := Scalar.addi c0_i32_1169 v1435
  v1436.toNat
def k0_dev71 (d0 : Dev nD) : Nat :=
  let c0_i32_1187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1173 : BitVec 32 := 30#32
  let v1444 : BitVec 32 := Scalar.addi v2 c30_i32_1173
  let c32_i32_1174 : BitVec 32 := 32#32
  let c0_i32_1175 : BitVec 32 := 0#32
  let v1445 : BitVec 1 := Scalar.cmpi .eq c32_i32_1174 c0_i32_1175
  let c1_i32_1176 : BitVec 32 := 1#32
  let v1446 : BitVec 32 := Scalar.select v1445 c1_i32_1176 c32_i32_1174
  let v1447 : BitVec 32 := Scalar.remsi v1444 v1446
  let c0_i32_1178 : BitVec 32 := 0#32
  let v1449 : BitVec 1 := Scalar.cmpi .slt v1447 c0_i32_1178
  let c0_i32_1179 : BitVec 32 := 0#32
  let v1450 : BitVec 1 := Scalar.cmpi .slt v1446 c0_i32_1179
  let v1451 : BitVec 1 := Scalar.xori v1449 v1450
  let c0_i32_1177 : BitVec 32 := 0#32
  let v1448 : BitVec 1 := Scalar.cmpi .ne v1447 c0_i32_1177
  let v1452 : BitVec 1 := Scalar.andi v1451 v1448
  let v1453 : BitVec 32 := Scalar.addi v1447 v1446
  let v1454 : BitVec 32 := Scalar.select v1452 v1453 v1447
  let c1_i32_1186 : BitVec 32 := 1#32
  let v1456 : BitVec 32 := Scalar.muli v1454 c1_i32_1186
  let v1457 : BitVec 32 := Scalar.addi c0_i32_1187 v1456
  v1457.toNat
def k0_dev72 (d0 : Dev nD) : Nat :=
  let c0_i32_1205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1191 : BitVec 32 := 31#32
  let v1465 : BitVec 32 := Scalar.addi v2 c31_i32_1191
  let c32_i32_1192 : BitVec 32 := 32#32
  let c0_i32_1193 : BitVec 32 := 0#32
  let v1466 : BitVec 1 := Scalar.cmpi .eq c32_i32_1192 c0_i32_1193
  let c1_i32_1194 : BitVec 32 := 1#32
  let v1467 : BitVec 32 := Scalar.select v1466 c1_i32_1194 c32_i32_1192
  let v1468 : BitVec 32 := Scalar.remsi v1465 v1467
  let c0_i32_1196 : BitVec 32 := 0#32
  let v1470 : BitVec 1 := Scalar.cmpi .slt v1468 c0_i32_1196
  let c0_i32_1197 : BitVec 32 := 0#32
  let v1471 : BitVec 1 := Scalar.cmpi .slt v1467 c0_i32_1197
  let v1472 : BitVec 1 := Scalar.xori v1470 v1471
  let c0_i32_1195 : BitVec 32 := 0#32
  let v1469 : BitVec 1 := Scalar.cmpi .ne v1468 c0_i32_1195
  let v1473 : BitVec 1 := Scalar.andi v1472 v1469
  let v1474 : BitVec 32 := Scalar.addi v1468 v1467
  let v1475 : BitVec 32 := Scalar.select v1473 v1474 v1468
  let c1_i32_1204 : BitVec 32 := 1#32
  let v1477 : BitVec 32 := Scalar.muli v1475 c1_i32_1204
  let v1478 : BitVec 32 := Scalar.addi c0_i32_1205 v1477
  v1478.toNat
def k0_off3 (d0 : Dev nD) (c1_i32_1209 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1486 : BitVec 32 := Scalar.addi v2 c1_i32_1209
  let c32_i32_1210 : BitVec 32 := 32#32
  let c0_i32_1211 : BitVec 32 := 0#32
  let v1487 : BitVec 1 := Scalar.cmpi .eq c32_i32_1210 c0_i32_1211
  let c1_i32_1212 : BitVec 32 := 1#32
  let v1488 : BitVec 32 := Scalar.select v1487 c1_i32_1212 c32_i32_1210
  let v1489 : BitVec 32 := Scalar.remsi v1486 v1488
  let c0_i32_1214 : BitVec 32 := 0#32
  let v1491 : BitVec 1 := Scalar.cmpi .slt v1489 c0_i32_1214
  let c0_i32_1215 : BitVec 32 := 0#32
  let v1492 : BitVec 1 := Scalar.cmpi .slt v1488 c0_i32_1215
  let v1493 : BitVec 1 := Scalar.xori v1491 v1492
  let c0_i32_1213 : BitVec 32 := 0#32
  let v1490 : BitVec 1 := Scalar.cmpi .ne v1489 c0_i32_1213
  let v1494 : BitVec 1 := Scalar.andi v1493 v1490
  let v1495 : BitVec 32 := Scalar.addi v1489 v1488
  let v1496 : BitVec 32 := Scalar.select v1494 v1495 v1489
  let c24_i32_1216 : BitVec 32 := 24#32
  let v1497 : BitVec 32 := Scalar.muli v1496 c24_i32_1216
  let c512_i32_1225 : BitVec 32 := 512#32
  ![v1497.toNat, 512]
def k0_dev73 (d0 : Dev nD) : Nat :=
  let c0_i32_1223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1209 : BitVec 32 := 1#32
  let v1486 : BitVec 32 := Scalar.addi v2 c1_i32_1209
  let c32_i32_1210 : BitVec 32 := 32#32
  let c0_i32_1211 : BitVec 32 := 0#32
  let v1487 : BitVec 1 := Scalar.cmpi .eq c32_i32_1210 c0_i32_1211
  let c1_i32_1212 : BitVec 32 := 1#32
  let v1488 : BitVec 32 := Scalar.select v1487 c1_i32_1212 c32_i32_1210
  let v1489 : BitVec 32 := Scalar.remsi v1486 v1488
  let c0_i32_1214 : BitVec 32 := 0#32
  let v1491 : BitVec 1 := Scalar.cmpi .slt v1489 c0_i32_1214
  let c0_i32_1215 : BitVec 32 := 0#32
  let v1492 : BitVec 1 := Scalar.cmpi .slt v1488 c0_i32_1215
  let v1493 : BitVec 1 := Scalar.xori v1491 v1492
  let c0_i32_1213 : BitVec 32 := 0#32
  let v1490 : BitVec 1 := Scalar.cmpi .ne v1489 c0_i32_1213
  let v1494 : BitVec 1 := Scalar.andi v1493 v1490
  let v1495 : BitVec 32 := Scalar.addi v1489 v1488
  let v1496 : BitVec 32 := Scalar.select v1494 v1495 v1489
  let c1_i32_1222 : BitVec 32 := 1#32
  let v1498 : BitVec 32 := Scalar.muli v1496 c1_i32_1222
  let v1499 : BitVec 32 := Scalar.addi c0_i32_1223 v1498
  v1499.toNat
def k0_dev74 (d0 : Dev nD) : Nat :=
  let c0_i32_1240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1226 : BitVec 32 := 2#32
  let v1507 : BitVec 32 := Scalar.addi v2 c2_i32_1226
  let c32_i32_1227 : BitVec 32 := 32#32
  let c0_i32_1228 : BitVec 32 := 0#32
  let v1508 : BitVec 1 := Scalar.cmpi .eq c32_i32_1227 c0_i32_1228
  let c1_i32_1229 : BitVec 32 := 1#32
  let v1509 : BitVec 32 := Scalar.select v1508 c1_i32_1229 c32_i32_1227
  let v1510 : BitVec 32 := Scalar.remsi v1507 v1509
  let c0_i32_1231 : BitVec 32 := 0#32
  let v1512 : BitVec 1 := Scalar.cmpi .slt v1510 c0_i32_1231
  let c0_i32_1232 : BitVec 32 := 0#32
  let v1513 : BitVec 1 := Scalar.cmpi .slt v1509 c0_i32_1232
  let v1514 : BitVec 1 := Scalar.xori v1512 v1513
  let c0_i32_1230 : BitVec 32 := 0#32
  let v1511 : BitVec 1 := Scalar.cmpi .ne v1510 c0_i32_1230
  let v1515 : BitVec 1 := Scalar.andi v1514 v1511
  let v1516 : BitVec 32 := Scalar.addi v1510 v1509
  let v1517 : BitVec 32 := Scalar.select v1515 v1516 v1510
  let c1_i32_1239 : BitVec 32 := 1#32
  let v1519 : BitVec 32 := Scalar.muli v1517 c1_i32_1239
  let v1520 : BitVec 32 := Scalar.addi c0_i32_1240 v1519
  v1520.toNat
def k0_dev75 (d0 : Dev nD) : Nat :=
  let c0_i32_1258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1244 : BitVec 32 := 3#32
  let v1528 : BitVec 32 := Scalar.addi v2 c3_i32_1244
  let c32_i32_1245 : BitVec 32 := 32#32
  let c0_i32_1246 : BitVec 32 := 0#32
  let v1529 : BitVec 1 := Scalar.cmpi .eq c32_i32_1245 c0_i32_1246
  let c1_i32_1247 : BitVec 32 := 1#32
  let v1530 : BitVec 32 := Scalar.select v1529 c1_i32_1247 c32_i32_1245
  let v1531 : BitVec 32 := Scalar.remsi v1528 v1530
  let c0_i32_1249 : BitVec 32 := 0#32
  let v1533 : BitVec 1 := Scalar.cmpi .slt v1531 c0_i32_1249
  let c0_i32_1250 : BitVec 32 := 0#32
  let v1534 : BitVec 1 := Scalar.cmpi .slt v1530 c0_i32_1250
  let v1535 : BitVec 1 := Scalar.xori v1533 v1534
  let c0_i32_1248 : BitVec 32 := 0#32
  let v1532 : BitVec 1 := Scalar.cmpi .ne v1531 c0_i32_1248
  let v1536 : BitVec 1 := Scalar.andi v1535 v1532
  let v1537 : BitVec 32 := Scalar.addi v1531 v1530
  let v1538 : BitVec 32 := Scalar.select v1536 v1537 v1531
  let c1_i32_1257 : BitVec 32 := 1#32
  let v1540 : BitVec 32 := Scalar.muli v1538 c1_i32_1257
  let v1541 : BitVec 32 := Scalar.addi c0_i32_1258 v1540
  v1541.toNat
def k0_dev76 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1262 : BitVec 32 := 4#32
  let v1549 : BitVec 32 := Scalar.addi v2 c4_i32_1262
  let c32_i32_1263 : BitVec 32 := 32#32
  let c0_i32_1264 : BitVec 32 := 0#32
  let v1550 : BitVec 1 := Scalar.cmpi .eq c32_i32_1263 c0_i32_1264
  let c1_i32_1265 : BitVec 32 := 1#32
  let v1551 : BitVec 32 := Scalar.select v1550 c1_i32_1265 c32_i32_1263
  let v1552 : BitVec 32 := Scalar.remsi v1549 v1551
  let c0_i32_1267 : BitVec 32 := 0#32
  let v1554 : BitVec 1 := Scalar.cmpi .slt v1552 c0_i32_1267
  let c0_i32_1268 : BitVec 32 := 0#32
  let v1555 : BitVec 1 := Scalar.cmpi .slt v1551 c0_i32_1268
  let v1556 : BitVec 1 := Scalar.xori v1554 v1555
  let c0_i32_1266 : BitVec 32 := 0#32
  let v1553 : BitVec 1 := Scalar.cmpi .ne v1552 c0_i32_1266
  let v1557 : BitVec 1 := Scalar.andi v1556 v1553
  let v1558 : BitVec 32 := Scalar.addi v1552 v1551
  let v1559 : BitVec 32 := Scalar.select v1557 v1558 v1552
  let c1_i32_1275 : BitVec 32 := 1#32
  let v1561 : BitVec 32 := Scalar.muli v1559 c1_i32_1275
  let v1562 : BitVec 32 := Scalar.addi c0_i32_1276 v1561
  v1562.toNat
def k0_dev77 (d0 : Dev nD) : Nat :=
  let c0_i32_1294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1280 : BitVec 32 := 5#32
  let v1570 : BitVec 32 := Scalar.addi v2 c5_i32_1280
  let c32_i32_1281 : BitVec 32 := 32#32
  let c0_i32_1282 : BitVec 32 := 0#32
  let v1571 : BitVec 1 := Scalar.cmpi .eq c32_i32_1281 c0_i32_1282
  let c1_i32_1283 : BitVec 32 := 1#32
  let v1572 : BitVec 32 := Scalar.select v1571 c1_i32_1283 c32_i32_1281
  let v1573 : BitVec 32 := Scalar.remsi v1570 v1572
  let c0_i32_1285 : BitVec 32 := 0#32
  let v1575 : BitVec 1 := Scalar.cmpi .slt v1573 c0_i32_1285
  let c0_i32_1286 : BitVec 32 := 0#32
  let v1576 : BitVec 1 := Scalar.cmpi .slt v1572 c0_i32_1286
  let v1577 : BitVec 1 := Scalar.xori v1575 v1576
  let c0_i32_1284 : BitVec 32 := 0#32
  let v1574 : BitVec 1 := Scalar.cmpi .ne v1573 c0_i32_1284
  let v1578 : BitVec 1 := Scalar.andi v1577 v1574
  let v1579 : BitVec 32 := Scalar.addi v1573 v1572
  let v1580 : BitVec 32 := Scalar.select v1578 v1579 v1573
  let c1_i32_1293 : BitVec 32 := 1#32
  let v1582 : BitVec 32 := Scalar.muli v1580 c1_i32_1293
  let v1583 : BitVec 32 := Scalar.addi c0_i32_1294 v1582
  v1583.toNat
def k0_dev78 (d0 : Dev nD) : Nat :=
  let c0_i32_1312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1298 : BitVec 32 := 6#32
  let v1591 : BitVec 32 := Scalar.addi v2 c6_i32_1298
  let c32_i32_1299 : BitVec 32 := 32#32
  let c0_i32_1300 : BitVec 32 := 0#32
  let v1592 : BitVec 1 := Scalar.cmpi .eq c32_i32_1299 c0_i32_1300
  let c1_i32_1301 : BitVec 32 := 1#32
  let v1593 : BitVec 32 := Scalar.select v1592 c1_i32_1301 c32_i32_1299
  let v1594 : BitVec 32 := Scalar.remsi v1591 v1593
  let c0_i32_1303 : BitVec 32 := 0#32
  let v1596 : BitVec 1 := Scalar.cmpi .slt v1594 c0_i32_1303
  let c0_i32_1304 : BitVec 32 := 0#32
  let v1597 : BitVec 1 := Scalar.cmpi .slt v1593 c0_i32_1304
  let v1598 : BitVec 1 := Scalar.xori v1596 v1597
  let c0_i32_1302 : BitVec 32 := 0#32
  let v1595 : BitVec 1 := Scalar.cmpi .ne v1594 c0_i32_1302
  let v1599 : BitVec 1 := Scalar.andi v1598 v1595
  let v1600 : BitVec 32 := Scalar.addi v1594 v1593
  let v1601 : BitVec 32 := Scalar.select v1599 v1600 v1594
  let c1_i32_1311 : BitVec 32 := 1#32
  let v1603 : BitVec 32 := Scalar.muli v1601 c1_i32_1311
  let v1604 : BitVec 32 := Scalar.addi c0_i32_1312 v1603
  v1604.toNat
def k0_dev79 (d0 : Dev nD) : Nat :=
  let c0_i32_1330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1316 : BitVec 32 := 7#32
  let v1612 : BitVec 32 := Scalar.addi v2 c7_i32_1316
  let c32_i32_1317 : BitVec 32 := 32#32
  let c0_i32_1318 : BitVec 32 := 0#32
  let v1613 : BitVec 1 := Scalar.cmpi .eq c32_i32_1317 c0_i32_1318
  let c1_i32_1319 : BitVec 32 := 1#32
  let v1614 : BitVec 32 := Scalar.select v1613 c1_i32_1319 c32_i32_1317
  let v1615 : BitVec 32 := Scalar.remsi v1612 v1614
  let c0_i32_1321 : BitVec 32 := 0#32
  let v1617 : BitVec 1 := Scalar.cmpi .slt v1615 c0_i32_1321
  let c0_i32_1322 : BitVec 32 := 0#32
  let v1618 : BitVec 1 := Scalar.cmpi .slt v1614 c0_i32_1322
  let v1619 : BitVec 1 := Scalar.xori v1617 v1618
  let c0_i32_1320 : BitVec 32 := 0#32
  let v1616 : BitVec 1 := Scalar.cmpi .ne v1615 c0_i32_1320
  let v1620 : BitVec 1 := Scalar.andi v1619 v1616
  let v1621 : BitVec 32 := Scalar.addi v1615 v1614
  let v1622 : BitVec 32 := Scalar.select v1620 v1621 v1615
  let c1_i32_1329 : BitVec 32 := 1#32
  let v1624 : BitVec 32 := Scalar.muli v1622 c1_i32_1329
  let v1625 : BitVec 32 := Scalar.addi c0_i32_1330 v1624
  v1625.toNat
def k0_dev80 (d0 : Dev nD) : Nat :=
  let c0_i32_1348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1334 : BitVec 32 := 8#32
  let v1633 : BitVec 32 := Scalar.addi v2 c8_i32_1334
  let c32_i32_1335 : BitVec 32 := 32#32
  let c0_i32_1336 : BitVec 32 := 0#32
  let v1634 : BitVec 1 := Scalar.cmpi .eq c32_i32_1335 c0_i32_1336
  let c1_i32_1337 : BitVec 32 := 1#32
  let v1635 : BitVec 32 := Scalar.select v1634 c1_i32_1337 c32_i32_1335
  let v1636 : BitVec 32 := Scalar.remsi v1633 v1635
  let c0_i32_1339 : BitVec 32 := 0#32
  let v1638 : BitVec 1 := Scalar.cmpi .slt v1636 c0_i32_1339
  let c0_i32_1340 : BitVec 32 := 0#32
  let v1639 : BitVec 1 := Scalar.cmpi .slt v1635 c0_i32_1340
  let v1640 : BitVec 1 := Scalar.xori v1638 v1639
  let c0_i32_1338 : BitVec 32 := 0#32
  let v1637 : BitVec 1 := Scalar.cmpi .ne v1636 c0_i32_1338
  let v1641 : BitVec 1 := Scalar.andi v1640 v1637
  let v1642 : BitVec 32 := Scalar.addi v1636 v1635
  let v1643 : BitVec 32 := Scalar.select v1641 v1642 v1636
  let c1_i32_1347 : BitVec 32 := 1#32
  let v1645 : BitVec 32 := Scalar.muli v1643 c1_i32_1347
  let v1646 : BitVec 32 := Scalar.addi c0_i32_1348 v1645
  v1646.toNat
def k0_dev81 (d0 : Dev nD) : Nat :=
  let c0_i32_1366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1352 : BitVec 32 := 9#32
  let v1654 : BitVec 32 := Scalar.addi v2 c9_i32_1352
  let c32_i32_1353 : BitVec 32 := 32#32
  let c0_i32_1354 : BitVec 32 := 0#32
  let v1655 : BitVec 1 := Scalar.cmpi .eq c32_i32_1353 c0_i32_1354
  let c1_i32_1355 : BitVec 32 := 1#32
  let v1656 : BitVec 32 := Scalar.select v1655 c1_i32_1355 c32_i32_1353
  let v1657 : BitVec 32 := Scalar.remsi v1654 v1656
  let c0_i32_1357 : BitVec 32 := 0#32
  let v1659 : BitVec 1 := Scalar.cmpi .slt v1657 c0_i32_1357
  let c0_i32_1358 : BitVec 32 := 0#32
  let v1660 : BitVec 1 := Scalar.cmpi .slt v1656 c0_i32_1358
  let v1661 : BitVec 1 := Scalar.xori v1659 v1660
  let c0_i32_1356 : BitVec 32 := 0#32
  let v1658 : BitVec 1 := Scalar.cmpi .ne v1657 c0_i32_1356
  let v1662 : BitVec 1 := Scalar.andi v1661 v1658
  let v1663 : BitVec 32 := Scalar.addi v1657 v1656
  let v1664 : BitVec 32 := Scalar.select v1662 v1663 v1657
  let c1_i32_1365 : BitVec 32 := 1#32
  let v1666 : BitVec 32 := Scalar.muli v1664 c1_i32_1365
  let v1667 : BitVec 32 := Scalar.addi c0_i32_1366 v1666
  v1667.toNat
def k0_dev82 (d0 : Dev nD) : Nat :=
  let c0_i32_1384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1370 : BitVec 32 := 10#32
  let v1675 : BitVec 32 := Scalar.addi v2 c10_i32_1370
  let c32_i32_1371 : BitVec 32 := 32#32
  let c0_i32_1372 : BitVec 32 := 0#32
  let v1676 : BitVec 1 := Scalar.cmpi .eq c32_i32_1371 c0_i32_1372
  let c1_i32_1373 : BitVec 32 := 1#32
  let v1677 : BitVec 32 := Scalar.select v1676 c1_i32_1373 c32_i32_1371
  let v1678 : BitVec 32 := Scalar.remsi v1675 v1677
  let c0_i32_1375 : BitVec 32 := 0#32
  let v1680 : BitVec 1 := Scalar.cmpi .slt v1678 c0_i32_1375
  let c0_i32_1376 : BitVec 32 := 0#32
  let v1681 : BitVec 1 := Scalar.cmpi .slt v1677 c0_i32_1376
  let v1682 : BitVec 1 := Scalar.xori v1680 v1681
  let c0_i32_1374 : BitVec 32 := 0#32
  let v1679 : BitVec 1 := Scalar.cmpi .ne v1678 c0_i32_1374
  let v1683 : BitVec 1 := Scalar.andi v1682 v1679
  let v1684 : BitVec 32 := Scalar.addi v1678 v1677
  let v1685 : BitVec 32 := Scalar.select v1683 v1684 v1678
  let c1_i32_1383 : BitVec 32 := 1#32
  let v1687 : BitVec 32 := Scalar.muli v1685 c1_i32_1383
  let v1688 : BitVec 32 := Scalar.addi c0_i32_1384 v1687
  v1688.toNat
def k0_dev83 (d0 : Dev nD) : Nat :=
  let c0_i32_1402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1388 : BitVec 32 := 11#32
  let v1696 : BitVec 32 := Scalar.addi v2 c11_i32_1388
  let c32_i32_1389 : BitVec 32 := 32#32
  let c0_i32_1390 : BitVec 32 := 0#32
  let v1697 : BitVec 1 := Scalar.cmpi .eq c32_i32_1389 c0_i32_1390
  let c1_i32_1391 : BitVec 32 := 1#32
  let v1698 : BitVec 32 := Scalar.select v1697 c1_i32_1391 c32_i32_1389
  let v1699 : BitVec 32 := Scalar.remsi v1696 v1698
  let c0_i32_1393 : BitVec 32 := 0#32
  let v1701 : BitVec 1 := Scalar.cmpi .slt v1699 c0_i32_1393
  let c0_i32_1394 : BitVec 32 := 0#32
  let v1702 : BitVec 1 := Scalar.cmpi .slt v1698 c0_i32_1394
  let v1703 : BitVec 1 := Scalar.xori v1701 v1702
  let c0_i32_1392 : BitVec 32 := 0#32
  let v1700 : BitVec 1 := Scalar.cmpi .ne v1699 c0_i32_1392
  let v1704 : BitVec 1 := Scalar.andi v1703 v1700
  let v1705 : BitVec 32 := Scalar.addi v1699 v1698
  let v1706 : BitVec 32 := Scalar.select v1704 v1705 v1699
  let c1_i32_1401 : BitVec 32 := 1#32
  let v1708 : BitVec 32 := Scalar.muli v1706 c1_i32_1401
  let v1709 : BitVec 32 := Scalar.addi c0_i32_1402 v1708
  v1709.toNat
def k0_dev84 (d0 : Dev nD) : Nat :=
  let c0_i32_1420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1406 : BitVec 32 := 12#32
  let v1717 : BitVec 32 := Scalar.addi v2 c12_i32_1406
  let c32_i32_1407 : BitVec 32 := 32#32
  let c0_i32_1408 : BitVec 32 := 0#32
  let v1718 : BitVec 1 := Scalar.cmpi .eq c32_i32_1407 c0_i32_1408
  let c1_i32_1409 : BitVec 32 := 1#32
  let v1719 : BitVec 32 := Scalar.select v1718 c1_i32_1409 c32_i32_1407
  let v1720 : BitVec 32 := Scalar.remsi v1717 v1719
  let c0_i32_1411 : BitVec 32 := 0#32
  let v1722 : BitVec 1 := Scalar.cmpi .slt v1720 c0_i32_1411
  let c0_i32_1412 : BitVec 32 := 0#32
  let v1723 : BitVec 1 := Scalar.cmpi .slt v1719 c0_i32_1412
  let v1724 : BitVec 1 := Scalar.xori v1722 v1723
  let c0_i32_1410 : BitVec 32 := 0#32
  let v1721 : BitVec 1 := Scalar.cmpi .ne v1720 c0_i32_1410
  let v1725 : BitVec 1 := Scalar.andi v1724 v1721
  let v1726 : BitVec 32 := Scalar.addi v1720 v1719
  let v1727 : BitVec 32 := Scalar.select v1725 v1726 v1720
  let c1_i32_1419 : BitVec 32 := 1#32
  let v1729 : BitVec 32 := Scalar.muli v1727 c1_i32_1419
  let v1730 : BitVec 32 := Scalar.addi c0_i32_1420 v1729
  v1730.toNat
def k0_dev85 (d0 : Dev nD) : Nat :=
  let c0_i32_1438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1424 : BitVec 32 := 13#32
  let v1738 : BitVec 32 := Scalar.addi v2 c13_i32_1424
  let c32_i32_1425 : BitVec 32 := 32#32
  let c0_i32_1426 : BitVec 32 := 0#32
  let v1739 : BitVec 1 := Scalar.cmpi .eq c32_i32_1425 c0_i32_1426
  let c1_i32_1427 : BitVec 32 := 1#32
  let v1740 : BitVec 32 := Scalar.select v1739 c1_i32_1427 c32_i32_1425
  let v1741 : BitVec 32 := Scalar.remsi v1738 v1740
  let c0_i32_1429 : BitVec 32 := 0#32
  let v1743 : BitVec 1 := Scalar.cmpi .slt v1741 c0_i32_1429
  let c0_i32_1430 : BitVec 32 := 0#32
  let v1744 : BitVec 1 := Scalar.cmpi .slt v1740 c0_i32_1430
  let v1745 : BitVec 1 := Scalar.xori v1743 v1744
  let c0_i32_1428 : BitVec 32 := 0#32
  let v1742 : BitVec 1 := Scalar.cmpi .ne v1741 c0_i32_1428
  let v1746 : BitVec 1 := Scalar.andi v1745 v1742
  let v1747 : BitVec 32 := Scalar.addi v1741 v1740
  let v1748 : BitVec 32 := Scalar.select v1746 v1747 v1741
  let c1_i32_1437 : BitVec 32 := 1#32
  let v1750 : BitVec 32 := Scalar.muli v1748 c1_i32_1437
  let v1751 : BitVec 32 := Scalar.addi c0_i32_1438 v1750
  v1751.toNat
def k0_dev86 (d0 : Dev nD) : Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1442 : BitVec 32 := 14#32
  let v1759 : BitVec 32 := Scalar.addi v2 c14_i32_1442
  let c32_i32_1443 : BitVec 32 := 32#32
  let c0_i32_1444 : BitVec 32 := 0#32
  let v1760 : BitVec 1 := Scalar.cmpi .eq c32_i32_1443 c0_i32_1444
  let c1_i32_1445 : BitVec 32 := 1#32
  let v1761 : BitVec 32 := Scalar.select v1760 c1_i32_1445 c32_i32_1443
  let v1762 : BitVec 32 := Scalar.remsi v1759 v1761
  let c0_i32_1447 : BitVec 32 := 0#32
  let v1764 : BitVec 1 := Scalar.cmpi .slt v1762 c0_i32_1447
  let c0_i32_1448 : BitVec 32 := 0#32
  let v1765 : BitVec 1 := Scalar.cmpi .slt v1761 c0_i32_1448
  let v1766 : BitVec 1 := Scalar.xori v1764 v1765
  let c0_i32_1446 : BitVec 32 := 0#32
  let v1763 : BitVec 1 := Scalar.cmpi .ne v1762 c0_i32_1446
  let v1767 : BitVec 1 := Scalar.andi v1766 v1763
  let v1768 : BitVec 32 := Scalar.addi v1762 v1761
  let v1769 : BitVec 32 := Scalar.select v1767 v1768 v1762
  let c1_i32_1455 : BitVec 32 := 1#32
  let v1771 : BitVec 32 := Scalar.muli v1769 c1_i32_1455
  let v1772 : BitVec 32 := Scalar.addi c0_i32_1456 v1771
  v1772.toNat
def k0_dev87 (d0 : Dev nD) : Nat :=
  let c0_i32_1474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1460 : BitVec 32 := 15#32
  let v1780 : BitVec 32 := Scalar.addi v2 c15_i32_1460
  let c32_i32_1461 : BitVec 32 := 32#32
  let c0_i32_1462 : BitVec 32 := 0#32
  let v1781 : BitVec 1 := Scalar.cmpi .eq c32_i32_1461 c0_i32_1462
  let c1_i32_1463 : BitVec 32 := 1#32
  let v1782 : BitVec 32 := Scalar.select v1781 c1_i32_1463 c32_i32_1461
  let v1783 : BitVec 32 := Scalar.remsi v1780 v1782
  let c0_i32_1465 : BitVec 32 := 0#32
  let v1785 : BitVec 1 := Scalar.cmpi .slt v1783 c0_i32_1465
  let c0_i32_1466 : BitVec 32 := 0#32
  let v1786 : BitVec 1 := Scalar.cmpi .slt v1782 c0_i32_1466
  let v1787 : BitVec 1 := Scalar.xori v1785 v1786
  let c0_i32_1464 : BitVec 32 := 0#32
  let v1784 : BitVec 1 := Scalar.cmpi .ne v1783 c0_i32_1464
  let v1788 : BitVec 1 := Scalar.andi v1787 v1784
  let v1789 : BitVec 32 := Scalar.addi v1783 v1782
  let v1790 : BitVec 32 := Scalar.select v1788 v1789 v1783
  let c1_i32_1473 : BitVec 32 := 1#32
  let v1792 : BitVec 32 := Scalar.muli v1790 c1_i32_1473
  let v1793 : BitVec 32 := Scalar.addi c0_i32_1474 v1792
  v1793.toNat
def k0_dev88 (d0 : Dev nD) : Nat :=
  let c0_i32_1492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1478 : BitVec 32 := 16#32
  let v1801 : BitVec 32 := Scalar.addi v2 c16_i32_1478
  let c32_i32_1479 : BitVec 32 := 32#32
  let c0_i32_1480 : BitVec 32 := 0#32
  let v1802 : BitVec 1 := Scalar.cmpi .eq c32_i32_1479 c0_i32_1480
  let c1_i32_1481 : BitVec 32 := 1#32
  let v1803 : BitVec 32 := Scalar.select v1802 c1_i32_1481 c32_i32_1479
  let v1804 : BitVec 32 := Scalar.remsi v1801 v1803
  let c0_i32_1483 : BitVec 32 := 0#32
  let v1806 : BitVec 1 := Scalar.cmpi .slt v1804 c0_i32_1483
  let c0_i32_1484 : BitVec 32 := 0#32
  let v1807 : BitVec 1 := Scalar.cmpi .slt v1803 c0_i32_1484
  let v1808 : BitVec 1 := Scalar.xori v1806 v1807
  let c0_i32_1482 : BitVec 32 := 0#32
  let v1805 : BitVec 1 := Scalar.cmpi .ne v1804 c0_i32_1482
  let v1809 : BitVec 1 := Scalar.andi v1808 v1805
  let v1810 : BitVec 32 := Scalar.addi v1804 v1803
  let v1811 : BitVec 32 := Scalar.select v1809 v1810 v1804
  let c1_i32_1491 : BitVec 32 := 1#32
  let v1813 : BitVec 32 := Scalar.muli v1811 c1_i32_1491
  let v1814 : BitVec 32 := Scalar.addi c0_i32_1492 v1813
  v1814.toNat
def k0_dev89 (d0 : Dev nD) : Nat :=
  let c0_i32_1510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1496 : BitVec 32 := 17#32
  let v1822 : BitVec 32 := Scalar.addi v2 c17_i32_1496
  let c32_i32_1497 : BitVec 32 := 32#32
  let c0_i32_1498 : BitVec 32 := 0#32
  let v1823 : BitVec 1 := Scalar.cmpi .eq c32_i32_1497 c0_i32_1498
  let c1_i32_1499 : BitVec 32 := 1#32
  let v1824 : BitVec 32 := Scalar.select v1823 c1_i32_1499 c32_i32_1497
  let v1825 : BitVec 32 := Scalar.remsi v1822 v1824
  let c0_i32_1501 : BitVec 32 := 0#32
  let v1827 : BitVec 1 := Scalar.cmpi .slt v1825 c0_i32_1501
  let c0_i32_1502 : BitVec 32 := 0#32
  let v1828 : BitVec 1 := Scalar.cmpi .slt v1824 c0_i32_1502
  let v1829 : BitVec 1 := Scalar.xori v1827 v1828
  let c0_i32_1500 : BitVec 32 := 0#32
  let v1826 : BitVec 1 := Scalar.cmpi .ne v1825 c0_i32_1500
  let v1830 : BitVec 1 := Scalar.andi v1829 v1826
  let v1831 : BitVec 32 := Scalar.addi v1825 v1824
  let v1832 : BitVec 32 := Scalar.select v1830 v1831 v1825
  let c1_i32_1509 : BitVec 32 := 1#32
  let v1834 : BitVec 32 := Scalar.muli v1832 c1_i32_1509
  let v1835 : BitVec 32 := Scalar.addi c0_i32_1510 v1834
  v1835.toNat
def k0_dev90 (d0 : Dev nD) : Nat :=
  let c0_i32_1528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1514 : BitVec 32 := 18#32
  let v1843 : BitVec 32 := Scalar.addi v2 c18_i32_1514
  let c32_i32_1515 : BitVec 32 := 32#32
  let c0_i32_1516 : BitVec 32 := 0#32
  let v1844 : BitVec 1 := Scalar.cmpi .eq c32_i32_1515 c0_i32_1516
  let c1_i32_1517 : BitVec 32 := 1#32
  let v1845 : BitVec 32 := Scalar.select v1844 c1_i32_1517 c32_i32_1515
  let v1846 : BitVec 32 := Scalar.remsi v1843 v1845
  let c0_i32_1519 : BitVec 32 := 0#32
  let v1848 : BitVec 1 := Scalar.cmpi .slt v1846 c0_i32_1519
  let c0_i32_1520 : BitVec 32 := 0#32
  let v1849 : BitVec 1 := Scalar.cmpi .slt v1845 c0_i32_1520
  let v1850 : BitVec 1 := Scalar.xori v1848 v1849
  let c0_i32_1518 : BitVec 32 := 0#32
  let v1847 : BitVec 1 := Scalar.cmpi .ne v1846 c0_i32_1518
  let v1851 : BitVec 1 := Scalar.andi v1850 v1847
  let v1852 : BitVec 32 := Scalar.addi v1846 v1845
  let v1853 : BitVec 32 := Scalar.select v1851 v1852 v1846
  let c1_i32_1527 : BitVec 32 := 1#32
  let v1855 : BitVec 32 := Scalar.muli v1853 c1_i32_1527
  let v1856 : BitVec 32 := Scalar.addi c0_i32_1528 v1855
  v1856.toNat
def k0_dev91 (d0 : Dev nD) : Nat :=
  let c0_i32_1546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1532 : BitVec 32 := 19#32
  let v1864 : BitVec 32 := Scalar.addi v2 c19_i32_1532
  let c32_i32_1533 : BitVec 32 := 32#32
  let c0_i32_1534 : BitVec 32 := 0#32
  let v1865 : BitVec 1 := Scalar.cmpi .eq c32_i32_1533 c0_i32_1534
  let c1_i32_1535 : BitVec 32 := 1#32
  let v1866 : BitVec 32 := Scalar.select v1865 c1_i32_1535 c32_i32_1533
  let v1867 : BitVec 32 := Scalar.remsi v1864 v1866
  let c0_i32_1537 : BitVec 32 := 0#32
  let v1869 : BitVec 1 := Scalar.cmpi .slt v1867 c0_i32_1537
  let c0_i32_1538 : BitVec 32 := 0#32
  let v1870 : BitVec 1 := Scalar.cmpi .slt v1866 c0_i32_1538
  let v1871 : BitVec 1 := Scalar.xori v1869 v1870
  let c0_i32_1536 : BitVec 32 := 0#32
  let v1868 : BitVec 1 := Scalar.cmpi .ne v1867 c0_i32_1536
  let v1872 : BitVec 1 := Scalar.andi v1871 v1868
  let v1873 : BitVec 32 := Scalar.addi v1867 v1866
  let v1874 : BitVec 32 := Scalar.select v1872 v1873 v1867
  let c1_i32_1545 : BitVec 32 := 1#32
  let v1876 : BitVec 32 := Scalar.muli v1874 c1_i32_1545
  let v1877 : BitVec 32 := Scalar.addi c0_i32_1546 v1876
  v1877.toNat
def k0_dev92 (d0 : Dev nD) : Nat :=
  let c0_i32_1564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1550 : BitVec 32 := 20#32
  let v1885 : BitVec 32 := Scalar.addi v2 c20_i32_1550
  let c32_i32_1551 : BitVec 32 := 32#32
  let c0_i32_1552 : BitVec 32 := 0#32
  let v1886 : BitVec 1 := Scalar.cmpi .eq c32_i32_1551 c0_i32_1552
  let c1_i32_1553 : BitVec 32 := 1#32
  let v1887 : BitVec 32 := Scalar.select v1886 c1_i32_1553 c32_i32_1551
  let v1888 : BitVec 32 := Scalar.remsi v1885 v1887
  let c0_i32_1555 : BitVec 32 := 0#32
  let v1890 : BitVec 1 := Scalar.cmpi .slt v1888 c0_i32_1555
  let c0_i32_1556 : BitVec 32 := 0#32
  let v1891 : BitVec 1 := Scalar.cmpi .slt v1887 c0_i32_1556
  let v1892 : BitVec 1 := Scalar.xori v1890 v1891
  let c0_i32_1554 : BitVec 32 := 0#32
  let v1889 : BitVec 1 := Scalar.cmpi .ne v1888 c0_i32_1554
  let v1893 : BitVec 1 := Scalar.andi v1892 v1889
  let v1894 : BitVec 32 := Scalar.addi v1888 v1887
  let v1895 : BitVec 32 := Scalar.select v1893 v1894 v1888
  let c1_i32_1563 : BitVec 32 := 1#32
  let v1897 : BitVec 32 := Scalar.muli v1895 c1_i32_1563
  let v1898 : BitVec 32 := Scalar.addi c0_i32_1564 v1897
  v1898.toNat
def k0_dev93 (d0 : Dev nD) : Nat :=
  let c0_i32_1582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1568 : BitVec 32 := 21#32
  let v1906 : BitVec 32 := Scalar.addi v2 c21_i32_1568
  let c32_i32_1569 : BitVec 32 := 32#32
  let c0_i32_1570 : BitVec 32 := 0#32
  let v1907 : BitVec 1 := Scalar.cmpi .eq c32_i32_1569 c0_i32_1570
  let c1_i32_1571 : BitVec 32 := 1#32
  let v1908 : BitVec 32 := Scalar.select v1907 c1_i32_1571 c32_i32_1569
  let v1909 : BitVec 32 := Scalar.remsi v1906 v1908
  let c0_i32_1573 : BitVec 32 := 0#32
  let v1911 : BitVec 1 := Scalar.cmpi .slt v1909 c0_i32_1573
  let c0_i32_1574 : BitVec 32 := 0#32
  let v1912 : BitVec 1 := Scalar.cmpi .slt v1908 c0_i32_1574
  let v1913 : BitVec 1 := Scalar.xori v1911 v1912
  let c0_i32_1572 : BitVec 32 := 0#32
  let v1910 : BitVec 1 := Scalar.cmpi .ne v1909 c0_i32_1572
  let v1914 : BitVec 1 := Scalar.andi v1913 v1910
  let v1915 : BitVec 32 := Scalar.addi v1909 v1908
  let v1916 : BitVec 32 := Scalar.select v1914 v1915 v1909
  let c1_i32_1581 : BitVec 32 := 1#32
  let v1918 : BitVec 32 := Scalar.muli v1916 c1_i32_1581
  let v1919 : BitVec 32 := Scalar.addi c0_i32_1582 v1918
  v1919.toNat
def k0_dev94 (d0 : Dev nD) : Nat :=
  let c0_i32_1600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1586 : BitVec 32 := 22#32
  let v1927 : BitVec 32 := Scalar.addi v2 c22_i32_1586
  let c32_i32_1587 : BitVec 32 := 32#32
  let c0_i32_1588 : BitVec 32 := 0#32
  let v1928 : BitVec 1 := Scalar.cmpi .eq c32_i32_1587 c0_i32_1588
  let c1_i32_1589 : BitVec 32 := 1#32
  let v1929 : BitVec 32 := Scalar.select v1928 c1_i32_1589 c32_i32_1587
  let v1930 : BitVec 32 := Scalar.remsi v1927 v1929
  let c0_i32_1591 : BitVec 32 := 0#32
  let v1932 : BitVec 1 := Scalar.cmpi .slt v1930 c0_i32_1591
  let c0_i32_1592 : BitVec 32 := 0#32
  let v1933 : BitVec 1 := Scalar.cmpi .slt v1929 c0_i32_1592
  let v1934 : BitVec 1 := Scalar.xori v1932 v1933
  let c0_i32_1590 : BitVec 32 := 0#32
  let v1931 : BitVec 1 := Scalar.cmpi .ne v1930 c0_i32_1590
  let v1935 : BitVec 1 := Scalar.andi v1934 v1931
  let v1936 : BitVec 32 := Scalar.addi v1930 v1929
  let v1937 : BitVec 32 := Scalar.select v1935 v1936 v1930
  let c1_i32_1599 : BitVec 32 := 1#32
  let v1939 : BitVec 32 := Scalar.muli v1937 c1_i32_1599
  let v1940 : BitVec 32 := Scalar.addi c0_i32_1600 v1939
  v1940.toNat
def k0_dev95 (d0 : Dev nD) : Nat :=
  let c0_i32_1618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1604 : BitVec 32 := 23#32
  let v1948 : BitVec 32 := Scalar.addi v2 c23_i32_1604
  let c32_i32_1605 : BitVec 32 := 32#32
  let c0_i32_1606 : BitVec 32 := 0#32
  let v1949 : BitVec 1 := Scalar.cmpi .eq c32_i32_1605 c0_i32_1606
  let c1_i32_1607 : BitVec 32 := 1#32
  let v1950 : BitVec 32 := Scalar.select v1949 c1_i32_1607 c32_i32_1605
  let v1951 : BitVec 32 := Scalar.remsi v1948 v1950
  let c0_i32_1609 : BitVec 32 := 0#32
  let v1953 : BitVec 1 := Scalar.cmpi .slt v1951 c0_i32_1609
  let c0_i32_1610 : BitVec 32 := 0#32
  let v1954 : BitVec 1 := Scalar.cmpi .slt v1950 c0_i32_1610
  let v1955 : BitVec 1 := Scalar.xori v1953 v1954
  let c0_i32_1608 : BitVec 32 := 0#32
  let v1952 : BitVec 1 := Scalar.cmpi .ne v1951 c0_i32_1608
  let v1956 : BitVec 1 := Scalar.andi v1955 v1952
  let v1957 : BitVec 32 := Scalar.addi v1951 v1950
  let v1958 : BitVec 32 := Scalar.select v1956 v1957 v1951
  let c1_i32_1617 : BitVec 32 := 1#32
  let v1960 : BitVec 32 := Scalar.muli v1958 c1_i32_1617
  let v1961 : BitVec 32 := Scalar.addi c0_i32_1618 v1960
  v1961.toNat
def k0_dev96 (d0 : Dev nD) : Nat :=
  let c0_i32_1636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1622 : BitVec 32 := 24#32
  let v1969 : BitVec 32 := Scalar.addi v2 c24_i32_1622
  let c32_i32_1623 : BitVec 32 := 32#32
  let c0_i32_1624 : BitVec 32 := 0#32
  let v1970 : BitVec 1 := Scalar.cmpi .eq c32_i32_1623 c0_i32_1624
  let c1_i32_1625 : BitVec 32 := 1#32
  let v1971 : BitVec 32 := Scalar.select v1970 c1_i32_1625 c32_i32_1623
  let v1972 : BitVec 32 := Scalar.remsi v1969 v1971
  let c0_i32_1627 : BitVec 32 := 0#32
  let v1974 : BitVec 1 := Scalar.cmpi .slt v1972 c0_i32_1627
  let c0_i32_1628 : BitVec 32 := 0#32
  let v1975 : BitVec 1 := Scalar.cmpi .slt v1971 c0_i32_1628
  let v1976 : BitVec 1 := Scalar.xori v1974 v1975
  let c0_i32_1626 : BitVec 32 := 0#32
  let v1973 : BitVec 1 := Scalar.cmpi .ne v1972 c0_i32_1626
  let v1977 : BitVec 1 := Scalar.andi v1976 v1973
  let v1978 : BitVec 32 := Scalar.addi v1972 v1971
  let v1979 : BitVec 32 := Scalar.select v1977 v1978 v1972
  let c1_i32_1635 : BitVec 32 := 1#32
  let v1981 : BitVec 32 := Scalar.muli v1979 c1_i32_1635
  let v1982 : BitVec 32 := Scalar.addi c0_i32_1636 v1981
  v1982.toNat
def k0_dev97 (d0 : Dev nD) : Nat :=
  let c0_i32_1654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1640 : BitVec 32 := 25#32
  let v1990 : BitVec 32 := Scalar.addi v2 c25_i32_1640
  let c32_i32_1641 : BitVec 32 := 32#32
  let c0_i32_1642 : BitVec 32 := 0#32
  let v1991 : BitVec 1 := Scalar.cmpi .eq c32_i32_1641 c0_i32_1642
  let c1_i32_1643 : BitVec 32 := 1#32
  let v1992 : BitVec 32 := Scalar.select v1991 c1_i32_1643 c32_i32_1641
  let v1993 : BitVec 32 := Scalar.remsi v1990 v1992
  let c0_i32_1645 : BitVec 32 := 0#32
  let v1995 : BitVec 1 := Scalar.cmpi .slt v1993 c0_i32_1645
  let c0_i32_1646 : BitVec 32 := 0#32
  let v1996 : BitVec 1 := Scalar.cmpi .slt v1992 c0_i32_1646
  let v1997 : BitVec 1 := Scalar.xori v1995 v1996
  let c0_i32_1644 : BitVec 32 := 0#32
  let v1994 : BitVec 1 := Scalar.cmpi .ne v1993 c0_i32_1644
  let v1998 : BitVec 1 := Scalar.andi v1997 v1994
  let v1999 : BitVec 32 := Scalar.addi v1993 v1992
  let v2000 : BitVec 32 := Scalar.select v1998 v1999 v1993
  let c1_i32_1653 : BitVec 32 := 1#32
  let v2002 : BitVec 32 := Scalar.muli v2000 c1_i32_1653
  let v2003 : BitVec 32 := Scalar.addi c0_i32_1654 v2002
  v2003.toNat
def k0_dev98 (d0 : Dev nD) : Nat :=
  let c0_i32_1672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1658 : BitVec 32 := 26#32
  let v2011 : BitVec 32 := Scalar.addi v2 c26_i32_1658
  let c32_i32_1659 : BitVec 32 := 32#32
  let c0_i32_1660 : BitVec 32 := 0#32
  let v2012 : BitVec 1 := Scalar.cmpi .eq c32_i32_1659 c0_i32_1660
  let c1_i32_1661 : BitVec 32 := 1#32
  let v2013 : BitVec 32 := Scalar.select v2012 c1_i32_1661 c32_i32_1659
  let v2014 : BitVec 32 := Scalar.remsi v2011 v2013
  let c0_i32_1663 : BitVec 32 := 0#32
  let v2016 : BitVec 1 := Scalar.cmpi .slt v2014 c0_i32_1663
  let c0_i32_1664 : BitVec 32 := 0#32
  let v2017 : BitVec 1 := Scalar.cmpi .slt v2013 c0_i32_1664
  let v2018 : BitVec 1 := Scalar.xori v2016 v2017
  let c0_i32_1662 : BitVec 32 := 0#32
  let v2015 : BitVec 1 := Scalar.cmpi .ne v2014 c0_i32_1662
  let v2019 : BitVec 1 := Scalar.andi v2018 v2015
  let v2020 : BitVec 32 := Scalar.addi v2014 v2013
  let v2021 : BitVec 32 := Scalar.select v2019 v2020 v2014
  let c1_i32_1671 : BitVec 32 := 1#32
  let v2023 : BitVec 32 := Scalar.muli v2021 c1_i32_1671
  let v2024 : BitVec 32 := Scalar.addi c0_i32_1672 v2023
  v2024.toNat
def k0_dev99 (d0 : Dev nD) : Nat :=
  let c0_i32_1690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1676 : BitVec 32 := 27#32
  let v2032 : BitVec 32 := Scalar.addi v2 c27_i32_1676
  let c32_i32_1677 : BitVec 32 := 32#32
  let c0_i32_1678 : BitVec 32 := 0#32
  let v2033 : BitVec 1 := Scalar.cmpi .eq c32_i32_1677 c0_i32_1678
  let c1_i32_1679 : BitVec 32 := 1#32
  let v2034 : BitVec 32 := Scalar.select v2033 c1_i32_1679 c32_i32_1677
  let v2035 : BitVec 32 := Scalar.remsi v2032 v2034
  let c0_i32_1681 : BitVec 32 := 0#32
  let v2037 : BitVec 1 := Scalar.cmpi .slt v2035 c0_i32_1681
  let c0_i32_1682 : BitVec 32 := 0#32
  let v2038 : BitVec 1 := Scalar.cmpi .slt v2034 c0_i32_1682
  let v2039 : BitVec 1 := Scalar.xori v2037 v2038
  let c0_i32_1680 : BitVec 32 := 0#32
  let v2036 : BitVec 1 := Scalar.cmpi .ne v2035 c0_i32_1680
  let v2040 : BitVec 1 := Scalar.andi v2039 v2036
  let v2041 : BitVec 32 := Scalar.addi v2035 v2034
  let v2042 : BitVec 32 := Scalar.select v2040 v2041 v2035
  let c1_i32_1689 : BitVec 32 := 1#32
  let v2044 : BitVec 32 := Scalar.muli v2042 c1_i32_1689
  let v2045 : BitVec 32 := Scalar.addi c0_i32_1690 v2044
  v2045.toNat
def k0_dev100 (d0 : Dev nD) : Nat :=
  let c0_i32_1708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1694 : BitVec 32 := 28#32
  let v2053 : BitVec 32 := Scalar.addi v2 c28_i32_1694
  let c32_i32_1695 : BitVec 32 := 32#32
  let c0_i32_1696 : BitVec 32 := 0#32
  let v2054 : BitVec 1 := Scalar.cmpi .eq c32_i32_1695 c0_i32_1696
  let c1_i32_1697 : BitVec 32 := 1#32
  let v2055 : BitVec 32 := Scalar.select v2054 c1_i32_1697 c32_i32_1695
  let v2056 : BitVec 32 := Scalar.remsi v2053 v2055
  let c0_i32_1699 : BitVec 32 := 0#32
  let v2058 : BitVec 1 := Scalar.cmpi .slt v2056 c0_i32_1699
  let c0_i32_1700 : BitVec 32 := 0#32
  let v2059 : BitVec 1 := Scalar.cmpi .slt v2055 c0_i32_1700
  let v2060 : BitVec 1 := Scalar.xori v2058 v2059
  let c0_i32_1698 : BitVec 32 := 0#32
  let v2057 : BitVec 1 := Scalar.cmpi .ne v2056 c0_i32_1698
  let v2061 : BitVec 1 := Scalar.andi v2060 v2057
  let v2062 : BitVec 32 := Scalar.addi v2056 v2055
  let v2063 : BitVec 32 := Scalar.select v2061 v2062 v2056
  let c1_i32_1707 : BitVec 32 := 1#32
  let v2065 : BitVec 32 := Scalar.muli v2063 c1_i32_1707
  let v2066 : BitVec 32 := Scalar.addi c0_i32_1708 v2065
  v2066.toNat
def k0_dev101 (d0 : Dev nD) : Nat :=
  let c0_i32_1726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1712 : BitVec 32 := 29#32
  let v2074 : BitVec 32 := Scalar.addi v2 c29_i32_1712
  let c32_i32_1713 : BitVec 32 := 32#32
  let c0_i32_1714 : BitVec 32 := 0#32
  let v2075 : BitVec 1 := Scalar.cmpi .eq c32_i32_1713 c0_i32_1714
  let c1_i32_1715 : BitVec 32 := 1#32
  let v2076 : BitVec 32 := Scalar.select v2075 c1_i32_1715 c32_i32_1713
  let v2077 : BitVec 32 := Scalar.remsi v2074 v2076
  let c0_i32_1717 : BitVec 32 := 0#32
  let v2079 : BitVec 1 := Scalar.cmpi .slt v2077 c0_i32_1717
  let c0_i32_1718 : BitVec 32 := 0#32
  let v2080 : BitVec 1 := Scalar.cmpi .slt v2076 c0_i32_1718
  let v2081 : BitVec 1 := Scalar.xori v2079 v2080
  let c0_i32_1716 : BitVec 32 := 0#32
  let v2078 : BitVec 1 := Scalar.cmpi .ne v2077 c0_i32_1716
  let v2082 : BitVec 1 := Scalar.andi v2081 v2078
  let v2083 : BitVec 32 := Scalar.addi v2077 v2076
  let v2084 : BitVec 32 := Scalar.select v2082 v2083 v2077
  let c1_i32_1725 : BitVec 32 := 1#32
  let v2086 : BitVec 32 := Scalar.muli v2084 c1_i32_1725
  let v2087 : BitVec 32 := Scalar.addi c0_i32_1726 v2086
  v2087.toNat
def k0_dev102 (d0 : Dev nD) : Nat :=
  let c0_i32_1744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1730 : BitVec 32 := 30#32
  let v2095 : BitVec 32 := Scalar.addi v2 c30_i32_1730
  let c32_i32_1731 : BitVec 32 := 32#32
  let c0_i32_1732 : BitVec 32 := 0#32
  let v2096 : BitVec 1 := Scalar.cmpi .eq c32_i32_1731 c0_i32_1732
  let c1_i32_1733 : BitVec 32 := 1#32
  let v2097 : BitVec 32 := Scalar.select v2096 c1_i32_1733 c32_i32_1731
  let v2098 : BitVec 32 := Scalar.remsi v2095 v2097
  let c0_i32_1735 : BitVec 32 := 0#32
  let v2100 : BitVec 1 := Scalar.cmpi .slt v2098 c0_i32_1735
  let c0_i32_1736 : BitVec 32 := 0#32
  let v2101 : BitVec 1 := Scalar.cmpi .slt v2097 c0_i32_1736
  let v2102 : BitVec 1 := Scalar.xori v2100 v2101
  let c0_i32_1734 : BitVec 32 := 0#32
  let v2099 : BitVec 1 := Scalar.cmpi .ne v2098 c0_i32_1734
  let v2103 : BitVec 1 := Scalar.andi v2102 v2099
  let v2104 : BitVec 32 := Scalar.addi v2098 v2097
  let v2105 : BitVec 32 := Scalar.select v2103 v2104 v2098
  let c1_i32_1743 : BitVec 32 := 1#32
  let v2107 : BitVec 32 := Scalar.muli v2105 c1_i32_1743
  let v2108 : BitVec 32 := Scalar.addi c0_i32_1744 v2107
  v2108.toNat
def k0_dev103 (d0 : Dev nD) : Nat :=
  let c0_i32_1762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1748 : BitVec 32 := 31#32
  let v2116 : BitVec 32 := Scalar.addi v2 c31_i32_1748
  let c32_i32_1749 : BitVec 32 := 32#32
  let c0_i32_1750 : BitVec 32 := 0#32
  let v2117 : BitVec 1 := Scalar.cmpi .eq c32_i32_1749 c0_i32_1750
  let c1_i32_1751 : BitVec 32 := 1#32
  let v2118 : BitVec 32 := Scalar.select v2117 c1_i32_1751 c32_i32_1749
  let v2119 : BitVec 32 := Scalar.remsi v2116 v2118
  let c0_i32_1753 : BitVec 32 := 0#32
  let v2121 : BitVec 1 := Scalar.cmpi .slt v2119 c0_i32_1753
  let c0_i32_1754 : BitVec 32 := 0#32
  let v2122 : BitVec 1 := Scalar.cmpi .slt v2118 c0_i32_1754
  let v2123 : BitVec 1 := Scalar.xori v2121 v2122
  let c0_i32_1752 : BitVec 32 := 0#32
  let v2120 : BitVec 1 := Scalar.cmpi .ne v2119 c0_i32_1752
  let v2124 : BitVec 1 := Scalar.andi v2123 v2120
  let v2125 : BitVec 32 := Scalar.addi v2119 v2118
  let v2126 : BitVec 32 := Scalar.select v2124 v2125 v2119
  let c1_i32_1761 : BitVec 32 := 1#32
  let v2128 : BitVec 32 := Scalar.muli v2126 c1_i32_1761
  let v2129 : BitVec 32 := Scalar.addi c0_i32_1762 v2128
  v2129.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1766 : BitVec 32 := 24#32
  let v2137 : BitVec 32 := Scalar.muli v2 c24_i32_1766
  let c0_i32_1776 : BitVec 32 := 0#32
  ![v2137.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2107 : BitVec 32 := 24#32
  let v2385 : BitVec 32 := Scalar.muli v2 c24_i32_2107
  let v2386 : Index := Scalar.indexCast v2385
  let c0_2108 : Index := 0#32
  ![v2386.toNat, 0]
def k0_dev104 (d0 : Dev nD) : Nat :=
  let c0_i32_2132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2119 : BitVec 32 := 1#32
  let v2401 : BitVec 32 := Scalar.addi v2 c1_i32_2119
  let c32_i32_2120 : BitVec 32 := 32#32
  let c0_i32_2121 : BitVec 32 := 0#32
  let v2402 : BitVec 1 := Scalar.cmpi .eq c32_i32_2120 c0_i32_2121
  let c1_i32_2122 : BitVec 32 := 1#32
  let v2403 : BitVec 32 := Scalar.select v2402 c1_i32_2122 c32_i32_2120
  let v2404 : BitVec 32 := Scalar.remsi v2401 v2403
  let c0_i32_2124 : BitVec 32 := 0#32
  let v2406 : BitVec 1 := Scalar.cmpi .slt v2404 c0_i32_2124
  let c0_i32_2125 : BitVec 32 := 0#32
  let v2407 : BitVec 1 := Scalar.cmpi .slt v2403 c0_i32_2125
  let v2408 : BitVec 1 := Scalar.xori v2406 v2407
  let c0_i32_2123 : BitVec 32 := 0#32
  let v2405 : BitVec 1 := Scalar.cmpi .ne v2404 c0_i32_2123
  let v2409 : BitVec 1 := Scalar.andi v2408 v2405
  let v2410 : BitVec 32 := Scalar.addi v2404 v2403
  let v2411 : BitVec 32 := Scalar.select v2409 v2410 v2404
  let c1_i32_2131 : BitVec 32 := 1#32
  let v2413 : BitVec 32 := Scalar.muli v2411 c1_i32_2131
  let v2414 : BitVec 32 := Scalar.addi c0_i32_2132 v2413
  v2414.toNat
def k0_dev105 (d0 : Dev nD) : Nat :=
  let c0_i32_2149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2136 : BitVec 32 := 2#32
  let v2421 : BitVec 32 := Scalar.addi v2 c2_i32_2136
  let c32_i32_2137 : BitVec 32 := 32#32
  let c0_i32_2138 : BitVec 32 := 0#32
  let v2422 : BitVec 1 := Scalar.cmpi .eq c32_i32_2137 c0_i32_2138
  let c1_i32_2139 : BitVec 32 := 1#32
  let v2423 : BitVec 32 := Scalar.select v2422 c1_i32_2139 c32_i32_2137
  let v2424 : BitVec 32 := Scalar.remsi v2421 v2423
  let c0_i32_2141 : BitVec 32 := 0#32
  let v2426 : BitVec 1 := Scalar.cmpi .slt v2424 c0_i32_2141
  let c0_i32_2142 : BitVec 32 := 0#32
  let v2427 : BitVec 1 := Scalar.cmpi .slt v2423 c0_i32_2142
  let v2428 : BitVec 1 := Scalar.xori v2426 v2427
  let c0_i32_2140 : BitVec 32 := 0#32
  let v2425 : BitVec 1 := Scalar.cmpi .ne v2424 c0_i32_2140
  let v2429 : BitVec 1 := Scalar.andi v2428 v2425
  let v2430 : BitVec 32 := Scalar.addi v2424 v2423
  let v2431 : BitVec 32 := Scalar.select v2429 v2430 v2424
  let c1_i32_2148 : BitVec 32 := 1#32
  let v2433 : BitVec 32 := Scalar.muli v2431 c1_i32_2148
  let v2434 : BitVec 32 := Scalar.addi c0_i32_2149 v2433
  v2434.toNat
def k0_dev106 (d0 : Dev nD) : Nat :=
  let c0_i32_2166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2153 : BitVec 32 := 3#32
  let v2441 : BitVec 32 := Scalar.addi v2 c3_i32_2153
  let c32_i32_2154 : BitVec 32 := 32#32
  let c0_i32_2155 : BitVec 32 := 0#32
  let v2442 : BitVec 1 := Scalar.cmpi .eq c32_i32_2154 c0_i32_2155
  let c1_i32_2156 : BitVec 32 := 1#32
  let v2443 : BitVec 32 := Scalar.select v2442 c1_i32_2156 c32_i32_2154
  let v2444 : BitVec 32 := Scalar.remsi v2441 v2443
  let c0_i32_2158 : BitVec 32 := 0#32
  let v2446 : BitVec 1 := Scalar.cmpi .slt v2444 c0_i32_2158
  let c0_i32_2159 : BitVec 32 := 0#32
  let v2447 : BitVec 1 := Scalar.cmpi .slt v2443 c0_i32_2159
  let v2448 : BitVec 1 := Scalar.xori v2446 v2447
  let c0_i32_2157 : BitVec 32 := 0#32
  let v2445 : BitVec 1 := Scalar.cmpi .ne v2444 c0_i32_2157
  let v2449 : BitVec 1 := Scalar.andi v2448 v2445
  let v2450 : BitVec 32 := Scalar.addi v2444 v2443
  let v2451 : BitVec 32 := Scalar.select v2449 v2450 v2444
  let c1_i32_2165 : BitVec 32 := 1#32
  let v2453 : BitVec 32 := Scalar.muli v2451 c1_i32_2165
  let v2454 : BitVec 32 := Scalar.addi c0_i32_2166 v2453
  v2454.toNat
def k0_dev107 (d0 : Dev nD) : Nat :=
  let c0_i32_2183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2170 : BitVec 32 := 4#32
  let v2461 : BitVec 32 := Scalar.addi v2 c4_i32_2170
  let c32_i32_2171 : BitVec 32 := 32#32
  let c0_i32_2172 : BitVec 32 := 0#32
  let v2462 : BitVec 1 := Scalar.cmpi .eq c32_i32_2171 c0_i32_2172
  let c1_i32_2173 : BitVec 32 := 1#32
  let v2463 : BitVec 32 := Scalar.select v2462 c1_i32_2173 c32_i32_2171
  let v2464 : BitVec 32 := Scalar.remsi v2461 v2463
  let c0_i32_2175 : BitVec 32 := 0#32
  let v2466 : BitVec 1 := Scalar.cmpi .slt v2464 c0_i32_2175
  let c0_i32_2176 : BitVec 32 := 0#32
  let v2467 : BitVec 1 := Scalar.cmpi .slt v2463 c0_i32_2176
  let v2468 : BitVec 1 := Scalar.xori v2466 v2467
  let c0_i32_2174 : BitVec 32 := 0#32
  let v2465 : BitVec 1 := Scalar.cmpi .ne v2464 c0_i32_2174
  let v2469 : BitVec 1 := Scalar.andi v2468 v2465
  let v2470 : BitVec 32 := Scalar.addi v2464 v2463
  let v2471 : BitVec 32 := Scalar.select v2469 v2470 v2464
  let c1_i32_2182 : BitVec 32 := 1#32
  let v2473 : BitVec 32 := Scalar.muli v2471 c1_i32_2182
  let v2474 : BitVec 32 := Scalar.addi c0_i32_2183 v2473
  v2474.toNat
def k0_dev108 (d0 : Dev nD) : Nat :=
  let c0_i32_2200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2187 : BitVec 32 := 5#32
  let v2481 : BitVec 32 := Scalar.addi v2 c5_i32_2187
  let c32_i32_2188 : BitVec 32 := 32#32
  let c0_i32_2189 : BitVec 32 := 0#32
  let v2482 : BitVec 1 := Scalar.cmpi .eq c32_i32_2188 c0_i32_2189
  let c1_i32_2190 : BitVec 32 := 1#32
  let v2483 : BitVec 32 := Scalar.select v2482 c1_i32_2190 c32_i32_2188
  let v2484 : BitVec 32 := Scalar.remsi v2481 v2483
  let c0_i32_2192 : BitVec 32 := 0#32
  let v2486 : BitVec 1 := Scalar.cmpi .slt v2484 c0_i32_2192
  let c0_i32_2193 : BitVec 32 := 0#32
  let v2487 : BitVec 1 := Scalar.cmpi .slt v2483 c0_i32_2193
  let v2488 : BitVec 1 := Scalar.xori v2486 v2487
  let c0_i32_2191 : BitVec 32 := 0#32
  let v2485 : BitVec 1 := Scalar.cmpi .ne v2484 c0_i32_2191
  let v2489 : BitVec 1 := Scalar.andi v2488 v2485
  let v2490 : BitVec 32 := Scalar.addi v2484 v2483
  let v2491 : BitVec 32 := Scalar.select v2489 v2490 v2484
  let c1_i32_2199 : BitVec 32 := 1#32
  let v2493 : BitVec 32 := Scalar.muli v2491 c1_i32_2199
  let v2494 : BitVec 32 := Scalar.addi c0_i32_2200 v2493
  v2494.toNat
def k0_dev109 (d0 : Dev nD) : Nat :=
  let c0_i32_2217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2204 : BitVec 32 := 6#32
  let v2501 : BitVec 32 := Scalar.addi v2 c6_i32_2204
  let c32_i32_2205 : BitVec 32 := 32#32
  let c0_i32_2206 : BitVec 32 := 0#32
  let v2502 : BitVec 1 := Scalar.cmpi .eq c32_i32_2205 c0_i32_2206
  let c1_i32_2207 : BitVec 32 := 1#32
  let v2503 : BitVec 32 := Scalar.select v2502 c1_i32_2207 c32_i32_2205
  let v2504 : BitVec 32 := Scalar.remsi v2501 v2503
  let c0_i32_2209 : BitVec 32 := 0#32
  let v2506 : BitVec 1 := Scalar.cmpi .slt v2504 c0_i32_2209
  let c0_i32_2210 : BitVec 32 := 0#32
  let v2507 : BitVec 1 := Scalar.cmpi .slt v2503 c0_i32_2210
  let v2508 : BitVec 1 := Scalar.xori v2506 v2507
  let c0_i32_2208 : BitVec 32 := 0#32
  let v2505 : BitVec 1 := Scalar.cmpi .ne v2504 c0_i32_2208
  let v2509 : BitVec 1 := Scalar.andi v2508 v2505
  let v2510 : BitVec 32 := Scalar.addi v2504 v2503
  let v2511 : BitVec 32 := Scalar.select v2509 v2510 v2504
  let c1_i32_2216 : BitVec 32 := 1#32
  let v2513 : BitVec 32 := Scalar.muli v2511 c1_i32_2216
  let v2514 : BitVec 32 := Scalar.addi c0_i32_2217 v2513
  v2514.toNat
def k0_dev110 (d0 : Dev nD) : Nat :=
  let c0_i32_2234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2221 : BitVec 32 := 7#32
  let v2521 : BitVec 32 := Scalar.addi v2 c7_i32_2221
  let c32_i32_2222 : BitVec 32 := 32#32
  let c0_i32_2223 : BitVec 32 := 0#32
  let v2522 : BitVec 1 := Scalar.cmpi .eq c32_i32_2222 c0_i32_2223
  let c1_i32_2224 : BitVec 32 := 1#32
  let v2523 : BitVec 32 := Scalar.select v2522 c1_i32_2224 c32_i32_2222
  let v2524 : BitVec 32 := Scalar.remsi v2521 v2523
  let c0_i32_2226 : BitVec 32 := 0#32
  let v2526 : BitVec 1 := Scalar.cmpi .slt v2524 c0_i32_2226
  let c0_i32_2227 : BitVec 32 := 0#32
  let v2527 : BitVec 1 := Scalar.cmpi .slt v2523 c0_i32_2227
  let v2528 : BitVec 1 := Scalar.xori v2526 v2527
  let c0_i32_2225 : BitVec 32 := 0#32
  let v2525 : BitVec 1 := Scalar.cmpi .ne v2524 c0_i32_2225
  let v2529 : BitVec 1 := Scalar.andi v2528 v2525
  let v2530 : BitVec 32 := Scalar.addi v2524 v2523
  let v2531 : BitVec 32 := Scalar.select v2529 v2530 v2524
  let c1_i32_2233 : BitVec 32 := 1#32
  let v2533 : BitVec 32 := Scalar.muli v2531 c1_i32_2233
  let v2534 : BitVec 32 := Scalar.addi c0_i32_2234 v2533
  v2534.toNat
def k0_dev111 (d0 : Dev nD) : Nat :=
  let c0_i32_2251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2238 : BitVec 32 := 8#32
  let v2541 : BitVec 32 := Scalar.addi v2 c8_i32_2238
  let c32_i32_2239 : BitVec 32 := 32#32
  let c0_i32_2240 : BitVec 32 := 0#32
  let v2542 : BitVec 1 := Scalar.cmpi .eq c32_i32_2239 c0_i32_2240
  let c1_i32_2241 : BitVec 32 := 1#32
  let v2543 : BitVec 32 := Scalar.select v2542 c1_i32_2241 c32_i32_2239
  let v2544 : BitVec 32 := Scalar.remsi v2541 v2543
  let c0_i32_2243 : BitVec 32 := 0#32
  let v2546 : BitVec 1 := Scalar.cmpi .slt v2544 c0_i32_2243
  let c0_i32_2244 : BitVec 32 := 0#32
  let v2547 : BitVec 1 := Scalar.cmpi .slt v2543 c0_i32_2244
  let v2548 : BitVec 1 := Scalar.xori v2546 v2547
  let c0_i32_2242 : BitVec 32 := 0#32
  let v2545 : BitVec 1 := Scalar.cmpi .ne v2544 c0_i32_2242
  let v2549 : BitVec 1 := Scalar.andi v2548 v2545
  let v2550 : BitVec 32 := Scalar.addi v2544 v2543
  let v2551 : BitVec 32 := Scalar.select v2549 v2550 v2544
  let c1_i32_2250 : BitVec 32 := 1#32
  let v2553 : BitVec 32 := Scalar.muli v2551 c1_i32_2250
  let v2554 : BitVec 32 := Scalar.addi c0_i32_2251 v2553
  v2554.toNat
def k0_dev112 (d0 : Dev nD) : Nat :=
  let c0_i32_2268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2255 : BitVec 32 := 9#32
  let v2561 : BitVec 32 := Scalar.addi v2 c9_i32_2255
  let c32_i32_2256 : BitVec 32 := 32#32
  let c0_i32_2257 : BitVec 32 := 0#32
  let v2562 : BitVec 1 := Scalar.cmpi .eq c32_i32_2256 c0_i32_2257
  let c1_i32_2258 : BitVec 32 := 1#32
  let v2563 : BitVec 32 := Scalar.select v2562 c1_i32_2258 c32_i32_2256
  let v2564 : BitVec 32 := Scalar.remsi v2561 v2563
  let c0_i32_2260 : BitVec 32 := 0#32
  let v2566 : BitVec 1 := Scalar.cmpi .slt v2564 c0_i32_2260
  let c0_i32_2261 : BitVec 32 := 0#32
  let v2567 : BitVec 1 := Scalar.cmpi .slt v2563 c0_i32_2261
  let v2568 : BitVec 1 := Scalar.xori v2566 v2567
  let c0_i32_2259 : BitVec 32 := 0#32
  let v2565 : BitVec 1 := Scalar.cmpi .ne v2564 c0_i32_2259
  let v2569 : BitVec 1 := Scalar.andi v2568 v2565
  let v2570 : BitVec 32 := Scalar.addi v2564 v2563
  let v2571 : BitVec 32 := Scalar.select v2569 v2570 v2564
  let c1_i32_2267 : BitVec 32 := 1#32
  let v2573 : BitVec 32 := Scalar.muli v2571 c1_i32_2267
  let v2574 : BitVec 32 := Scalar.addi c0_i32_2268 v2573
  v2574.toNat
def k0_dev113 (d0 : Dev nD) : Nat :=
  let c0_i32_2285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2272 : BitVec 32 := 10#32
  let v2581 : BitVec 32 := Scalar.addi v2 c10_i32_2272
  let c32_i32_2273 : BitVec 32 := 32#32
  let c0_i32_2274 : BitVec 32 := 0#32
  let v2582 : BitVec 1 := Scalar.cmpi .eq c32_i32_2273 c0_i32_2274
  let c1_i32_2275 : BitVec 32 := 1#32
  let v2583 : BitVec 32 := Scalar.select v2582 c1_i32_2275 c32_i32_2273
  let v2584 : BitVec 32 := Scalar.remsi v2581 v2583
  let c0_i32_2277 : BitVec 32 := 0#32
  let v2586 : BitVec 1 := Scalar.cmpi .slt v2584 c0_i32_2277
  let c0_i32_2278 : BitVec 32 := 0#32
  let v2587 : BitVec 1 := Scalar.cmpi .slt v2583 c0_i32_2278
  let v2588 : BitVec 1 := Scalar.xori v2586 v2587
  let c0_i32_2276 : BitVec 32 := 0#32
  let v2585 : BitVec 1 := Scalar.cmpi .ne v2584 c0_i32_2276
  let v2589 : BitVec 1 := Scalar.andi v2588 v2585
  let v2590 : BitVec 32 := Scalar.addi v2584 v2583
  let v2591 : BitVec 32 := Scalar.select v2589 v2590 v2584
  let c1_i32_2284 : BitVec 32 := 1#32
  let v2593 : BitVec 32 := Scalar.muli v2591 c1_i32_2284
  let v2594 : BitVec 32 := Scalar.addi c0_i32_2285 v2593
  v2594.toNat
def k0_dev114 (d0 : Dev nD) : Nat :=
  let c0_i32_2302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2289 : BitVec 32 := 11#32
  let v2601 : BitVec 32 := Scalar.addi v2 c11_i32_2289
  let c32_i32_2290 : BitVec 32 := 32#32
  let c0_i32_2291 : BitVec 32 := 0#32
  let v2602 : BitVec 1 := Scalar.cmpi .eq c32_i32_2290 c0_i32_2291
  let c1_i32_2292 : BitVec 32 := 1#32
  let v2603 : BitVec 32 := Scalar.select v2602 c1_i32_2292 c32_i32_2290
  let v2604 : BitVec 32 := Scalar.remsi v2601 v2603
  let c0_i32_2294 : BitVec 32 := 0#32
  let v2606 : BitVec 1 := Scalar.cmpi .slt v2604 c0_i32_2294
  let c0_i32_2295 : BitVec 32 := 0#32
  let v2607 : BitVec 1 := Scalar.cmpi .slt v2603 c0_i32_2295
  let v2608 : BitVec 1 := Scalar.xori v2606 v2607
  let c0_i32_2293 : BitVec 32 := 0#32
  let v2605 : BitVec 1 := Scalar.cmpi .ne v2604 c0_i32_2293
  let v2609 : BitVec 1 := Scalar.andi v2608 v2605
  let v2610 : BitVec 32 := Scalar.addi v2604 v2603
  let v2611 : BitVec 32 := Scalar.select v2609 v2610 v2604
  let c1_i32_2301 : BitVec 32 := 1#32
  let v2613 : BitVec 32 := Scalar.muli v2611 c1_i32_2301
  let v2614 : BitVec 32 := Scalar.addi c0_i32_2302 v2613
  v2614.toNat
def k0_dev115 (d0 : Dev nD) : Nat :=
  let c0_i32_2319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2306 : BitVec 32 := 12#32
  let v2621 : BitVec 32 := Scalar.addi v2 c12_i32_2306
  let c32_i32_2307 : BitVec 32 := 32#32
  let c0_i32_2308 : BitVec 32 := 0#32
  let v2622 : BitVec 1 := Scalar.cmpi .eq c32_i32_2307 c0_i32_2308
  let c1_i32_2309 : BitVec 32 := 1#32
  let v2623 : BitVec 32 := Scalar.select v2622 c1_i32_2309 c32_i32_2307
  let v2624 : BitVec 32 := Scalar.remsi v2621 v2623
  let c0_i32_2311 : BitVec 32 := 0#32
  let v2626 : BitVec 1 := Scalar.cmpi .slt v2624 c0_i32_2311
  let c0_i32_2312 : BitVec 32 := 0#32
  let v2627 : BitVec 1 := Scalar.cmpi .slt v2623 c0_i32_2312
  let v2628 : BitVec 1 := Scalar.xori v2626 v2627
  let c0_i32_2310 : BitVec 32 := 0#32
  let v2625 : BitVec 1 := Scalar.cmpi .ne v2624 c0_i32_2310
  let v2629 : BitVec 1 := Scalar.andi v2628 v2625
  let v2630 : BitVec 32 := Scalar.addi v2624 v2623
  let v2631 : BitVec 32 := Scalar.select v2629 v2630 v2624
  let c1_i32_2318 : BitVec 32 := 1#32
  let v2633 : BitVec 32 := Scalar.muli v2631 c1_i32_2318
  let v2634 : BitVec 32 := Scalar.addi c0_i32_2319 v2633
  v2634.toNat
def k0_dev116 (d0 : Dev nD) : Nat :=
  let c0_i32_2336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2323 : BitVec 32 := 13#32
  let v2641 : BitVec 32 := Scalar.addi v2 c13_i32_2323
  let c32_i32_2324 : BitVec 32 := 32#32
  let c0_i32_2325 : BitVec 32 := 0#32
  let v2642 : BitVec 1 := Scalar.cmpi .eq c32_i32_2324 c0_i32_2325
  let c1_i32_2326 : BitVec 32 := 1#32
  let v2643 : BitVec 32 := Scalar.select v2642 c1_i32_2326 c32_i32_2324
  let v2644 : BitVec 32 := Scalar.remsi v2641 v2643
  let c0_i32_2328 : BitVec 32 := 0#32
  let v2646 : BitVec 1 := Scalar.cmpi .slt v2644 c0_i32_2328
  let c0_i32_2329 : BitVec 32 := 0#32
  let v2647 : BitVec 1 := Scalar.cmpi .slt v2643 c0_i32_2329
  let v2648 : BitVec 1 := Scalar.xori v2646 v2647
  let c0_i32_2327 : BitVec 32 := 0#32
  let v2645 : BitVec 1 := Scalar.cmpi .ne v2644 c0_i32_2327
  let v2649 : BitVec 1 := Scalar.andi v2648 v2645
  let v2650 : BitVec 32 := Scalar.addi v2644 v2643
  let v2651 : BitVec 32 := Scalar.select v2649 v2650 v2644
  let c1_i32_2335 : BitVec 32 := 1#32
  let v2653 : BitVec 32 := Scalar.muli v2651 c1_i32_2335
  let v2654 : BitVec 32 := Scalar.addi c0_i32_2336 v2653
  v2654.toNat
def k0_dev117 (d0 : Dev nD) : Nat :=
  let c0_i32_2353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2340 : BitVec 32 := 14#32
  let v2661 : BitVec 32 := Scalar.addi v2 c14_i32_2340
  let c32_i32_2341 : BitVec 32 := 32#32
  let c0_i32_2342 : BitVec 32 := 0#32
  let v2662 : BitVec 1 := Scalar.cmpi .eq c32_i32_2341 c0_i32_2342
  let c1_i32_2343 : BitVec 32 := 1#32
  let v2663 : BitVec 32 := Scalar.select v2662 c1_i32_2343 c32_i32_2341
  let v2664 : BitVec 32 := Scalar.remsi v2661 v2663
  let c0_i32_2345 : BitVec 32 := 0#32
  let v2666 : BitVec 1 := Scalar.cmpi .slt v2664 c0_i32_2345
  let c0_i32_2346 : BitVec 32 := 0#32
  let v2667 : BitVec 1 := Scalar.cmpi .slt v2663 c0_i32_2346
  let v2668 : BitVec 1 := Scalar.xori v2666 v2667
  let c0_i32_2344 : BitVec 32 := 0#32
  let v2665 : BitVec 1 := Scalar.cmpi .ne v2664 c0_i32_2344
  let v2669 : BitVec 1 := Scalar.andi v2668 v2665
  let v2670 : BitVec 32 := Scalar.addi v2664 v2663
  let v2671 : BitVec 32 := Scalar.select v2669 v2670 v2664
  let c1_i32_2352 : BitVec 32 := 1#32
  let v2673 : BitVec 32 := Scalar.muli v2671 c1_i32_2352
  let v2674 : BitVec 32 := Scalar.addi c0_i32_2353 v2673
  v2674.toNat
def k0_dev118 (d0 : Dev nD) : Nat :=
  let c0_i32_2370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2357 : BitVec 32 := 15#32
  let v2681 : BitVec 32 := Scalar.addi v2 c15_i32_2357
  let c32_i32_2358 : BitVec 32 := 32#32
  let c0_i32_2359 : BitVec 32 := 0#32
  let v2682 : BitVec 1 := Scalar.cmpi .eq c32_i32_2358 c0_i32_2359
  let c1_i32_2360 : BitVec 32 := 1#32
  let v2683 : BitVec 32 := Scalar.select v2682 c1_i32_2360 c32_i32_2358
  let v2684 : BitVec 32 := Scalar.remsi v2681 v2683
  let c0_i32_2362 : BitVec 32 := 0#32
  let v2686 : BitVec 1 := Scalar.cmpi .slt v2684 c0_i32_2362
  let c0_i32_2363 : BitVec 32 := 0#32
  let v2687 : BitVec 1 := Scalar.cmpi .slt v2683 c0_i32_2363
  let v2688 : BitVec 1 := Scalar.xori v2686 v2687
  let c0_i32_2361 : BitVec 32 := 0#32
  let v2685 : BitVec 1 := Scalar.cmpi .ne v2684 c0_i32_2361
  let v2689 : BitVec 1 := Scalar.andi v2688 v2685
  let v2690 : BitVec 32 := Scalar.addi v2684 v2683
  let v2691 : BitVec 32 := Scalar.select v2689 v2690 v2684
  let c1_i32_2369 : BitVec 32 := 1#32
  let v2693 : BitVec 32 := Scalar.muli v2691 c1_i32_2369
  let v2694 : BitVec 32 := Scalar.addi c0_i32_2370 v2693
  v2694.toNat
def k0_dev119 (d0 : Dev nD) : Nat :=
  let c0_i32_2387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2374 : BitVec 32 := 16#32
  let v2701 : BitVec 32 := Scalar.addi v2 c16_i32_2374
  let c32_i32_2375 : BitVec 32 := 32#32
  let c0_i32_2376 : BitVec 32 := 0#32
  let v2702 : BitVec 1 := Scalar.cmpi .eq c32_i32_2375 c0_i32_2376
  let c1_i32_2377 : BitVec 32 := 1#32
  let v2703 : BitVec 32 := Scalar.select v2702 c1_i32_2377 c32_i32_2375
  let v2704 : BitVec 32 := Scalar.remsi v2701 v2703
  let c0_i32_2379 : BitVec 32 := 0#32
  let v2706 : BitVec 1 := Scalar.cmpi .slt v2704 c0_i32_2379
  let c0_i32_2380 : BitVec 32 := 0#32
  let v2707 : BitVec 1 := Scalar.cmpi .slt v2703 c0_i32_2380
  let v2708 : BitVec 1 := Scalar.xori v2706 v2707
  let c0_i32_2378 : BitVec 32 := 0#32
  let v2705 : BitVec 1 := Scalar.cmpi .ne v2704 c0_i32_2378
  let v2709 : BitVec 1 := Scalar.andi v2708 v2705
  let v2710 : BitVec 32 := Scalar.addi v2704 v2703
  let v2711 : BitVec 32 := Scalar.select v2709 v2710 v2704
  let c1_i32_2386 : BitVec 32 := 1#32
  let v2713 : BitVec 32 := Scalar.muli v2711 c1_i32_2386
  let v2714 : BitVec 32 := Scalar.addi c0_i32_2387 v2713
  v2714.toNat
def k0_dev120 (d0 : Dev nD) : Nat :=
  let c0_i32_2404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2391 : BitVec 32 := 17#32
  let v2721 : BitVec 32 := Scalar.addi v2 c17_i32_2391
  let c32_i32_2392 : BitVec 32 := 32#32
  let c0_i32_2393 : BitVec 32 := 0#32
  let v2722 : BitVec 1 := Scalar.cmpi .eq c32_i32_2392 c0_i32_2393
  let c1_i32_2394 : BitVec 32 := 1#32
  let v2723 : BitVec 32 := Scalar.select v2722 c1_i32_2394 c32_i32_2392
  let v2724 : BitVec 32 := Scalar.remsi v2721 v2723
  let c0_i32_2396 : BitVec 32 := 0#32
  let v2726 : BitVec 1 := Scalar.cmpi .slt v2724 c0_i32_2396
  let c0_i32_2397 : BitVec 32 := 0#32
  let v2727 : BitVec 1 := Scalar.cmpi .slt v2723 c0_i32_2397
  let v2728 : BitVec 1 := Scalar.xori v2726 v2727
  let c0_i32_2395 : BitVec 32 := 0#32
  let v2725 : BitVec 1 := Scalar.cmpi .ne v2724 c0_i32_2395
  let v2729 : BitVec 1 := Scalar.andi v2728 v2725
  let v2730 : BitVec 32 := Scalar.addi v2724 v2723
  let v2731 : BitVec 32 := Scalar.select v2729 v2730 v2724
  let c1_i32_2403 : BitVec 32 := 1#32
  let v2733 : BitVec 32 := Scalar.muli v2731 c1_i32_2403
  let v2734 : BitVec 32 := Scalar.addi c0_i32_2404 v2733
  v2734.toNat
def k0_dev121 (d0 : Dev nD) : Nat :=
  let c0_i32_2421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2408 : BitVec 32 := 18#32
  let v2741 : BitVec 32 := Scalar.addi v2 c18_i32_2408
  let c32_i32_2409 : BitVec 32 := 32#32
  let c0_i32_2410 : BitVec 32 := 0#32
  let v2742 : BitVec 1 := Scalar.cmpi .eq c32_i32_2409 c0_i32_2410
  let c1_i32_2411 : BitVec 32 := 1#32
  let v2743 : BitVec 32 := Scalar.select v2742 c1_i32_2411 c32_i32_2409
  let v2744 : BitVec 32 := Scalar.remsi v2741 v2743
  let c0_i32_2413 : BitVec 32 := 0#32
  let v2746 : BitVec 1 := Scalar.cmpi .slt v2744 c0_i32_2413
  let c0_i32_2414 : BitVec 32 := 0#32
  let v2747 : BitVec 1 := Scalar.cmpi .slt v2743 c0_i32_2414
  let v2748 : BitVec 1 := Scalar.xori v2746 v2747
  let c0_i32_2412 : BitVec 32 := 0#32
  let v2745 : BitVec 1 := Scalar.cmpi .ne v2744 c0_i32_2412
  let v2749 : BitVec 1 := Scalar.andi v2748 v2745
  let v2750 : BitVec 32 := Scalar.addi v2744 v2743
  let v2751 : BitVec 32 := Scalar.select v2749 v2750 v2744
  let c1_i32_2420 : BitVec 32 := 1#32
  let v2753 : BitVec 32 := Scalar.muli v2751 c1_i32_2420
  let v2754 : BitVec 32 := Scalar.addi c0_i32_2421 v2753
  v2754.toNat
def k0_dev122 (d0 : Dev nD) : Nat :=
  let c0_i32_2438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2425 : BitVec 32 := 19#32
  let v2761 : BitVec 32 := Scalar.addi v2 c19_i32_2425
  let c32_i32_2426 : BitVec 32 := 32#32
  let c0_i32_2427 : BitVec 32 := 0#32
  let v2762 : BitVec 1 := Scalar.cmpi .eq c32_i32_2426 c0_i32_2427
  let c1_i32_2428 : BitVec 32 := 1#32
  let v2763 : BitVec 32 := Scalar.select v2762 c1_i32_2428 c32_i32_2426
  let v2764 : BitVec 32 := Scalar.remsi v2761 v2763
  let c0_i32_2430 : BitVec 32 := 0#32
  let v2766 : BitVec 1 := Scalar.cmpi .slt v2764 c0_i32_2430
  let c0_i32_2431 : BitVec 32 := 0#32
  let v2767 : BitVec 1 := Scalar.cmpi .slt v2763 c0_i32_2431
  let v2768 : BitVec 1 := Scalar.xori v2766 v2767
  let c0_i32_2429 : BitVec 32 := 0#32
  let v2765 : BitVec 1 := Scalar.cmpi .ne v2764 c0_i32_2429
  let v2769 : BitVec 1 := Scalar.andi v2768 v2765
  let v2770 : BitVec 32 := Scalar.addi v2764 v2763
  let v2771 : BitVec 32 := Scalar.select v2769 v2770 v2764
  let c1_i32_2437 : BitVec 32 := 1#32
  let v2773 : BitVec 32 := Scalar.muli v2771 c1_i32_2437
  let v2774 : BitVec 32 := Scalar.addi c0_i32_2438 v2773
  v2774.toNat
def k0_dev123 (d0 : Dev nD) : Nat :=
  let c0_i32_2455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2442 : BitVec 32 := 20#32
  let v2781 : BitVec 32 := Scalar.addi v2 c20_i32_2442
  let c32_i32_2443 : BitVec 32 := 32#32
  let c0_i32_2444 : BitVec 32 := 0#32
  let v2782 : BitVec 1 := Scalar.cmpi .eq c32_i32_2443 c0_i32_2444
  let c1_i32_2445 : BitVec 32 := 1#32
  let v2783 : BitVec 32 := Scalar.select v2782 c1_i32_2445 c32_i32_2443
  let v2784 : BitVec 32 := Scalar.remsi v2781 v2783
  let c0_i32_2447 : BitVec 32 := 0#32
  let v2786 : BitVec 1 := Scalar.cmpi .slt v2784 c0_i32_2447
  let c0_i32_2448 : BitVec 32 := 0#32
  let v2787 : BitVec 1 := Scalar.cmpi .slt v2783 c0_i32_2448
  let v2788 : BitVec 1 := Scalar.xori v2786 v2787
  let c0_i32_2446 : BitVec 32 := 0#32
  let v2785 : BitVec 1 := Scalar.cmpi .ne v2784 c0_i32_2446
  let v2789 : BitVec 1 := Scalar.andi v2788 v2785
  let v2790 : BitVec 32 := Scalar.addi v2784 v2783
  let v2791 : BitVec 32 := Scalar.select v2789 v2790 v2784
  let c1_i32_2454 : BitVec 32 := 1#32
  let v2793 : BitVec 32 := Scalar.muli v2791 c1_i32_2454
  let v2794 : BitVec 32 := Scalar.addi c0_i32_2455 v2793
  v2794.toNat
def k0_dev124 (d0 : Dev nD) : Nat :=
  let c0_i32_2472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2459 : BitVec 32 := 21#32
  let v2801 : BitVec 32 := Scalar.addi v2 c21_i32_2459
  let c32_i32_2460 : BitVec 32 := 32#32
  let c0_i32_2461 : BitVec 32 := 0#32
  let v2802 : BitVec 1 := Scalar.cmpi .eq c32_i32_2460 c0_i32_2461
  let c1_i32_2462 : BitVec 32 := 1#32
  let v2803 : BitVec 32 := Scalar.select v2802 c1_i32_2462 c32_i32_2460
  let v2804 : BitVec 32 := Scalar.remsi v2801 v2803
  let c0_i32_2464 : BitVec 32 := 0#32
  let v2806 : BitVec 1 := Scalar.cmpi .slt v2804 c0_i32_2464
  let c0_i32_2465 : BitVec 32 := 0#32
  let v2807 : BitVec 1 := Scalar.cmpi .slt v2803 c0_i32_2465
  let v2808 : BitVec 1 := Scalar.xori v2806 v2807
  let c0_i32_2463 : BitVec 32 := 0#32
  let v2805 : BitVec 1 := Scalar.cmpi .ne v2804 c0_i32_2463
  let v2809 : BitVec 1 := Scalar.andi v2808 v2805
  let v2810 : BitVec 32 := Scalar.addi v2804 v2803
  let v2811 : BitVec 32 := Scalar.select v2809 v2810 v2804
  let c1_i32_2471 : BitVec 32 := 1#32
  let v2813 : BitVec 32 := Scalar.muli v2811 c1_i32_2471
  let v2814 : BitVec 32 := Scalar.addi c0_i32_2472 v2813
  v2814.toNat
def k0_dev125 (d0 : Dev nD) : Nat :=
  let c0_i32_2489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2476 : BitVec 32 := 22#32
  let v2821 : BitVec 32 := Scalar.addi v2 c22_i32_2476
  let c32_i32_2477 : BitVec 32 := 32#32
  let c0_i32_2478 : BitVec 32 := 0#32
  let v2822 : BitVec 1 := Scalar.cmpi .eq c32_i32_2477 c0_i32_2478
  let c1_i32_2479 : BitVec 32 := 1#32
  let v2823 : BitVec 32 := Scalar.select v2822 c1_i32_2479 c32_i32_2477
  let v2824 : BitVec 32 := Scalar.remsi v2821 v2823
  let c0_i32_2481 : BitVec 32 := 0#32
  let v2826 : BitVec 1 := Scalar.cmpi .slt v2824 c0_i32_2481
  let c0_i32_2482 : BitVec 32 := 0#32
  let v2827 : BitVec 1 := Scalar.cmpi .slt v2823 c0_i32_2482
  let v2828 : BitVec 1 := Scalar.xori v2826 v2827
  let c0_i32_2480 : BitVec 32 := 0#32
  let v2825 : BitVec 1 := Scalar.cmpi .ne v2824 c0_i32_2480
  let v2829 : BitVec 1 := Scalar.andi v2828 v2825
  let v2830 : BitVec 32 := Scalar.addi v2824 v2823
  let v2831 : BitVec 32 := Scalar.select v2829 v2830 v2824
  let c1_i32_2488 : BitVec 32 := 1#32
  let v2833 : BitVec 32 := Scalar.muli v2831 c1_i32_2488
  let v2834 : BitVec 32 := Scalar.addi c0_i32_2489 v2833
  v2834.toNat
def k0_dev126 (d0 : Dev nD) : Nat :=
  let c0_i32_2506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2493 : BitVec 32 := 23#32
  let v2841 : BitVec 32 := Scalar.addi v2 c23_i32_2493
  let c32_i32_2494 : BitVec 32 := 32#32
  let c0_i32_2495 : BitVec 32 := 0#32
  let v2842 : BitVec 1 := Scalar.cmpi .eq c32_i32_2494 c0_i32_2495
  let c1_i32_2496 : BitVec 32 := 1#32
  let v2843 : BitVec 32 := Scalar.select v2842 c1_i32_2496 c32_i32_2494
  let v2844 : BitVec 32 := Scalar.remsi v2841 v2843
  let c0_i32_2498 : BitVec 32 := 0#32
  let v2846 : BitVec 1 := Scalar.cmpi .slt v2844 c0_i32_2498
  let c0_i32_2499 : BitVec 32 := 0#32
  let v2847 : BitVec 1 := Scalar.cmpi .slt v2843 c0_i32_2499
  let v2848 : BitVec 1 := Scalar.xori v2846 v2847
  let c0_i32_2497 : BitVec 32 := 0#32
  let v2845 : BitVec 1 := Scalar.cmpi .ne v2844 c0_i32_2497
  let v2849 : BitVec 1 := Scalar.andi v2848 v2845
  let v2850 : BitVec 32 := Scalar.addi v2844 v2843
  let v2851 : BitVec 32 := Scalar.select v2849 v2850 v2844
  let c1_i32_2505 : BitVec 32 := 1#32
  let v2853 : BitVec 32 := Scalar.muli v2851 c1_i32_2505
  let v2854 : BitVec 32 := Scalar.addi c0_i32_2506 v2853
  v2854.toNat
def k0_dev127 (d0 : Dev nD) : Nat :=
  let c0_i32_2523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2510 : BitVec 32 := 24#32
  let v2861 : BitVec 32 := Scalar.addi v2 c24_i32_2510
  let c32_i32_2511 : BitVec 32 := 32#32
  let c0_i32_2512 : BitVec 32 := 0#32
  let v2862 : BitVec 1 := Scalar.cmpi .eq c32_i32_2511 c0_i32_2512
  let c1_i32_2513 : BitVec 32 := 1#32
  let v2863 : BitVec 32 := Scalar.select v2862 c1_i32_2513 c32_i32_2511
  let v2864 : BitVec 32 := Scalar.remsi v2861 v2863
  let c0_i32_2515 : BitVec 32 := 0#32
  let v2866 : BitVec 1 := Scalar.cmpi .slt v2864 c0_i32_2515
  let c0_i32_2516 : BitVec 32 := 0#32
  let v2867 : BitVec 1 := Scalar.cmpi .slt v2863 c0_i32_2516
  let v2868 : BitVec 1 := Scalar.xori v2866 v2867
  let c0_i32_2514 : BitVec 32 := 0#32
  let v2865 : BitVec 1 := Scalar.cmpi .ne v2864 c0_i32_2514
  let v2869 : BitVec 1 := Scalar.andi v2868 v2865
  let v2870 : BitVec 32 := Scalar.addi v2864 v2863
  let v2871 : BitVec 32 := Scalar.select v2869 v2870 v2864
  let c1_i32_2522 : BitVec 32 := 1#32
  let v2873 : BitVec 32 := Scalar.muli v2871 c1_i32_2522
  let v2874 : BitVec 32 := Scalar.addi c0_i32_2523 v2873
  v2874.toNat
def k0_dev128 (d0 : Dev nD) : Nat :=
  let c0_i32_2540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2527 : BitVec 32 := 25#32
  let v2881 : BitVec 32 := Scalar.addi v2 c25_i32_2527
  let c32_i32_2528 : BitVec 32 := 32#32
  let c0_i32_2529 : BitVec 32 := 0#32
  let v2882 : BitVec 1 := Scalar.cmpi .eq c32_i32_2528 c0_i32_2529
  let c1_i32_2530 : BitVec 32 := 1#32
  let v2883 : BitVec 32 := Scalar.select v2882 c1_i32_2530 c32_i32_2528
  let v2884 : BitVec 32 := Scalar.remsi v2881 v2883
  let c0_i32_2532 : BitVec 32 := 0#32
  let v2886 : BitVec 1 := Scalar.cmpi .slt v2884 c0_i32_2532
  let c0_i32_2533 : BitVec 32 := 0#32
  let v2887 : BitVec 1 := Scalar.cmpi .slt v2883 c0_i32_2533
  let v2888 : BitVec 1 := Scalar.xori v2886 v2887
  let c0_i32_2531 : BitVec 32 := 0#32
  let v2885 : BitVec 1 := Scalar.cmpi .ne v2884 c0_i32_2531
  let v2889 : BitVec 1 := Scalar.andi v2888 v2885
  let v2890 : BitVec 32 := Scalar.addi v2884 v2883
  let v2891 : BitVec 32 := Scalar.select v2889 v2890 v2884
  let c1_i32_2539 : BitVec 32 := 1#32
  let v2893 : BitVec 32 := Scalar.muli v2891 c1_i32_2539
  let v2894 : BitVec 32 := Scalar.addi c0_i32_2540 v2893
  v2894.toNat
def k0_dev129 (d0 : Dev nD) : Nat :=
  let c0_i32_2557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2544 : BitVec 32 := 26#32
  let v2901 : BitVec 32 := Scalar.addi v2 c26_i32_2544
  let c32_i32_2545 : BitVec 32 := 32#32
  let c0_i32_2546 : BitVec 32 := 0#32
  let v2902 : BitVec 1 := Scalar.cmpi .eq c32_i32_2545 c0_i32_2546
  let c1_i32_2547 : BitVec 32 := 1#32
  let v2903 : BitVec 32 := Scalar.select v2902 c1_i32_2547 c32_i32_2545
  let v2904 : BitVec 32 := Scalar.remsi v2901 v2903
  let c0_i32_2549 : BitVec 32 := 0#32
  let v2906 : BitVec 1 := Scalar.cmpi .slt v2904 c0_i32_2549
  let c0_i32_2550 : BitVec 32 := 0#32
  let v2907 : BitVec 1 := Scalar.cmpi .slt v2903 c0_i32_2550
  let v2908 : BitVec 1 := Scalar.xori v2906 v2907
  let c0_i32_2548 : BitVec 32 := 0#32
  let v2905 : BitVec 1 := Scalar.cmpi .ne v2904 c0_i32_2548
  let v2909 : BitVec 1 := Scalar.andi v2908 v2905
  let v2910 : BitVec 32 := Scalar.addi v2904 v2903
  let v2911 : BitVec 32 := Scalar.select v2909 v2910 v2904
  let c1_i32_2556 : BitVec 32 := 1#32
  let v2913 : BitVec 32 := Scalar.muli v2911 c1_i32_2556
  let v2914 : BitVec 32 := Scalar.addi c0_i32_2557 v2913
  v2914.toNat
def k0_dev130 (d0 : Dev nD) : Nat :=
  let c0_i32_2574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2561 : BitVec 32 := 27#32
  let v2921 : BitVec 32 := Scalar.addi v2 c27_i32_2561
  let c32_i32_2562 : BitVec 32 := 32#32
  let c0_i32_2563 : BitVec 32 := 0#32
  let v2922 : BitVec 1 := Scalar.cmpi .eq c32_i32_2562 c0_i32_2563
  let c1_i32_2564 : BitVec 32 := 1#32
  let v2923 : BitVec 32 := Scalar.select v2922 c1_i32_2564 c32_i32_2562
  let v2924 : BitVec 32 := Scalar.remsi v2921 v2923
  let c0_i32_2566 : BitVec 32 := 0#32
  let v2926 : BitVec 1 := Scalar.cmpi .slt v2924 c0_i32_2566
  let c0_i32_2567 : BitVec 32 := 0#32
  let v2927 : BitVec 1 := Scalar.cmpi .slt v2923 c0_i32_2567
  let v2928 : BitVec 1 := Scalar.xori v2926 v2927
  let c0_i32_2565 : BitVec 32 := 0#32
  let v2925 : BitVec 1 := Scalar.cmpi .ne v2924 c0_i32_2565
  let v2929 : BitVec 1 := Scalar.andi v2928 v2925
  let v2930 : BitVec 32 := Scalar.addi v2924 v2923
  let v2931 : BitVec 32 := Scalar.select v2929 v2930 v2924
  let c1_i32_2573 : BitVec 32 := 1#32
  let v2933 : BitVec 32 := Scalar.muli v2931 c1_i32_2573
  let v2934 : BitVec 32 := Scalar.addi c0_i32_2574 v2933
  v2934.toNat
def k0_dev131 (d0 : Dev nD) : Nat :=
  let c0_i32_2591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2578 : BitVec 32 := 28#32
  let v2941 : BitVec 32 := Scalar.addi v2 c28_i32_2578
  let c32_i32_2579 : BitVec 32 := 32#32
  let c0_i32_2580 : BitVec 32 := 0#32
  let v2942 : BitVec 1 := Scalar.cmpi .eq c32_i32_2579 c0_i32_2580
  let c1_i32_2581 : BitVec 32 := 1#32
  let v2943 : BitVec 32 := Scalar.select v2942 c1_i32_2581 c32_i32_2579
  let v2944 : BitVec 32 := Scalar.remsi v2941 v2943
  let c0_i32_2583 : BitVec 32 := 0#32
  let v2946 : BitVec 1 := Scalar.cmpi .slt v2944 c0_i32_2583
  let c0_i32_2584 : BitVec 32 := 0#32
  let v2947 : BitVec 1 := Scalar.cmpi .slt v2943 c0_i32_2584
  let v2948 : BitVec 1 := Scalar.xori v2946 v2947
  let c0_i32_2582 : BitVec 32 := 0#32
  let v2945 : BitVec 1 := Scalar.cmpi .ne v2944 c0_i32_2582
  let v2949 : BitVec 1 := Scalar.andi v2948 v2945
  let v2950 : BitVec 32 := Scalar.addi v2944 v2943
  let v2951 : BitVec 32 := Scalar.select v2949 v2950 v2944
  let c1_i32_2590 : BitVec 32 := 1#32
  let v2953 : BitVec 32 := Scalar.muli v2951 c1_i32_2590
  let v2954 : BitVec 32 := Scalar.addi c0_i32_2591 v2953
  v2954.toNat
def k0_dev132 (d0 : Dev nD) : Nat :=
  let c0_i32_2608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2595 : BitVec 32 := 29#32
  let v2961 : BitVec 32 := Scalar.addi v2 c29_i32_2595
  let c32_i32_2596 : BitVec 32 := 32#32
  let c0_i32_2597 : BitVec 32 := 0#32
  let v2962 : BitVec 1 := Scalar.cmpi .eq c32_i32_2596 c0_i32_2597
  let c1_i32_2598 : BitVec 32 := 1#32
  let v2963 : BitVec 32 := Scalar.select v2962 c1_i32_2598 c32_i32_2596
  let v2964 : BitVec 32 := Scalar.remsi v2961 v2963
  let c0_i32_2600 : BitVec 32 := 0#32
  let v2966 : BitVec 1 := Scalar.cmpi .slt v2964 c0_i32_2600
  let c0_i32_2601 : BitVec 32 := 0#32
  let v2967 : BitVec 1 := Scalar.cmpi .slt v2963 c0_i32_2601
  let v2968 : BitVec 1 := Scalar.xori v2966 v2967
  let c0_i32_2599 : BitVec 32 := 0#32
  let v2965 : BitVec 1 := Scalar.cmpi .ne v2964 c0_i32_2599
  let v2969 : BitVec 1 := Scalar.andi v2968 v2965
  let v2970 : BitVec 32 := Scalar.addi v2964 v2963
  let v2971 : BitVec 32 := Scalar.select v2969 v2970 v2964
  let c1_i32_2607 : BitVec 32 := 1#32
  let v2973 : BitVec 32 := Scalar.muli v2971 c1_i32_2607
  let v2974 : BitVec 32 := Scalar.addi c0_i32_2608 v2973
  v2974.toNat
def k0_dev133 (d0 : Dev nD) : Nat :=
  let c0_i32_2625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2612 : BitVec 32 := 30#32
  let v2981 : BitVec 32 := Scalar.addi v2 c30_i32_2612
  let c32_i32_2613 : BitVec 32 := 32#32
  let c0_i32_2614 : BitVec 32 := 0#32
  let v2982 : BitVec 1 := Scalar.cmpi .eq c32_i32_2613 c0_i32_2614
  let c1_i32_2615 : BitVec 32 := 1#32
  let v2983 : BitVec 32 := Scalar.select v2982 c1_i32_2615 c32_i32_2613
  let v2984 : BitVec 32 := Scalar.remsi v2981 v2983
  let c0_i32_2617 : BitVec 32 := 0#32
  let v2986 : BitVec 1 := Scalar.cmpi .slt v2984 c0_i32_2617
  let c0_i32_2618 : BitVec 32 := 0#32
  let v2987 : BitVec 1 := Scalar.cmpi .slt v2983 c0_i32_2618
  let v2988 : BitVec 1 := Scalar.xori v2986 v2987
  let c0_i32_2616 : BitVec 32 := 0#32
  let v2985 : BitVec 1 := Scalar.cmpi .ne v2984 c0_i32_2616
  let v2989 : BitVec 1 := Scalar.andi v2988 v2985
  let v2990 : BitVec 32 := Scalar.addi v2984 v2983
  let v2991 : BitVec 32 := Scalar.select v2989 v2990 v2984
  let c1_i32_2624 : BitVec 32 := 1#32
  let v2993 : BitVec 32 := Scalar.muli v2991 c1_i32_2624
  let v2994 : BitVec 32 := Scalar.addi c0_i32_2625 v2993
  v2994.toNat
def k0_dev134 (d0 : Dev nD) : Nat :=
  let c0_i32_2642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2629 : BitVec 32 := 31#32
  let v3001 : BitVec 32 := Scalar.addi v2 c31_i32_2629
  let c32_i32_2630 : BitVec 32 := 32#32
  let c0_i32_2631 : BitVec 32 := 0#32
  let v3002 : BitVec 1 := Scalar.cmpi .eq c32_i32_2630 c0_i32_2631
  let c1_i32_2632 : BitVec 32 := 1#32
  let v3003 : BitVec 32 := Scalar.select v3002 c1_i32_2632 c32_i32_2630
  let v3004 : BitVec 32 := Scalar.remsi v3001 v3003
  let c0_i32_2634 : BitVec 32 := 0#32
  let v3006 : BitVec 1 := Scalar.cmpi .slt v3004 c0_i32_2634
  let c0_i32_2635 : BitVec 32 := 0#32
  let v3007 : BitVec 1 := Scalar.cmpi .slt v3003 c0_i32_2635
  let v3008 : BitVec 1 := Scalar.xori v3006 v3007
  let c0_i32_2633 : BitVec 32 := 0#32
  let v3005 : BitVec 1 := Scalar.cmpi .ne v3004 c0_i32_2633
  let v3009 : BitVec 1 := Scalar.andi v3008 v3005
  let v3010 : BitVec 32 := Scalar.addi v3004 v3003
  let v3011 : BitVec 32 := Scalar.select v3009 v3010 v3004
  let c1_i32_2641 : BitVec 32 := 1#32
  let v3013 : BitVec 32 := Scalar.muli v3011 c1_i32_2641
  let v3014 : BitVec 32 := Scalar.addi c0_i32_2642 v3013
  v3014.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2646 : BitVec 32 := 24#32
  let v3021 : BitVec 32 := Scalar.muli v2 c24_i32_2646
  let c256_i32_2656 : BitVec 32 := 256#32
  ![v3021.toNat, 256]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2987 : BitVec 32 := 24#32
  let v3269 : BitVec 32 := Scalar.muli v2 c24_i32_2987
  let v3270 : Index := Scalar.indexCast v3269
  let c256 : Index := 256#32
  ![v3270.toNat, 256]
def k0_dev135 (d0 : Dev nD) : Nat :=
  let c0_i32_3011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2998 : BitVec 32 := 1#32
  let v3285 : BitVec 32 := Scalar.addi v2 c1_i32_2998
  let c32_i32_2999 : BitVec 32 := 32#32
  let c0_i32_3000 : BitVec 32 := 0#32
  let v3286 : BitVec 1 := Scalar.cmpi .eq c32_i32_2999 c0_i32_3000
  let c1_i32_3001 : BitVec 32 := 1#32
  let v3287 : BitVec 32 := Scalar.select v3286 c1_i32_3001 c32_i32_2999
  let v3288 : BitVec 32 := Scalar.remsi v3285 v3287
  let c0_i32_3003 : BitVec 32 := 0#32
  let v3290 : BitVec 1 := Scalar.cmpi .slt v3288 c0_i32_3003
  let c0_i32_3004 : BitVec 32 := 0#32
  let v3291 : BitVec 1 := Scalar.cmpi .slt v3287 c0_i32_3004
  let v3292 : BitVec 1 := Scalar.xori v3290 v3291
  let c0_i32_3002 : BitVec 32 := 0#32
  let v3289 : BitVec 1 := Scalar.cmpi .ne v3288 c0_i32_3002
  let v3293 : BitVec 1 := Scalar.andi v3292 v3289
  let v3294 : BitVec 32 := Scalar.addi v3288 v3287
  let v3295 : BitVec 32 := Scalar.select v3293 v3294 v3288
  let c1_i32_3010 : BitVec 32 := 1#32
  let v3297 : BitVec 32 := Scalar.muli v3295 c1_i32_3010
  let v3298 : BitVec 32 := Scalar.addi c0_i32_3011 v3297
  v3298.toNat
def k0_dev136 (d0 : Dev nD) : Nat :=
  let c0_i32_3028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3015 : BitVec 32 := 2#32
  let v3305 : BitVec 32 := Scalar.addi v2 c2_i32_3015
  let c32_i32_3016 : BitVec 32 := 32#32
  let c0_i32_3017 : BitVec 32 := 0#32
  let v3306 : BitVec 1 := Scalar.cmpi .eq c32_i32_3016 c0_i32_3017
  let c1_i32_3018 : BitVec 32 := 1#32
  let v3307 : BitVec 32 := Scalar.select v3306 c1_i32_3018 c32_i32_3016
  let v3308 : BitVec 32 := Scalar.remsi v3305 v3307
  let c0_i32_3020 : BitVec 32 := 0#32
  let v3310 : BitVec 1 := Scalar.cmpi .slt v3308 c0_i32_3020
  let c0_i32_3021 : BitVec 32 := 0#32
  let v3311 : BitVec 1 := Scalar.cmpi .slt v3307 c0_i32_3021
  let v3312 : BitVec 1 := Scalar.xori v3310 v3311
  let c0_i32_3019 : BitVec 32 := 0#32
  let v3309 : BitVec 1 := Scalar.cmpi .ne v3308 c0_i32_3019
  let v3313 : BitVec 1 := Scalar.andi v3312 v3309
  let v3314 : BitVec 32 := Scalar.addi v3308 v3307
  let v3315 : BitVec 32 := Scalar.select v3313 v3314 v3308
  let c1_i32_3027 : BitVec 32 := 1#32
  let v3317 : BitVec 32 := Scalar.muli v3315 c1_i32_3027
  let v3318 : BitVec 32 := Scalar.addi c0_i32_3028 v3317
  v3318.toNat
def k0_dev137 (d0 : Dev nD) : Nat :=
  let c0_i32_3045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3032 : BitVec 32 := 3#32
  let v3325 : BitVec 32 := Scalar.addi v2 c3_i32_3032
  let c32_i32_3033 : BitVec 32 := 32#32
  let c0_i32_3034 : BitVec 32 := 0#32
  let v3326 : BitVec 1 := Scalar.cmpi .eq c32_i32_3033 c0_i32_3034
  let c1_i32_3035 : BitVec 32 := 1#32
  let v3327 : BitVec 32 := Scalar.select v3326 c1_i32_3035 c32_i32_3033
  let v3328 : BitVec 32 := Scalar.remsi v3325 v3327
  let c0_i32_3037 : BitVec 32 := 0#32
  let v3330 : BitVec 1 := Scalar.cmpi .slt v3328 c0_i32_3037
  let c0_i32_3038 : BitVec 32 := 0#32
  let v3331 : BitVec 1 := Scalar.cmpi .slt v3327 c0_i32_3038
  let v3332 : BitVec 1 := Scalar.xori v3330 v3331
  let c0_i32_3036 : BitVec 32 := 0#32
  let v3329 : BitVec 1 := Scalar.cmpi .ne v3328 c0_i32_3036
  let v3333 : BitVec 1 := Scalar.andi v3332 v3329
  let v3334 : BitVec 32 := Scalar.addi v3328 v3327
  let v3335 : BitVec 32 := Scalar.select v3333 v3334 v3328
  let c1_i32_3044 : BitVec 32 := 1#32
  let v3337 : BitVec 32 := Scalar.muli v3335 c1_i32_3044
  let v3338 : BitVec 32 := Scalar.addi c0_i32_3045 v3337
  v3338.toNat
def k0_dev138 (d0 : Dev nD) : Nat :=
  let c0_i32_3062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3049 : BitVec 32 := 4#32
  let v3345 : BitVec 32 := Scalar.addi v2 c4_i32_3049
  let c32_i32_3050 : BitVec 32 := 32#32
  let c0_i32_3051 : BitVec 32 := 0#32
  let v3346 : BitVec 1 := Scalar.cmpi .eq c32_i32_3050 c0_i32_3051
  let c1_i32_3052 : BitVec 32 := 1#32
  let v3347 : BitVec 32 := Scalar.select v3346 c1_i32_3052 c32_i32_3050
  let v3348 : BitVec 32 := Scalar.remsi v3345 v3347
  let c0_i32_3054 : BitVec 32 := 0#32
  let v3350 : BitVec 1 := Scalar.cmpi .slt v3348 c0_i32_3054
  let c0_i32_3055 : BitVec 32 := 0#32
  let v3351 : BitVec 1 := Scalar.cmpi .slt v3347 c0_i32_3055
  let v3352 : BitVec 1 := Scalar.xori v3350 v3351
  let c0_i32_3053 : BitVec 32 := 0#32
  let v3349 : BitVec 1 := Scalar.cmpi .ne v3348 c0_i32_3053
  let v3353 : BitVec 1 := Scalar.andi v3352 v3349
  let v3354 : BitVec 32 := Scalar.addi v3348 v3347
  let v3355 : BitVec 32 := Scalar.select v3353 v3354 v3348
  let c1_i32_3061 : BitVec 32 := 1#32
  let v3357 : BitVec 32 := Scalar.muli v3355 c1_i32_3061
  let v3358 : BitVec 32 := Scalar.addi c0_i32_3062 v3357
  v3358.toNat
def k0_dev139 (d0 : Dev nD) : Nat :=
  let c0_i32_3079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3066 : BitVec 32 := 5#32
  let v3365 : BitVec 32 := Scalar.addi v2 c5_i32_3066
  let c32_i32_3067 : BitVec 32 := 32#32
  let c0_i32_3068 : BitVec 32 := 0#32
  let v3366 : BitVec 1 := Scalar.cmpi .eq c32_i32_3067 c0_i32_3068
  let c1_i32_3069 : BitVec 32 := 1#32
  let v3367 : BitVec 32 := Scalar.select v3366 c1_i32_3069 c32_i32_3067
  let v3368 : BitVec 32 := Scalar.remsi v3365 v3367
  let c0_i32_3071 : BitVec 32 := 0#32
  let v3370 : BitVec 1 := Scalar.cmpi .slt v3368 c0_i32_3071
  let c0_i32_3072 : BitVec 32 := 0#32
  let v3371 : BitVec 1 := Scalar.cmpi .slt v3367 c0_i32_3072
  let v3372 : BitVec 1 := Scalar.xori v3370 v3371
  let c0_i32_3070 : BitVec 32 := 0#32
  let v3369 : BitVec 1 := Scalar.cmpi .ne v3368 c0_i32_3070
  let v3373 : BitVec 1 := Scalar.andi v3372 v3369
  let v3374 : BitVec 32 := Scalar.addi v3368 v3367
  let v3375 : BitVec 32 := Scalar.select v3373 v3374 v3368
  let c1_i32_3078 : BitVec 32 := 1#32
  let v3377 : BitVec 32 := Scalar.muli v3375 c1_i32_3078
  let v3378 : BitVec 32 := Scalar.addi c0_i32_3079 v3377
  v3378.toNat
def k0_dev140 (d0 : Dev nD) : Nat :=
  let c0_i32_3096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3083 : BitVec 32 := 6#32
  let v3385 : BitVec 32 := Scalar.addi v2 c6_i32_3083
  let c32_i32_3084 : BitVec 32 := 32#32
  let c0_i32_3085 : BitVec 32 := 0#32
  let v3386 : BitVec 1 := Scalar.cmpi .eq c32_i32_3084 c0_i32_3085
  let c1_i32_3086 : BitVec 32 := 1#32
  let v3387 : BitVec 32 := Scalar.select v3386 c1_i32_3086 c32_i32_3084
  let v3388 : BitVec 32 := Scalar.remsi v3385 v3387
  let c0_i32_3088 : BitVec 32 := 0#32
  let v3390 : BitVec 1 := Scalar.cmpi .slt v3388 c0_i32_3088
  let c0_i32_3089 : BitVec 32 := 0#32
  let v3391 : BitVec 1 := Scalar.cmpi .slt v3387 c0_i32_3089
  let v3392 : BitVec 1 := Scalar.xori v3390 v3391
  let c0_i32_3087 : BitVec 32 := 0#32
  let v3389 : BitVec 1 := Scalar.cmpi .ne v3388 c0_i32_3087
  let v3393 : BitVec 1 := Scalar.andi v3392 v3389
  let v3394 : BitVec 32 := Scalar.addi v3388 v3387
  let v3395 : BitVec 32 := Scalar.select v3393 v3394 v3388
  let c1_i32_3095 : BitVec 32 := 1#32
  let v3397 : BitVec 32 := Scalar.muli v3395 c1_i32_3095
  let v3398 : BitVec 32 := Scalar.addi c0_i32_3096 v3397
  v3398.toNat
def k0_dev141 (d0 : Dev nD) : Nat :=
  let c0_i32_3113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3100 : BitVec 32 := 7#32
  let v3405 : BitVec 32 := Scalar.addi v2 c7_i32_3100
  let c32_i32_3101 : BitVec 32 := 32#32
  let c0_i32_3102 : BitVec 32 := 0#32
  let v3406 : BitVec 1 := Scalar.cmpi .eq c32_i32_3101 c0_i32_3102
  let c1_i32_3103 : BitVec 32 := 1#32
  let v3407 : BitVec 32 := Scalar.select v3406 c1_i32_3103 c32_i32_3101
  let v3408 : BitVec 32 := Scalar.remsi v3405 v3407
  let c0_i32_3105 : BitVec 32 := 0#32
  let v3410 : BitVec 1 := Scalar.cmpi .slt v3408 c0_i32_3105
  let c0_i32_3106 : BitVec 32 := 0#32
  let v3411 : BitVec 1 := Scalar.cmpi .slt v3407 c0_i32_3106
  let v3412 : BitVec 1 := Scalar.xori v3410 v3411
  let c0_i32_3104 : BitVec 32 := 0#32
  let v3409 : BitVec 1 := Scalar.cmpi .ne v3408 c0_i32_3104
  let v3413 : BitVec 1 := Scalar.andi v3412 v3409
  let v3414 : BitVec 32 := Scalar.addi v3408 v3407
  let v3415 : BitVec 32 := Scalar.select v3413 v3414 v3408
  let c1_i32_3112 : BitVec 32 := 1#32
  let v3417 : BitVec 32 := Scalar.muli v3415 c1_i32_3112
  let v3418 : BitVec 32 := Scalar.addi c0_i32_3113 v3417
  v3418.toNat
def k0_dev142 (d0 : Dev nD) : Nat :=
  let c0_i32_3130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3117 : BitVec 32 := 8#32
  let v3425 : BitVec 32 := Scalar.addi v2 c8_i32_3117
  let c32_i32_3118 : BitVec 32 := 32#32
  let c0_i32_3119 : BitVec 32 := 0#32
  let v3426 : BitVec 1 := Scalar.cmpi .eq c32_i32_3118 c0_i32_3119
  let c1_i32_3120 : BitVec 32 := 1#32
  let v3427 : BitVec 32 := Scalar.select v3426 c1_i32_3120 c32_i32_3118
  let v3428 : BitVec 32 := Scalar.remsi v3425 v3427
  let c0_i32_3122 : BitVec 32 := 0#32
  let v3430 : BitVec 1 := Scalar.cmpi .slt v3428 c0_i32_3122
  let c0_i32_3123 : BitVec 32 := 0#32
  let v3431 : BitVec 1 := Scalar.cmpi .slt v3427 c0_i32_3123
  let v3432 : BitVec 1 := Scalar.xori v3430 v3431
  let c0_i32_3121 : BitVec 32 := 0#32
  let v3429 : BitVec 1 := Scalar.cmpi .ne v3428 c0_i32_3121
  let v3433 : BitVec 1 := Scalar.andi v3432 v3429
  let v3434 : BitVec 32 := Scalar.addi v3428 v3427
  let v3435 : BitVec 32 := Scalar.select v3433 v3434 v3428
  let c1_i32_3129 : BitVec 32 := 1#32
  let v3437 : BitVec 32 := Scalar.muli v3435 c1_i32_3129
  let v3438 : BitVec 32 := Scalar.addi c0_i32_3130 v3437
  v3438.toNat
def k0_dev143 (d0 : Dev nD) : Nat :=
  let c0_i32_3147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3134 : BitVec 32 := 9#32
  let v3445 : BitVec 32 := Scalar.addi v2 c9_i32_3134
  let c32_i32_3135 : BitVec 32 := 32#32
  let c0_i32_3136 : BitVec 32 := 0#32
  let v3446 : BitVec 1 := Scalar.cmpi .eq c32_i32_3135 c0_i32_3136
  let c1_i32_3137 : BitVec 32 := 1#32
  let v3447 : BitVec 32 := Scalar.select v3446 c1_i32_3137 c32_i32_3135
  let v3448 : BitVec 32 := Scalar.remsi v3445 v3447
  let c0_i32_3139 : BitVec 32 := 0#32
  let v3450 : BitVec 1 := Scalar.cmpi .slt v3448 c0_i32_3139
  let c0_i32_3140 : BitVec 32 := 0#32
  let v3451 : BitVec 1 := Scalar.cmpi .slt v3447 c0_i32_3140
  let v3452 : BitVec 1 := Scalar.xori v3450 v3451
  let c0_i32_3138 : BitVec 32 := 0#32
  let v3449 : BitVec 1 := Scalar.cmpi .ne v3448 c0_i32_3138
  let v3453 : BitVec 1 := Scalar.andi v3452 v3449
  let v3454 : BitVec 32 := Scalar.addi v3448 v3447
  let v3455 : BitVec 32 := Scalar.select v3453 v3454 v3448
  let c1_i32_3146 : BitVec 32 := 1#32
  let v3457 : BitVec 32 := Scalar.muli v3455 c1_i32_3146
  let v3458 : BitVec 32 := Scalar.addi c0_i32_3147 v3457
  v3458.toNat
def k0_dev144 (d0 : Dev nD) : Nat :=
  let c0_i32_3164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3151 : BitVec 32 := 10#32
  let v3465 : BitVec 32 := Scalar.addi v2 c10_i32_3151
  let c32_i32_3152 : BitVec 32 := 32#32
  let c0_i32_3153 : BitVec 32 := 0#32
  let v3466 : BitVec 1 := Scalar.cmpi .eq c32_i32_3152 c0_i32_3153
  let c1_i32_3154 : BitVec 32 := 1#32
  let v3467 : BitVec 32 := Scalar.select v3466 c1_i32_3154 c32_i32_3152
  let v3468 : BitVec 32 := Scalar.remsi v3465 v3467
  let c0_i32_3156 : BitVec 32 := 0#32
  let v3470 : BitVec 1 := Scalar.cmpi .slt v3468 c0_i32_3156
  let c0_i32_3157 : BitVec 32 := 0#32
  let v3471 : BitVec 1 := Scalar.cmpi .slt v3467 c0_i32_3157
  let v3472 : BitVec 1 := Scalar.xori v3470 v3471
  let c0_i32_3155 : BitVec 32 := 0#32
  let v3469 : BitVec 1 := Scalar.cmpi .ne v3468 c0_i32_3155
  let v3473 : BitVec 1 := Scalar.andi v3472 v3469
  let v3474 : BitVec 32 := Scalar.addi v3468 v3467
  let v3475 : BitVec 32 := Scalar.select v3473 v3474 v3468
  let c1_i32_3163 : BitVec 32 := 1#32
  let v3477 : BitVec 32 := Scalar.muli v3475 c1_i32_3163
  let v3478 : BitVec 32 := Scalar.addi c0_i32_3164 v3477
  v3478.toNat
def k0_dev145 (d0 : Dev nD) : Nat :=
  let c0_i32_3181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3168 : BitVec 32 := 11#32
  let v3485 : BitVec 32 := Scalar.addi v2 c11_i32_3168
  let c32_i32_3169 : BitVec 32 := 32#32
  let c0_i32_3170 : BitVec 32 := 0#32
  let v3486 : BitVec 1 := Scalar.cmpi .eq c32_i32_3169 c0_i32_3170
  let c1_i32_3171 : BitVec 32 := 1#32
  let v3487 : BitVec 32 := Scalar.select v3486 c1_i32_3171 c32_i32_3169
  let v3488 : BitVec 32 := Scalar.remsi v3485 v3487
  let c0_i32_3173 : BitVec 32 := 0#32
  let v3490 : BitVec 1 := Scalar.cmpi .slt v3488 c0_i32_3173
  let c0_i32_3174 : BitVec 32 := 0#32
  let v3491 : BitVec 1 := Scalar.cmpi .slt v3487 c0_i32_3174
  let v3492 : BitVec 1 := Scalar.xori v3490 v3491
  let c0_i32_3172 : BitVec 32 := 0#32
  let v3489 : BitVec 1 := Scalar.cmpi .ne v3488 c0_i32_3172
  let v3493 : BitVec 1 := Scalar.andi v3492 v3489
  let v3494 : BitVec 32 := Scalar.addi v3488 v3487
  let v3495 : BitVec 32 := Scalar.select v3493 v3494 v3488
  let c1_i32_3180 : BitVec 32 := 1#32
  let v3497 : BitVec 32 := Scalar.muli v3495 c1_i32_3180
  let v3498 : BitVec 32 := Scalar.addi c0_i32_3181 v3497
  v3498.toNat
def k0_dev146 (d0 : Dev nD) : Nat :=
  let c0_i32_3198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3185 : BitVec 32 := 12#32
  let v3505 : BitVec 32 := Scalar.addi v2 c12_i32_3185
  let c32_i32_3186 : BitVec 32 := 32#32
  let c0_i32_3187 : BitVec 32 := 0#32
  let v3506 : BitVec 1 := Scalar.cmpi .eq c32_i32_3186 c0_i32_3187
  let c1_i32_3188 : BitVec 32 := 1#32
  let v3507 : BitVec 32 := Scalar.select v3506 c1_i32_3188 c32_i32_3186
  let v3508 : BitVec 32 := Scalar.remsi v3505 v3507
  let c0_i32_3190 : BitVec 32 := 0#32
  let v3510 : BitVec 1 := Scalar.cmpi .slt v3508 c0_i32_3190
  let c0_i32_3191 : BitVec 32 := 0#32
  let v3511 : BitVec 1 := Scalar.cmpi .slt v3507 c0_i32_3191
  let v3512 : BitVec 1 := Scalar.xori v3510 v3511
  let c0_i32_3189 : BitVec 32 := 0#32
  let v3509 : BitVec 1 := Scalar.cmpi .ne v3508 c0_i32_3189
  let v3513 : BitVec 1 := Scalar.andi v3512 v3509
  let v3514 : BitVec 32 := Scalar.addi v3508 v3507
  let v3515 : BitVec 32 := Scalar.select v3513 v3514 v3508
  let c1_i32_3197 : BitVec 32 := 1#32
  let v3517 : BitVec 32 := Scalar.muli v3515 c1_i32_3197
  let v3518 : BitVec 32 := Scalar.addi c0_i32_3198 v3517
  v3518.toNat
def k0_dev147 (d0 : Dev nD) : Nat :=
  let c0_i32_3215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3202 : BitVec 32 := 13#32
  let v3525 : BitVec 32 := Scalar.addi v2 c13_i32_3202
  let c32_i32_3203 : BitVec 32 := 32#32
  let c0_i32_3204 : BitVec 32 := 0#32
  let v3526 : BitVec 1 := Scalar.cmpi .eq c32_i32_3203 c0_i32_3204
  let c1_i32_3205 : BitVec 32 := 1#32
  let v3527 : BitVec 32 := Scalar.select v3526 c1_i32_3205 c32_i32_3203
  let v3528 : BitVec 32 := Scalar.remsi v3525 v3527
  let c0_i32_3207 : BitVec 32 := 0#32
  let v3530 : BitVec 1 := Scalar.cmpi .slt v3528 c0_i32_3207
  let c0_i32_3208 : BitVec 32 := 0#32
  let v3531 : BitVec 1 := Scalar.cmpi .slt v3527 c0_i32_3208
  let v3532 : BitVec 1 := Scalar.xori v3530 v3531
  let c0_i32_3206 : BitVec 32 := 0#32
  let v3529 : BitVec 1 := Scalar.cmpi .ne v3528 c0_i32_3206
  let v3533 : BitVec 1 := Scalar.andi v3532 v3529
  let v3534 : BitVec 32 := Scalar.addi v3528 v3527
  let v3535 : BitVec 32 := Scalar.select v3533 v3534 v3528
  let c1_i32_3214 : BitVec 32 := 1#32
  let v3537 : BitVec 32 := Scalar.muli v3535 c1_i32_3214
  let v3538 : BitVec 32 := Scalar.addi c0_i32_3215 v3537
  v3538.toNat
def k0_dev148 (d0 : Dev nD) : Nat :=
  let c0_i32_3232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3219 : BitVec 32 := 14#32
  let v3545 : BitVec 32 := Scalar.addi v2 c14_i32_3219
  let c32_i32_3220 : BitVec 32 := 32#32
  let c0_i32_3221 : BitVec 32 := 0#32
  let v3546 : BitVec 1 := Scalar.cmpi .eq c32_i32_3220 c0_i32_3221
  let c1_i32_3222 : BitVec 32 := 1#32
  let v3547 : BitVec 32 := Scalar.select v3546 c1_i32_3222 c32_i32_3220
  let v3548 : BitVec 32 := Scalar.remsi v3545 v3547
  let c0_i32_3224 : BitVec 32 := 0#32
  let v3550 : BitVec 1 := Scalar.cmpi .slt v3548 c0_i32_3224
  let c0_i32_3225 : BitVec 32 := 0#32
  let v3551 : BitVec 1 := Scalar.cmpi .slt v3547 c0_i32_3225
  let v3552 : BitVec 1 := Scalar.xori v3550 v3551
  let c0_i32_3223 : BitVec 32 := 0#32
  let v3549 : BitVec 1 := Scalar.cmpi .ne v3548 c0_i32_3223
  let v3553 : BitVec 1 := Scalar.andi v3552 v3549
  let v3554 : BitVec 32 := Scalar.addi v3548 v3547
  let v3555 : BitVec 32 := Scalar.select v3553 v3554 v3548
  let c1_i32_3231 : BitVec 32 := 1#32
  let v3557 : BitVec 32 := Scalar.muli v3555 c1_i32_3231
  let v3558 : BitVec 32 := Scalar.addi c0_i32_3232 v3557
  v3558.toNat
def k0_dev149 (d0 : Dev nD) : Nat :=
  let c0_i32_3249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3236 : BitVec 32 := 15#32
  let v3565 : BitVec 32 := Scalar.addi v2 c15_i32_3236
  let c32_i32_3237 : BitVec 32 := 32#32
  let c0_i32_3238 : BitVec 32 := 0#32
  let v3566 : BitVec 1 := Scalar.cmpi .eq c32_i32_3237 c0_i32_3238
  let c1_i32_3239 : BitVec 32 := 1#32
  let v3567 : BitVec 32 := Scalar.select v3566 c1_i32_3239 c32_i32_3237
  let v3568 : BitVec 32 := Scalar.remsi v3565 v3567
  let c0_i32_3241 : BitVec 32 := 0#32
  let v3570 : BitVec 1 := Scalar.cmpi .slt v3568 c0_i32_3241
  let c0_i32_3242 : BitVec 32 := 0#32
  let v3571 : BitVec 1 := Scalar.cmpi .slt v3567 c0_i32_3242
  let v3572 : BitVec 1 := Scalar.xori v3570 v3571
  let c0_i32_3240 : BitVec 32 := 0#32
  let v3569 : BitVec 1 := Scalar.cmpi .ne v3568 c0_i32_3240
  let v3573 : BitVec 1 := Scalar.andi v3572 v3569
  let v3574 : BitVec 32 := Scalar.addi v3568 v3567
  let v3575 : BitVec 32 := Scalar.select v3573 v3574 v3568
  let c1_i32_3248 : BitVec 32 := 1#32
  let v3577 : BitVec 32 := Scalar.muli v3575 c1_i32_3248
  let v3578 : BitVec 32 := Scalar.addi c0_i32_3249 v3577
  v3578.toNat
def k0_dev150 (d0 : Dev nD) : Nat :=
  let c0_i32_3266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3253 : BitVec 32 := 16#32
  let v3585 : BitVec 32 := Scalar.addi v2 c16_i32_3253
  let c32_i32_3254 : BitVec 32 := 32#32
  let c0_i32_3255 : BitVec 32 := 0#32
  let v3586 : BitVec 1 := Scalar.cmpi .eq c32_i32_3254 c0_i32_3255
  let c1_i32_3256 : BitVec 32 := 1#32
  let v3587 : BitVec 32 := Scalar.select v3586 c1_i32_3256 c32_i32_3254
  let v3588 : BitVec 32 := Scalar.remsi v3585 v3587
  let c0_i32_3258 : BitVec 32 := 0#32
  let v3590 : BitVec 1 := Scalar.cmpi .slt v3588 c0_i32_3258
  let c0_i32_3259 : BitVec 32 := 0#32
  let v3591 : BitVec 1 := Scalar.cmpi .slt v3587 c0_i32_3259
  let v3592 : BitVec 1 := Scalar.xori v3590 v3591
  let c0_i32_3257 : BitVec 32 := 0#32
  let v3589 : BitVec 1 := Scalar.cmpi .ne v3588 c0_i32_3257
  let v3593 : BitVec 1 := Scalar.andi v3592 v3589
  let v3594 : BitVec 32 := Scalar.addi v3588 v3587
  let v3595 : BitVec 32 := Scalar.select v3593 v3594 v3588
  let c1_i32_3265 : BitVec 32 := 1#32
  let v3597 : BitVec 32 := Scalar.muli v3595 c1_i32_3265
  let v3598 : BitVec 32 := Scalar.addi c0_i32_3266 v3597
  v3598.toNat
def k0_dev151 (d0 : Dev nD) : Nat :=
  let c0_i32_3283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3270 : BitVec 32 := 17#32
  let v3605 : BitVec 32 := Scalar.addi v2 c17_i32_3270
  let c32_i32_3271 : BitVec 32 := 32#32
  let c0_i32_3272 : BitVec 32 := 0#32
  let v3606 : BitVec 1 := Scalar.cmpi .eq c32_i32_3271 c0_i32_3272
  let c1_i32_3273 : BitVec 32 := 1#32
  let v3607 : BitVec 32 := Scalar.select v3606 c1_i32_3273 c32_i32_3271
  let v3608 : BitVec 32 := Scalar.remsi v3605 v3607
  let c0_i32_3275 : BitVec 32 := 0#32
  let v3610 : BitVec 1 := Scalar.cmpi .slt v3608 c0_i32_3275
  let c0_i32_3276 : BitVec 32 := 0#32
  let v3611 : BitVec 1 := Scalar.cmpi .slt v3607 c0_i32_3276
  let v3612 : BitVec 1 := Scalar.xori v3610 v3611
  let c0_i32_3274 : BitVec 32 := 0#32
  let v3609 : BitVec 1 := Scalar.cmpi .ne v3608 c0_i32_3274
  let v3613 : BitVec 1 := Scalar.andi v3612 v3609
  let v3614 : BitVec 32 := Scalar.addi v3608 v3607
  let v3615 : BitVec 32 := Scalar.select v3613 v3614 v3608
  let c1_i32_3282 : BitVec 32 := 1#32
  let v3617 : BitVec 32 := Scalar.muli v3615 c1_i32_3282
  let v3618 : BitVec 32 := Scalar.addi c0_i32_3283 v3617
  v3618.toNat
def k0_dev152 (d0 : Dev nD) : Nat :=
  let c0_i32_3300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3287 : BitVec 32 := 18#32
  let v3625 : BitVec 32 := Scalar.addi v2 c18_i32_3287
  let c32_i32_3288 : BitVec 32 := 32#32
  let c0_i32_3289 : BitVec 32 := 0#32
  let v3626 : BitVec 1 := Scalar.cmpi .eq c32_i32_3288 c0_i32_3289
  let c1_i32_3290 : BitVec 32 := 1#32
  let v3627 : BitVec 32 := Scalar.select v3626 c1_i32_3290 c32_i32_3288
  let v3628 : BitVec 32 := Scalar.remsi v3625 v3627
  let c0_i32_3292 : BitVec 32 := 0#32
  let v3630 : BitVec 1 := Scalar.cmpi .slt v3628 c0_i32_3292
  let c0_i32_3293 : BitVec 32 := 0#32
  let v3631 : BitVec 1 := Scalar.cmpi .slt v3627 c0_i32_3293
  let v3632 : BitVec 1 := Scalar.xori v3630 v3631
  let c0_i32_3291 : BitVec 32 := 0#32
  let v3629 : BitVec 1 := Scalar.cmpi .ne v3628 c0_i32_3291
  let v3633 : BitVec 1 := Scalar.andi v3632 v3629
  let v3634 : BitVec 32 := Scalar.addi v3628 v3627
  let v3635 : BitVec 32 := Scalar.select v3633 v3634 v3628
  let c1_i32_3299 : BitVec 32 := 1#32
  let v3637 : BitVec 32 := Scalar.muli v3635 c1_i32_3299
  let v3638 : BitVec 32 := Scalar.addi c0_i32_3300 v3637
  v3638.toNat
def k0_dev153 (d0 : Dev nD) : Nat :=
  let c0_i32_3317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3304 : BitVec 32 := 19#32
  let v3645 : BitVec 32 := Scalar.addi v2 c19_i32_3304
  let c32_i32_3305 : BitVec 32 := 32#32
  let c0_i32_3306 : BitVec 32 := 0#32
  let v3646 : BitVec 1 := Scalar.cmpi .eq c32_i32_3305 c0_i32_3306
  let c1_i32_3307 : BitVec 32 := 1#32
  let v3647 : BitVec 32 := Scalar.select v3646 c1_i32_3307 c32_i32_3305
  let v3648 : BitVec 32 := Scalar.remsi v3645 v3647
  let c0_i32_3309 : BitVec 32 := 0#32
  let v3650 : BitVec 1 := Scalar.cmpi .slt v3648 c0_i32_3309
  let c0_i32_3310 : BitVec 32 := 0#32
  let v3651 : BitVec 1 := Scalar.cmpi .slt v3647 c0_i32_3310
  let v3652 : BitVec 1 := Scalar.xori v3650 v3651
  let c0_i32_3308 : BitVec 32 := 0#32
  let v3649 : BitVec 1 := Scalar.cmpi .ne v3648 c0_i32_3308
  let v3653 : BitVec 1 := Scalar.andi v3652 v3649
  let v3654 : BitVec 32 := Scalar.addi v3648 v3647
  let v3655 : BitVec 32 := Scalar.select v3653 v3654 v3648
  let c1_i32_3316 : BitVec 32 := 1#32
  let v3657 : BitVec 32 := Scalar.muli v3655 c1_i32_3316
  let v3658 : BitVec 32 := Scalar.addi c0_i32_3317 v3657
  v3658.toNat
def k0_dev154 (d0 : Dev nD) : Nat :=
  let c0_i32_3334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3321 : BitVec 32 := 20#32
  let v3665 : BitVec 32 := Scalar.addi v2 c20_i32_3321
  let c32_i32_3322 : BitVec 32 := 32#32
  let c0_i32_3323 : BitVec 32 := 0#32
  let v3666 : BitVec 1 := Scalar.cmpi .eq c32_i32_3322 c0_i32_3323
  let c1_i32_3324 : BitVec 32 := 1#32
  let v3667 : BitVec 32 := Scalar.select v3666 c1_i32_3324 c32_i32_3322
  let v3668 : BitVec 32 := Scalar.remsi v3665 v3667
  let c0_i32_3326 : BitVec 32 := 0#32
  let v3670 : BitVec 1 := Scalar.cmpi .slt v3668 c0_i32_3326
  let c0_i32_3327 : BitVec 32 := 0#32
  let v3671 : BitVec 1 := Scalar.cmpi .slt v3667 c0_i32_3327
  let v3672 : BitVec 1 := Scalar.xori v3670 v3671
  let c0_i32_3325 : BitVec 32 := 0#32
  let v3669 : BitVec 1 := Scalar.cmpi .ne v3668 c0_i32_3325
  let v3673 : BitVec 1 := Scalar.andi v3672 v3669
  let v3674 : BitVec 32 := Scalar.addi v3668 v3667
  let v3675 : BitVec 32 := Scalar.select v3673 v3674 v3668
  let c1_i32_3333 : BitVec 32 := 1#32
  let v3677 : BitVec 32 := Scalar.muli v3675 c1_i32_3333
  let v3678 : BitVec 32 := Scalar.addi c0_i32_3334 v3677
  v3678.toNat
def k0_dev155 (d0 : Dev nD) : Nat :=
  let c0_i32_3351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3338 : BitVec 32 := 21#32
  let v3685 : BitVec 32 := Scalar.addi v2 c21_i32_3338
  let c32_i32_3339 : BitVec 32 := 32#32
  let c0_i32_3340 : BitVec 32 := 0#32
  let v3686 : BitVec 1 := Scalar.cmpi .eq c32_i32_3339 c0_i32_3340
  let c1_i32_3341 : BitVec 32 := 1#32
  let v3687 : BitVec 32 := Scalar.select v3686 c1_i32_3341 c32_i32_3339
  let v3688 : BitVec 32 := Scalar.remsi v3685 v3687
  let c0_i32_3343 : BitVec 32 := 0#32
  let v3690 : BitVec 1 := Scalar.cmpi .slt v3688 c0_i32_3343
  let c0_i32_3344 : BitVec 32 := 0#32
  let v3691 : BitVec 1 := Scalar.cmpi .slt v3687 c0_i32_3344
  let v3692 : BitVec 1 := Scalar.xori v3690 v3691
  let c0_i32_3342 : BitVec 32 := 0#32
  let v3689 : BitVec 1 := Scalar.cmpi .ne v3688 c0_i32_3342
  let v3693 : BitVec 1 := Scalar.andi v3692 v3689
  let v3694 : BitVec 32 := Scalar.addi v3688 v3687
  let v3695 : BitVec 32 := Scalar.select v3693 v3694 v3688
  let c1_i32_3350 : BitVec 32 := 1#32
  let v3697 : BitVec 32 := Scalar.muli v3695 c1_i32_3350
  let v3698 : BitVec 32 := Scalar.addi c0_i32_3351 v3697
  v3698.toNat
def k0_dev156 (d0 : Dev nD) : Nat :=
  let c0_i32_3368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3355 : BitVec 32 := 22#32
  let v3705 : BitVec 32 := Scalar.addi v2 c22_i32_3355
  let c32_i32_3356 : BitVec 32 := 32#32
  let c0_i32_3357 : BitVec 32 := 0#32
  let v3706 : BitVec 1 := Scalar.cmpi .eq c32_i32_3356 c0_i32_3357
  let c1_i32_3358 : BitVec 32 := 1#32
  let v3707 : BitVec 32 := Scalar.select v3706 c1_i32_3358 c32_i32_3356
  let v3708 : BitVec 32 := Scalar.remsi v3705 v3707
  let c0_i32_3360 : BitVec 32 := 0#32
  let v3710 : BitVec 1 := Scalar.cmpi .slt v3708 c0_i32_3360
  let c0_i32_3361 : BitVec 32 := 0#32
  let v3711 : BitVec 1 := Scalar.cmpi .slt v3707 c0_i32_3361
  let v3712 : BitVec 1 := Scalar.xori v3710 v3711
  let c0_i32_3359 : BitVec 32 := 0#32
  let v3709 : BitVec 1 := Scalar.cmpi .ne v3708 c0_i32_3359
  let v3713 : BitVec 1 := Scalar.andi v3712 v3709
  let v3714 : BitVec 32 := Scalar.addi v3708 v3707
  let v3715 : BitVec 32 := Scalar.select v3713 v3714 v3708
  let c1_i32_3367 : BitVec 32 := 1#32
  let v3717 : BitVec 32 := Scalar.muli v3715 c1_i32_3367
  let v3718 : BitVec 32 := Scalar.addi c0_i32_3368 v3717
  v3718.toNat
def k0_dev157 (d0 : Dev nD) : Nat :=
  let c0_i32_3385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3372 : BitVec 32 := 23#32
  let v3725 : BitVec 32 := Scalar.addi v2 c23_i32_3372
  let c32_i32_3373 : BitVec 32 := 32#32
  let c0_i32_3374 : BitVec 32 := 0#32
  let v3726 : BitVec 1 := Scalar.cmpi .eq c32_i32_3373 c0_i32_3374
  let c1_i32_3375 : BitVec 32 := 1#32
  let v3727 : BitVec 32 := Scalar.select v3726 c1_i32_3375 c32_i32_3373
  let v3728 : BitVec 32 := Scalar.remsi v3725 v3727
  let c0_i32_3377 : BitVec 32 := 0#32
  let v3730 : BitVec 1 := Scalar.cmpi .slt v3728 c0_i32_3377
  let c0_i32_3378 : BitVec 32 := 0#32
  let v3731 : BitVec 1 := Scalar.cmpi .slt v3727 c0_i32_3378
  let v3732 : BitVec 1 := Scalar.xori v3730 v3731
  let c0_i32_3376 : BitVec 32 := 0#32
  let v3729 : BitVec 1 := Scalar.cmpi .ne v3728 c0_i32_3376
  let v3733 : BitVec 1 := Scalar.andi v3732 v3729
  let v3734 : BitVec 32 := Scalar.addi v3728 v3727
  let v3735 : BitVec 32 := Scalar.select v3733 v3734 v3728
  let c1_i32_3384 : BitVec 32 := 1#32
  let v3737 : BitVec 32 := Scalar.muli v3735 c1_i32_3384
  let v3738 : BitVec 32 := Scalar.addi c0_i32_3385 v3737
  v3738.toNat
def k0_dev158 (d0 : Dev nD) : Nat :=
  let c0_i32_3402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3389 : BitVec 32 := 24#32
  let v3745 : BitVec 32 := Scalar.addi v2 c24_i32_3389
  let c32_i32_3390 : BitVec 32 := 32#32
  let c0_i32_3391 : BitVec 32 := 0#32
  let v3746 : BitVec 1 := Scalar.cmpi .eq c32_i32_3390 c0_i32_3391
  let c1_i32_3392 : BitVec 32 := 1#32
  let v3747 : BitVec 32 := Scalar.select v3746 c1_i32_3392 c32_i32_3390
  let v3748 : BitVec 32 := Scalar.remsi v3745 v3747
  let c0_i32_3394 : BitVec 32 := 0#32
  let v3750 : BitVec 1 := Scalar.cmpi .slt v3748 c0_i32_3394
  let c0_i32_3395 : BitVec 32 := 0#32
  let v3751 : BitVec 1 := Scalar.cmpi .slt v3747 c0_i32_3395
  let v3752 : BitVec 1 := Scalar.xori v3750 v3751
  let c0_i32_3393 : BitVec 32 := 0#32
  let v3749 : BitVec 1 := Scalar.cmpi .ne v3748 c0_i32_3393
  let v3753 : BitVec 1 := Scalar.andi v3752 v3749
  let v3754 : BitVec 32 := Scalar.addi v3748 v3747
  let v3755 : BitVec 32 := Scalar.select v3753 v3754 v3748
  let c1_i32_3401 : BitVec 32 := 1#32
  let v3757 : BitVec 32 := Scalar.muli v3755 c1_i32_3401
  let v3758 : BitVec 32 := Scalar.addi c0_i32_3402 v3757
  v3758.toNat
def k0_dev159 (d0 : Dev nD) : Nat :=
  let c0_i32_3419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3406 : BitVec 32 := 25#32
  let v3765 : BitVec 32 := Scalar.addi v2 c25_i32_3406
  let c32_i32_3407 : BitVec 32 := 32#32
  let c0_i32_3408 : BitVec 32 := 0#32
  let v3766 : BitVec 1 := Scalar.cmpi .eq c32_i32_3407 c0_i32_3408
  let c1_i32_3409 : BitVec 32 := 1#32
  let v3767 : BitVec 32 := Scalar.select v3766 c1_i32_3409 c32_i32_3407
  let v3768 : BitVec 32 := Scalar.remsi v3765 v3767
  let c0_i32_3411 : BitVec 32 := 0#32
  let v3770 : BitVec 1 := Scalar.cmpi .slt v3768 c0_i32_3411
  let c0_i32_3412 : BitVec 32 := 0#32
  let v3771 : BitVec 1 := Scalar.cmpi .slt v3767 c0_i32_3412
  let v3772 : BitVec 1 := Scalar.xori v3770 v3771
  let c0_i32_3410 : BitVec 32 := 0#32
  let v3769 : BitVec 1 := Scalar.cmpi .ne v3768 c0_i32_3410
  let v3773 : BitVec 1 := Scalar.andi v3772 v3769
  let v3774 : BitVec 32 := Scalar.addi v3768 v3767
  let v3775 : BitVec 32 := Scalar.select v3773 v3774 v3768
  let c1_i32_3418 : BitVec 32 := 1#32
  let v3777 : BitVec 32 := Scalar.muli v3775 c1_i32_3418
  let v3778 : BitVec 32 := Scalar.addi c0_i32_3419 v3777
  v3778.toNat
def k0_dev160 (d0 : Dev nD) : Nat :=
  let c0_i32_3436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3423 : BitVec 32 := 26#32
  let v3785 : BitVec 32 := Scalar.addi v2 c26_i32_3423
  let c32_i32_3424 : BitVec 32 := 32#32
  let c0_i32_3425 : BitVec 32 := 0#32
  let v3786 : BitVec 1 := Scalar.cmpi .eq c32_i32_3424 c0_i32_3425
  let c1_i32_3426 : BitVec 32 := 1#32
  let v3787 : BitVec 32 := Scalar.select v3786 c1_i32_3426 c32_i32_3424
  let v3788 : BitVec 32 := Scalar.remsi v3785 v3787
  let c0_i32_3428 : BitVec 32 := 0#32
  let v3790 : BitVec 1 := Scalar.cmpi .slt v3788 c0_i32_3428
  let c0_i32_3429 : BitVec 32 := 0#32
  let v3791 : BitVec 1 := Scalar.cmpi .slt v3787 c0_i32_3429
  let v3792 : BitVec 1 := Scalar.xori v3790 v3791
  let c0_i32_3427 : BitVec 32 := 0#32
  let v3789 : BitVec 1 := Scalar.cmpi .ne v3788 c0_i32_3427
  let v3793 : BitVec 1 := Scalar.andi v3792 v3789
  let v3794 : BitVec 32 := Scalar.addi v3788 v3787
  let v3795 : BitVec 32 := Scalar.select v3793 v3794 v3788
  let c1_i32_3435 : BitVec 32 := 1#32
  let v3797 : BitVec 32 := Scalar.muli v3795 c1_i32_3435
  let v3798 : BitVec 32 := Scalar.addi c0_i32_3436 v3797
  v3798.toNat
def k0_dev161 (d0 : Dev nD) : Nat :=
  let c0_i32_3453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3440 : BitVec 32 := 27#32
  let v3805 : BitVec 32 := Scalar.addi v2 c27_i32_3440
  let c32_i32_3441 : BitVec 32 := 32#32
  let c0_i32_3442 : BitVec 32 := 0#32
  let v3806 : BitVec 1 := Scalar.cmpi .eq c32_i32_3441 c0_i32_3442
  let c1_i32_3443 : BitVec 32 := 1#32
  let v3807 : BitVec 32 := Scalar.select v3806 c1_i32_3443 c32_i32_3441
  let v3808 : BitVec 32 := Scalar.remsi v3805 v3807
  let c0_i32_3445 : BitVec 32 := 0#32
  let v3810 : BitVec 1 := Scalar.cmpi .slt v3808 c0_i32_3445
  let c0_i32_3446 : BitVec 32 := 0#32
  let v3811 : BitVec 1 := Scalar.cmpi .slt v3807 c0_i32_3446
  let v3812 : BitVec 1 := Scalar.xori v3810 v3811
  let c0_i32_3444 : BitVec 32 := 0#32
  let v3809 : BitVec 1 := Scalar.cmpi .ne v3808 c0_i32_3444
  let v3813 : BitVec 1 := Scalar.andi v3812 v3809
  let v3814 : BitVec 32 := Scalar.addi v3808 v3807
  let v3815 : BitVec 32 := Scalar.select v3813 v3814 v3808
  let c1_i32_3452 : BitVec 32 := 1#32
  let v3817 : BitVec 32 := Scalar.muli v3815 c1_i32_3452
  let v3818 : BitVec 32 := Scalar.addi c0_i32_3453 v3817
  v3818.toNat
def k0_dev162 (d0 : Dev nD) : Nat :=
  let c0_i32_3470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3457 : BitVec 32 := 28#32
  let v3825 : BitVec 32 := Scalar.addi v2 c28_i32_3457
  let c32_i32_3458 : BitVec 32 := 32#32
  let c0_i32_3459 : BitVec 32 := 0#32
  let v3826 : BitVec 1 := Scalar.cmpi .eq c32_i32_3458 c0_i32_3459
  let c1_i32_3460 : BitVec 32 := 1#32
  let v3827 : BitVec 32 := Scalar.select v3826 c1_i32_3460 c32_i32_3458
  let v3828 : BitVec 32 := Scalar.remsi v3825 v3827
  let c0_i32_3462 : BitVec 32 := 0#32
  let v3830 : BitVec 1 := Scalar.cmpi .slt v3828 c0_i32_3462
  let c0_i32_3463 : BitVec 32 := 0#32
  let v3831 : BitVec 1 := Scalar.cmpi .slt v3827 c0_i32_3463
  let v3832 : BitVec 1 := Scalar.xori v3830 v3831
  let c0_i32_3461 : BitVec 32 := 0#32
  let v3829 : BitVec 1 := Scalar.cmpi .ne v3828 c0_i32_3461
  let v3833 : BitVec 1 := Scalar.andi v3832 v3829
  let v3834 : BitVec 32 := Scalar.addi v3828 v3827
  let v3835 : BitVec 32 := Scalar.select v3833 v3834 v3828
  let c1_i32_3469 : BitVec 32 := 1#32
  let v3837 : BitVec 32 := Scalar.muli v3835 c1_i32_3469
  let v3838 : BitVec 32 := Scalar.addi c0_i32_3470 v3837
  v3838.toNat
def k0_dev163 (d0 : Dev nD) : Nat :=
  let c0_i32_3487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3474 : BitVec 32 := 29#32
  let v3845 : BitVec 32 := Scalar.addi v2 c29_i32_3474
  let c32_i32_3475 : BitVec 32 := 32#32
  let c0_i32_3476 : BitVec 32 := 0#32
  let v3846 : BitVec 1 := Scalar.cmpi .eq c32_i32_3475 c0_i32_3476
  let c1_i32_3477 : BitVec 32 := 1#32
  let v3847 : BitVec 32 := Scalar.select v3846 c1_i32_3477 c32_i32_3475
  let v3848 : BitVec 32 := Scalar.remsi v3845 v3847
  let c0_i32_3479 : BitVec 32 := 0#32
  let v3850 : BitVec 1 := Scalar.cmpi .slt v3848 c0_i32_3479
  let c0_i32_3480 : BitVec 32 := 0#32
  let v3851 : BitVec 1 := Scalar.cmpi .slt v3847 c0_i32_3480
  let v3852 : BitVec 1 := Scalar.xori v3850 v3851
  let c0_i32_3478 : BitVec 32 := 0#32
  let v3849 : BitVec 1 := Scalar.cmpi .ne v3848 c0_i32_3478
  let v3853 : BitVec 1 := Scalar.andi v3852 v3849
  let v3854 : BitVec 32 := Scalar.addi v3848 v3847
  let v3855 : BitVec 32 := Scalar.select v3853 v3854 v3848
  let c1_i32_3486 : BitVec 32 := 1#32
  let v3857 : BitVec 32 := Scalar.muli v3855 c1_i32_3486
  let v3858 : BitVec 32 := Scalar.addi c0_i32_3487 v3857
  v3858.toNat
def k0_dev164 (d0 : Dev nD) : Nat :=
  let c0_i32_3504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3491 : BitVec 32 := 30#32
  let v3865 : BitVec 32 := Scalar.addi v2 c30_i32_3491
  let c32_i32_3492 : BitVec 32 := 32#32
  let c0_i32_3493 : BitVec 32 := 0#32
  let v3866 : BitVec 1 := Scalar.cmpi .eq c32_i32_3492 c0_i32_3493
  let c1_i32_3494 : BitVec 32 := 1#32
  let v3867 : BitVec 32 := Scalar.select v3866 c1_i32_3494 c32_i32_3492
  let v3868 : BitVec 32 := Scalar.remsi v3865 v3867
  let c0_i32_3496 : BitVec 32 := 0#32
  let v3870 : BitVec 1 := Scalar.cmpi .slt v3868 c0_i32_3496
  let c0_i32_3497 : BitVec 32 := 0#32
  let v3871 : BitVec 1 := Scalar.cmpi .slt v3867 c0_i32_3497
  let v3872 : BitVec 1 := Scalar.xori v3870 v3871
  let c0_i32_3495 : BitVec 32 := 0#32
  let v3869 : BitVec 1 := Scalar.cmpi .ne v3868 c0_i32_3495
  let v3873 : BitVec 1 := Scalar.andi v3872 v3869
  let v3874 : BitVec 32 := Scalar.addi v3868 v3867
  let v3875 : BitVec 32 := Scalar.select v3873 v3874 v3868
  let c1_i32_3503 : BitVec 32 := 1#32
  let v3877 : BitVec 32 := Scalar.muli v3875 c1_i32_3503
  let v3878 : BitVec 32 := Scalar.addi c0_i32_3504 v3877
  v3878.toNat
def k0_dev165 (d0 : Dev nD) : Nat :=
  let c0_i32_3521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3508 : BitVec 32 := 31#32
  let v3885 : BitVec 32 := Scalar.addi v2 c31_i32_3508
  let c32_i32_3509 : BitVec 32 := 32#32
  let c0_i32_3510 : BitVec 32 := 0#32
  let v3886 : BitVec 1 := Scalar.cmpi .eq c32_i32_3509 c0_i32_3510
  let c1_i32_3511 : BitVec 32 := 1#32
  let v3887 : BitVec 32 := Scalar.select v3886 c1_i32_3511 c32_i32_3509
  let v3888 : BitVec 32 := Scalar.remsi v3885 v3887
  let c0_i32_3513 : BitVec 32 := 0#32
  let v3890 : BitVec 1 := Scalar.cmpi .slt v3888 c0_i32_3513
  let c0_i32_3514 : BitVec 32 := 0#32
  let v3891 : BitVec 1 := Scalar.cmpi .slt v3887 c0_i32_3514
  let v3892 : BitVec 1 := Scalar.xori v3890 v3891
  let c0_i32_3512 : BitVec 32 := 0#32
  let v3889 : BitVec 1 := Scalar.cmpi .ne v3888 c0_i32_3512
  let v3893 : BitVec 1 := Scalar.andi v3892 v3889
  let v3894 : BitVec 32 := Scalar.addi v3888 v3887
  let v3895 : BitVec 32 := Scalar.select v3893 v3894 v3888
  let c1_i32_3520 : BitVec 32 := 1#32
  let v3897 : BitVec 32 := Scalar.muli v3895 c1_i32_3520
  let v3898 : BitVec 32 := Scalar.addi c0_i32_3521 v3897
  v3898.toNat
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3525 : BitVec 32 := 24#32
  let v3905 : BitVec 32 := Scalar.muli v2 c24_i32_3525
  let c512_i32_3535 : BitVec 32 := 512#32
  ![v3905.toNat, 512]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3866 : BitVec 32 := 24#32
  let v4153 : BitVec 32 := Scalar.muli v2 c24_i32_3866
  let v4154 : Index := Scalar.indexCast v4153
  let c512 : Index := 512#32
  ![v4154.toNat, 512]
def k0_dev166 (d0 : Dev nD) : Nat :=
  let c0_i32_3890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3877 : BitVec 32 := 1#32
  let v4169 : BitVec 32 := Scalar.addi v2 c1_i32_3877
  let c32_i32_3878 : BitVec 32 := 32#32
  let c0_i32_3879 : BitVec 32 := 0#32
  let v4170 : BitVec 1 := Scalar.cmpi .eq c32_i32_3878 c0_i32_3879
  let c1_i32_3880 : BitVec 32 := 1#32
  let v4171 : BitVec 32 := Scalar.select v4170 c1_i32_3880 c32_i32_3878
  let v4172 : BitVec 32 := Scalar.remsi v4169 v4171
  let c0_i32_3882 : BitVec 32 := 0#32
  let v4174 : BitVec 1 := Scalar.cmpi .slt v4172 c0_i32_3882
  let c0_i32_3883 : BitVec 32 := 0#32
  let v4175 : BitVec 1 := Scalar.cmpi .slt v4171 c0_i32_3883
  let v4176 : BitVec 1 := Scalar.xori v4174 v4175
  let c0_i32_3881 : BitVec 32 := 0#32
  let v4173 : BitVec 1 := Scalar.cmpi .ne v4172 c0_i32_3881
  let v4177 : BitVec 1 := Scalar.andi v4176 v4173
  let v4178 : BitVec 32 := Scalar.addi v4172 v4171
  let v4179 : BitVec 32 := Scalar.select v4177 v4178 v4172
  let c1_i32_3889 : BitVec 32 := 1#32
  let v4181 : BitVec 32 := Scalar.muli v4179 c1_i32_3889
  let v4182 : BitVec 32 := Scalar.addi c0_i32_3890 v4181
  v4182.toNat
def k0_dev167 (d0 : Dev nD) : Nat :=
  let c0_i32_3907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3894 : BitVec 32 := 2#32
  let v4189 : BitVec 32 := Scalar.addi v2 c2_i32_3894
  let c32_i32_3895 : BitVec 32 := 32#32
  let c0_i32_3896 : BitVec 32 := 0#32
  let v4190 : BitVec 1 := Scalar.cmpi .eq c32_i32_3895 c0_i32_3896
  let c1_i32_3897 : BitVec 32 := 1#32
  let v4191 : BitVec 32 := Scalar.select v4190 c1_i32_3897 c32_i32_3895
  let v4192 : BitVec 32 := Scalar.remsi v4189 v4191
  let c0_i32_3899 : BitVec 32 := 0#32
  let v4194 : BitVec 1 := Scalar.cmpi .slt v4192 c0_i32_3899
  let c0_i32_3900 : BitVec 32 := 0#32
  let v4195 : BitVec 1 := Scalar.cmpi .slt v4191 c0_i32_3900
  let v4196 : BitVec 1 := Scalar.xori v4194 v4195
  let c0_i32_3898 : BitVec 32 := 0#32
  let v4193 : BitVec 1 := Scalar.cmpi .ne v4192 c0_i32_3898
  let v4197 : BitVec 1 := Scalar.andi v4196 v4193
  let v4198 : BitVec 32 := Scalar.addi v4192 v4191
  let v4199 : BitVec 32 := Scalar.select v4197 v4198 v4192
  let c1_i32_3906 : BitVec 32 := 1#32
  let v4201 : BitVec 32 := Scalar.muli v4199 c1_i32_3906
  let v4202 : BitVec 32 := Scalar.addi c0_i32_3907 v4201
  v4202.toNat
def k0_dev168 (d0 : Dev nD) : Nat :=
  let c0_i32_3924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3911 : BitVec 32 := 3#32
  let v4209 : BitVec 32 := Scalar.addi v2 c3_i32_3911
  let c32_i32_3912 : BitVec 32 := 32#32
  let c0_i32_3913 : BitVec 32 := 0#32
  let v4210 : BitVec 1 := Scalar.cmpi .eq c32_i32_3912 c0_i32_3913
  let c1_i32_3914 : BitVec 32 := 1#32
  let v4211 : BitVec 32 := Scalar.select v4210 c1_i32_3914 c32_i32_3912
  let v4212 : BitVec 32 := Scalar.remsi v4209 v4211
  let c0_i32_3916 : BitVec 32 := 0#32
  let v4214 : BitVec 1 := Scalar.cmpi .slt v4212 c0_i32_3916
  let c0_i32_3917 : BitVec 32 := 0#32
  let v4215 : BitVec 1 := Scalar.cmpi .slt v4211 c0_i32_3917
  let v4216 : BitVec 1 := Scalar.xori v4214 v4215
  let c0_i32_3915 : BitVec 32 := 0#32
  let v4213 : BitVec 1 := Scalar.cmpi .ne v4212 c0_i32_3915
  let v4217 : BitVec 1 := Scalar.andi v4216 v4213
  let v4218 : BitVec 32 := Scalar.addi v4212 v4211
  let v4219 : BitVec 32 := Scalar.select v4217 v4218 v4212
  let c1_i32_3923 : BitVec 32 := 1#32
  let v4221 : BitVec 32 := Scalar.muli v4219 c1_i32_3923
  let v4222 : BitVec 32 := Scalar.addi c0_i32_3924 v4221
  v4222.toNat
def k0_dev169 (d0 : Dev nD) : Nat :=
  let c0_i32_3941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3928 : BitVec 32 := 4#32
  let v4229 : BitVec 32 := Scalar.addi v2 c4_i32_3928
  let c32_i32_3929 : BitVec 32 := 32#32
  let c0_i32_3930 : BitVec 32 := 0#32
  let v4230 : BitVec 1 := Scalar.cmpi .eq c32_i32_3929 c0_i32_3930
  let c1_i32_3931 : BitVec 32 := 1#32
  let v4231 : BitVec 32 := Scalar.select v4230 c1_i32_3931 c32_i32_3929
  let v4232 : BitVec 32 := Scalar.remsi v4229 v4231
  let c0_i32_3933 : BitVec 32 := 0#32
  let v4234 : BitVec 1 := Scalar.cmpi .slt v4232 c0_i32_3933
  let c0_i32_3934 : BitVec 32 := 0#32
  let v4235 : BitVec 1 := Scalar.cmpi .slt v4231 c0_i32_3934
  let v4236 : BitVec 1 := Scalar.xori v4234 v4235
  let c0_i32_3932 : BitVec 32 := 0#32
  let v4233 : BitVec 1 := Scalar.cmpi .ne v4232 c0_i32_3932
  let v4237 : BitVec 1 := Scalar.andi v4236 v4233
  let v4238 : BitVec 32 := Scalar.addi v4232 v4231
  let v4239 : BitVec 32 := Scalar.select v4237 v4238 v4232
  let c1_i32_3940 : BitVec 32 := 1#32
  let v4241 : BitVec 32 := Scalar.muli v4239 c1_i32_3940
  let v4242 : BitVec 32 := Scalar.addi c0_i32_3941 v4241
  v4242.toNat
def k0_dev170 (d0 : Dev nD) : Nat :=
  let c0_i32_3958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3945 : BitVec 32 := 5#32
  let v4249 : BitVec 32 := Scalar.addi v2 c5_i32_3945
  let c32_i32_3946 : BitVec 32 := 32#32
  let c0_i32_3947 : BitVec 32 := 0#32
  let v4250 : BitVec 1 := Scalar.cmpi .eq c32_i32_3946 c0_i32_3947
  let c1_i32_3948 : BitVec 32 := 1#32
  let v4251 : BitVec 32 := Scalar.select v4250 c1_i32_3948 c32_i32_3946
  let v4252 : BitVec 32 := Scalar.remsi v4249 v4251
  let c0_i32_3950 : BitVec 32 := 0#32
  let v4254 : BitVec 1 := Scalar.cmpi .slt v4252 c0_i32_3950
  let c0_i32_3951 : BitVec 32 := 0#32
  let v4255 : BitVec 1 := Scalar.cmpi .slt v4251 c0_i32_3951
  let v4256 : BitVec 1 := Scalar.xori v4254 v4255
  let c0_i32_3949 : BitVec 32 := 0#32
  let v4253 : BitVec 1 := Scalar.cmpi .ne v4252 c0_i32_3949
  let v4257 : BitVec 1 := Scalar.andi v4256 v4253
  let v4258 : BitVec 32 := Scalar.addi v4252 v4251
  let v4259 : BitVec 32 := Scalar.select v4257 v4258 v4252
  let c1_i32_3957 : BitVec 32 := 1#32
  let v4261 : BitVec 32 := Scalar.muli v4259 c1_i32_3957
  let v4262 : BitVec 32 := Scalar.addi c0_i32_3958 v4261
  v4262.toNat
def k0_dev171 (d0 : Dev nD) : Nat :=
  let c0_i32_3975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3962 : BitVec 32 := 6#32
  let v4269 : BitVec 32 := Scalar.addi v2 c6_i32_3962
  let c32_i32_3963 : BitVec 32 := 32#32
  let c0_i32_3964 : BitVec 32 := 0#32
  let v4270 : BitVec 1 := Scalar.cmpi .eq c32_i32_3963 c0_i32_3964
  let c1_i32_3965 : BitVec 32 := 1#32
  let v4271 : BitVec 32 := Scalar.select v4270 c1_i32_3965 c32_i32_3963
  let v4272 : BitVec 32 := Scalar.remsi v4269 v4271
  let c0_i32_3967 : BitVec 32 := 0#32
  let v4274 : BitVec 1 := Scalar.cmpi .slt v4272 c0_i32_3967
  let c0_i32_3968 : BitVec 32 := 0#32
  let v4275 : BitVec 1 := Scalar.cmpi .slt v4271 c0_i32_3968
  let v4276 : BitVec 1 := Scalar.xori v4274 v4275
  let c0_i32_3966 : BitVec 32 := 0#32
  let v4273 : BitVec 1 := Scalar.cmpi .ne v4272 c0_i32_3966
  let v4277 : BitVec 1 := Scalar.andi v4276 v4273
  let v4278 : BitVec 32 := Scalar.addi v4272 v4271
  let v4279 : BitVec 32 := Scalar.select v4277 v4278 v4272
  let c1_i32_3974 : BitVec 32 := 1#32
  let v4281 : BitVec 32 := Scalar.muli v4279 c1_i32_3974
  let v4282 : BitVec 32 := Scalar.addi c0_i32_3975 v4281
  v4282.toNat
def k0_dev172 (d0 : Dev nD) : Nat :=
  let c0_i32_3992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3979 : BitVec 32 := 7#32
  let v4289 : BitVec 32 := Scalar.addi v2 c7_i32_3979
  let c32_i32_3980 : BitVec 32 := 32#32
  let c0_i32_3981 : BitVec 32 := 0#32
  let v4290 : BitVec 1 := Scalar.cmpi .eq c32_i32_3980 c0_i32_3981
  let c1_i32_3982 : BitVec 32 := 1#32
  let v4291 : BitVec 32 := Scalar.select v4290 c1_i32_3982 c32_i32_3980
  let v4292 : BitVec 32 := Scalar.remsi v4289 v4291
  let c0_i32_3984 : BitVec 32 := 0#32
  let v4294 : BitVec 1 := Scalar.cmpi .slt v4292 c0_i32_3984
  let c0_i32_3985 : BitVec 32 := 0#32
  let v4295 : BitVec 1 := Scalar.cmpi .slt v4291 c0_i32_3985
  let v4296 : BitVec 1 := Scalar.xori v4294 v4295
  let c0_i32_3983 : BitVec 32 := 0#32
  let v4293 : BitVec 1 := Scalar.cmpi .ne v4292 c0_i32_3983
  let v4297 : BitVec 1 := Scalar.andi v4296 v4293
  let v4298 : BitVec 32 := Scalar.addi v4292 v4291
  let v4299 : BitVec 32 := Scalar.select v4297 v4298 v4292
  let c1_i32_3991 : BitVec 32 := 1#32
  let v4301 : BitVec 32 := Scalar.muli v4299 c1_i32_3991
  let v4302 : BitVec 32 := Scalar.addi c0_i32_3992 v4301
  v4302.toNat
def k0_dev173 (d0 : Dev nD) : Nat :=
  let c0_i32_4009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3996 : BitVec 32 := 8#32
  let v4309 : BitVec 32 := Scalar.addi v2 c8_i32_3996
  let c32_i32_3997 : BitVec 32 := 32#32
  let c0_i32_3998 : BitVec 32 := 0#32
  let v4310 : BitVec 1 := Scalar.cmpi .eq c32_i32_3997 c0_i32_3998
  let c1_i32_3999 : BitVec 32 := 1#32
  let v4311 : BitVec 32 := Scalar.select v4310 c1_i32_3999 c32_i32_3997
  let v4312 : BitVec 32 := Scalar.remsi v4309 v4311
  let c0_i32_4001 : BitVec 32 := 0#32
  let v4314 : BitVec 1 := Scalar.cmpi .slt v4312 c0_i32_4001
  let c0_i32_4002 : BitVec 32 := 0#32
  let v4315 : BitVec 1 := Scalar.cmpi .slt v4311 c0_i32_4002
  let v4316 : BitVec 1 := Scalar.xori v4314 v4315
  let c0_i32_4000 : BitVec 32 := 0#32
  let v4313 : BitVec 1 := Scalar.cmpi .ne v4312 c0_i32_4000
  let v4317 : BitVec 1 := Scalar.andi v4316 v4313
  let v4318 : BitVec 32 := Scalar.addi v4312 v4311
  let v4319 : BitVec 32 := Scalar.select v4317 v4318 v4312
  let c1_i32_4008 : BitVec 32 := 1#32
  let v4321 : BitVec 32 := Scalar.muli v4319 c1_i32_4008
  let v4322 : BitVec 32 := Scalar.addi c0_i32_4009 v4321
  v4322.toNat
def k0_dev174 (d0 : Dev nD) : Nat :=
  let c0_i32_4026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4013 : BitVec 32 := 9#32
  let v4329 : BitVec 32 := Scalar.addi v2 c9_i32_4013
  let c32_i32_4014 : BitVec 32 := 32#32
  let c0_i32_4015 : BitVec 32 := 0#32
  let v4330 : BitVec 1 := Scalar.cmpi .eq c32_i32_4014 c0_i32_4015
  let c1_i32_4016 : BitVec 32 := 1#32
  let v4331 : BitVec 32 := Scalar.select v4330 c1_i32_4016 c32_i32_4014
  let v4332 : BitVec 32 := Scalar.remsi v4329 v4331
  let c0_i32_4018 : BitVec 32 := 0#32
  let v4334 : BitVec 1 := Scalar.cmpi .slt v4332 c0_i32_4018
  let c0_i32_4019 : BitVec 32 := 0#32
  let v4335 : BitVec 1 := Scalar.cmpi .slt v4331 c0_i32_4019
  let v4336 : BitVec 1 := Scalar.xori v4334 v4335
  let c0_i32_4017 : BitVec 32 := 0#32
  let v4333 : BitVec 1 := Scalar.cmpi .ne v4332 c0_i32_4017
  let v4337 : BitVec 1 := Scalar.andi v4336 v4333
  let v4338 : BitVec 32 := Scalar.addi v4332 v4331
  let v4339 : BitVec 32 := Scalar.select v4337 v4338 v4332
  let c1_i32_4025 : BitVec 32 := 1#32
  let v4341 : BitVec 32 := Scalar.muli v4339 c1_i32_4025
  let v4342 : BitVec 32 := Scalar.addi c0_i32_4026 v4341
  v4342.toNat
def k0_dev175 (d0 : Dev nD) : Nat :=
  let c0_i32_4043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4030 : BitVec 32 := 10#32
  let v4349 : BitVec 32 := Scalar.addi v2 c10_i32_4030
  let c32_i32_4031 : BitVec 32 := 32#32
  let c0_i32_4032 : BitVec 32 := 0#32
  let v4350 : BitVec 1 := Scalar.cmpi .eq c32_i32_4031 c0_i32_4032
  let c1_i32_4033 : BitVec 32 := 1#32
  let v4351 : BitVec 32 := Scalar.select v4350 c1_i32_4033 c32_i32_4031
  let v4352 : BitVec 32 := Scalar.remsi v4349 v4351
  let c0_i32_4035 : BitVec 32 := 0#32
  let v4354 : BitVec 1 := Scalar.cmpi .slt v4352 c0_i32_4035
  let c0_i32_4036 : BitVec 32 := 0#32
  let v4355 : BitVec 1 := Scalar.cmpi .slt v4351 c0_i32_4036
  let v4356 : BitVec 1 := Scalar.xori v4354 v4355
  let c0_i32_4034 : BitVec 32 := 0#32
  let v4353 : BitVec 1 := Scalar.cmpi .ne v4352 c0_i32_4034
  let v4357 : BitVec 1 := Scalar.andi v4356 v4353
  let v4358 : BitVec 32 := Scalar.addi v4352 v4351
  let v4359 : BitVec 32 := Scalar.select v4357 v4358 v4352
  let c1_i32_4042 : BitVec 32 := 1#32
  let v4361 : BitVec 32 := Scalar.muli v4359 c1_i32_4042
  let v4362 : BitVec 32 := Scalar.addi c0_i32_4043 v4361
  v4362.toNat
def k0_dev176 (d0 : Dev nD) : Nat :=
  let c0_i32_4060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4047 : BitVec 32 := 11#32
  let v4369 : BitVec 32 := Scalar.addi v2 c11_i32_4047
  let c32_i32_4048 : BitVec 32 := 32#32
  let c0_i32_4049 : BitVec 32 := 0#32
  let v4370 : BitVec 1 := Scalar.cmpi .eq c32_i32_4048 c0_i32_4049
  let c1_i32_4050 : BitVec 32 := 1#32
  let v4371 : BitVec 32 := Scalar.select v4370 c1_i32_4050 c32_i32_4048
  let v4372 : BitVec 32 := Scalar.remsi v4369 v4371
  let c0_i32_4052 : BitVec 32 := 0#32
  let v4374 : BitVec 1 := Scalar.cmpi .slt v4372 c0_i32_4052
  let c0_i32_4053 : BitVec 32 := 0#32
  let v4375 : BitVec 1 := Scalar.cmpi .slt v4371 c0_i32_4053
  let v4376 : BitVec 1 := Scalar.xori v4374 v4375
  let c0_i32_4051 : BitVec 32 := 0#32
  let v4373 : BitVec 1 := Scalar.cmpi .ne v4372 c0_i32_4051
  let v4377 : BitVec 1 := Scalar.andi v4376 v4373
  let v4378 : BitVec 32 := Scalar.addi v4372 v4371
  let v4379 : BitVec 32 := Scalar.select v4377 v4378 v4372
  let c1_i32_4059 : BitVec 32 := 1#32
  let v4381 : BitVec 32 := Scalar.muli v4379 c1_i32_4059
  let v4382 : BitVec 32 := Scalar.addi c0_i32_4060 v4381
  v4382.toNat
def k0_dev177 (d0 : Dev nD) : Nat :=
  let c0_i32_4077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4064 : BitVec 32 := 12#32
  let v4389 : BitVec 32 := Scalar.addi v2 c12_i32_4064
  let c32_i32_4065 : BitVec 32 := 32#32
  let c0_i32_4066 : BitVec 32 := 0#32
  let v4390 : BitVec 1 := Scalar.cmpi .eq c32_i32_4065 c0_i32_4066
  let c1_i32_4067 : BitVec 32 := 1#32
  let v4391 : BitVec 32 := Scalar.select v4390 c1_i32_4067 c32_i32_4065
  let v4392 : BitVec 32 := Scalar.remsi v4389 v4391
  let c0_i32_4069 : BitVec 32 := 0#32
  let v4394 : BitVec 1 := Scalar.cmpi .slt v4392 c0_i32_4069
  let c0_i32_4070 : BitVec 32 := 0#32
  let v4395 : BitVec 1 := Scalar.cmpi .slt v4391 c0_i32_4070
  let v4396 : BitVec 1 := Scalar.xori v4394 v4395
  let c0_i32_4068 : BitVec 32 := 0#32
  let v4393 : BitVec 1 := Scalar.cmpi .ne v4392 c0_i32_4068
  let v4397 : BitVec 1 := Scalar.andi v4396 v4393
  let v4398 : BitVec 32 := Scalar.addi v4392 v4391
  let v4399 : BitVec 32 := Scalar.select v4397 v4398 v4392
  let c1_i32_4076 : BitVec 32 := 1#32
  let v4401 : BitVec 32 := Scalar.muli v4399 c1_i32_4076
  let v4402 : BitVec 32 := Scalar.addi c0_i32_4077 v4401
  v4402.toNat
def k0_dev178 (d0 : Dev nD) : Nat :=
  let c0_i32_4094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4081 : BitVec 32 := 13#32
  let v4409 : BitVec 32 := Scalar.addi v2 c13_i32_4081
  let c32_i32_4082 : BitVec 32 := 32#32
  let c0_i32_4083 : BitVec 32 := 0#32
  let v4410 : BitVec 1 := Scalar.cmpi .eq c32_i32_4082 c0_i32_4083
  let c1_i32_4084 : BitVec 32 := 1#32
  let v4411 : BitVec 32 := Scalar.select v4410 c1_i32_4084 c32_i32_4082
  let v4412 : BitVec 32 := Scalar.remsi v4409 v4411
  let c0_i32_4086 : BitVec 32 := 0#32
  let v4414 : BitVec 1 := Scalar.cmpi .slt v4412 c0_i32_4086
  let c0_i32_4087 : BitVec 32 := 0#32
  let v4415 : BitVec 1 := Scalar.cmpi .slt v4411 c0_i32_4087
  let v4416 : BitVec 1 := Scalar.xori v4414 v4415
  let c0_i32_4085 : BitVec 32 := 0#32
  let v4413 : BitVec 1 := Scalar.cmpi .ne v4412 c0_i32_4085
  let v4417 : BitVec 1 := Scalar.andi v4416 v4413
  let v4418 : BitVec 32 := Scalar.addi v4412 v4411
  let v4419 : BitVec 32 := Scalar.select v4417 v4418 v4412
  let c1_i32_4093 : BitVec 32 := 1#32
  let v4421 : BitVec 32 := Scalar.muli v4419 c1_i32_4093
  let v4422 : BitVec 32 := Scalar.addi c0_i32_4094 v4421
  v4422.toNat
def k0_dev179 (d0 : Dev nD) : Nat :=
  let c0_i32_4111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4098 : BitVec 32 := 14#32
  let v4429 : BitVec 32 := Scalar.addi v2 c14_i32_4098
  let c32_i32_4099 : BitVec 32 := 32#32
  let c0_i32_4100 : BitVec 32 := 0#32
  let v4430 : BitVec 1 := Scalar.cmpi .eq c32_i32_4099 c0_i32_4100
  let c1_i32_4101 : BitVec 32 := 1#32
  let v4431 : BitVec 32 := Scalar.select v4430 c1_i32_4101 c32_i32_4099
  let v4432 : BitVec 32 := Scalar.remsi v4429 v4431
  let c0_i32_4103 : BitVec 32 := 0#32
  let v4434 : BitVec 1 := Scalar.cmpi .slt v4432 c0_i32_4103
  let c0_i32_4104 : BitVec 32 := 0#32
  let v4435 : BitVec 1 := Scalar.cmpi .slt v4431 c0_i32_4104
  let v4436 : BitVec 1 := Scalar.xori v4434 v4435
  let c0_i32_4102 : BitVec 32 := 0#32
  let v4433 : BitVec 1 := Scalar.cmpi .ne v4432 c0_i32_4102
  let v4437 : BitVec 1 := Scalar.andi v4436 v4433
  let v4438 : BitVec 32 := Scalar.addi v4432 v4431
  let v4439 : BitVec 32 := Scalar.select v4437 v4438 v4432
  let c1_i32_4110 : BitVec 32 := 1#32
  let v4441 : BitVec 32 := Scalar.muli v4439 c1_i32_4110
  let v4442 : BitVec 32 := Scalar.addi c0_i32_4111 v4441
  v4442.toNat
def k0_dev180 (d0 : Dev nD) : Nat :=
  let c0_i32_4128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4115 : BitVec 32 := 15#32
  let v4449 : BitVec 32 := Scalar.addi v2 c15_i32_4115
  let c32_i32_4116 : BitVec 32 := 32#32
  let c0_i32_4117 : BitVec 32 := 0#32
  let v4450 : BitVec 1 := Scalar.cmpi .eq c32_i32_4116 c0_i32_4117
  let c1_i32_4118 : BitVec 32 := 1#32
  let v4451 : BitVec 32 := Scalar.select v4450 c1_i32_4118 c32_i32_4116
  let v4452 : BitVec 32 := Scalar.remsi v4449 v4451
  let c0_i32_4120 : BitVec 32 := 0#32
  let v4454 : BitVec 1 := Scalar.cmpi .slt v4452 c0_i32_4120
  let c0_i32_4121 : BitVec 32 := 0#32
  let v4455 : BitVec 1 := Scalar.cmpi .slt v4451 c0_i32_4121
  let v4456 : BitVec 1 := Scalar.xori v4454 v4455
  let c0_i32_4119 : BitVec 32 := 0#32
  let v4453 : BitVec 1 := Scalar.cmpi .ne v4452 c0_i32_4119
  let v4457 : BitVec 1 := Scalar.andi v4456 v4453
  let v4458 : BitVec 32 := Scalar.addi v4452 v4451
  let v4459 : BitVec 32 := Scalar.select v4457 v4458 v4452
  let c1_i32_4127 : BitVec 32 := 1#32
  let v4461 : BitVec 32 := Scalar.muli v4459 c1_i32_4127
  let v4462 : BitVec 32 := Scalar.addi c0_i32_4128 v4461
  v4462.toNat
def k0_dev181 (d0 : Dev nD) : Nat :=
  let c0_i32_4145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4132 : BitVec 32 := 16#32
  let v4469 : BitVec 32 := Scalar.addi v2 c16_i32_4132
  let c32_i32_4133 : BitVec 32 := 32#32
  let c0_i32_4134 : BitVec 32 := 0#32
  let v4470 : BitVec 1 := Scalar.cmpi .eq c32_i32_4133 c0_i32_4134
  let c1_i32_4135 : BitVec 32 := 1#32
  let v4471 : BitVec 32 := Scalar.select v4470 c1_i32_4135 c32_i32_4133
  let v4472 : BitVec 32 := Scalar.remsi v4469 v4471
  let c0_i32_4137 : BitVec 32 := 0#32
  let v4474 : BitVec 1 := Scalar.cmpi .slt v4472 c0_i32_4137
  let c0_i32_4138 : BitVec 32 := 0#32
  let v4475 : BitVec 1 := Scalar.cmpi .slt v4471 c0_i32_4138
  let v4476 : BitVec 1 := Scalar.xori v4474 v4475
  let c0_i32_4136 : BitVec 32 := 0#32
  let v4473 : BitVec 1 := Scalar.cmpi .ne v4472 c0_i32_4136
  let v4477 : BitVec 1 := Scalar.andi v4476 v4473
  let v4478 : BitVec 32 := Scalar.addi v4472 v4471
  let v4479 : BitVec 32 := Scalar.select v4477 v4478 v4472
  let c1_i32_4144 : BitVec 32 := 1#32
  let v4481 : BitVec 32 := Scalar.muli v4479 c1_i32_4144
  let v4482 : BitVec 32 := Scalar.addi c0_i32_4145 v4481
  v4482.toNat
def k0_dev182 (d0 : Dev nD) : Nat :=
  let c0_i32_4162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4149 : BitVec 32 := 17#32
  let v4489 : BitVec 32 := Scalar.addi v2 c17_i32_4149
  let c32_i32_4150 : BitVec 32 := 32#32
  let c0_i32_4151 : BitVec 32 := 0#32
  let v4490 : BitVec 1 := Scalar.cmpi .eq c32_i32_4150 c0_i32_4151
  let c1_i32_4152 : BitVec 32 := 1#32
  let v4491 : BitVec 32 := Scalar.select v4490 c1_i32_4152 c32_i32_4150
  let v4492 : BitVec 32 := Scalar.remsi v4489 v4491
  let c0_i32_4154 : BitVec 32 := 0#32
  let v4494 : BitVec 1 := Scalar.cmpi .slt v4492 c0_i32_4154
  let c0_i32_4155 : BitVec 32 := 0#32
  let v4495 : BitVec 1 := Scalar.cmpi .slt v4491 c0_i32_4155
  let v4496 : BitVec 1 := Scalar.xori v4494 v4495
  let c0_i32_4153 : BitVec 32 := 0#32
  let v4493 : BitVec 1 := Scalar.cmpi .ne v4492 c0_i32_4153
  let v4497 : BitVec 1 := Scalar.andi v4496 v4493
  let v4498 : BitVec 32 := Scalar.addi v4492 v4491
  let v4499 : BitVec 32 := Scalar.select v4497 v4498 v4492
  let c1_i32_4161 : BitVec 32 := 1#32
  let v4501 : BitVec 32 := Scalar.muli v4499 c1_i32_4161
  let v4502 : BitVec 32 := Scalar.addi c0_i32_4162 v4501
  v4502.toNat
def k0_dev183 (d0 : Dev nD) : Nat :=
  let c0_i32_4179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4166 : BitVec 32 := 18#32
  let v4509 : BitVec 32 := Scalar.addi v2 c18_i32_4166
  let c32_i32_4167 : BitVec 32 := 32#32
  let c0_i32_4168 : BitVec 32 := 0#32
  let v4510 : BitVec 1 := Scalar.cmpi .eq c32_i32_4167 c0_i32_4168
  let c1_i32_4169 : BitVec 32 := 1#32
  let v4511 : BitVec 32 := Scalar.select v4510 c1_i32_4169 c32_i32_4167
  let v4512 : BitVec 32 := Scalar.remsi v4509 v4511
  let c0_i32_4171 : BitVec 32 := 0#32
  let v4514 : BitVec 1 := Scalar.cmpi .slt v4512 c0_i32_4171
  let c0_i32_4172 : BitVec 32 := 0#32
  let v4515 : BitVec 1 := Scalar.cmpi .slt v4511 c0_i32_4172
  let v4516 : BitVec 1 := Scalar.xori v4514 v4515
  let c0_i32_4170 : BitVec 32 := 0#32
  let v4513 : BitVec 1 := Scalar.cmpi .ne v4512 c0_i32_4170
  let v4517 : BitVec 1 := Scalar.andi v4516 v4513
  let v4518 : BitVec 32 := Scalar.addi v4512 v4511
  let v4519 : BitVec 32 := Scalar.select v4517 v4518 v4512
  let c1_i32_4178 : BitVec 32 := 1#32
  let v4521 : BitVec 32 := Scalar.muli v4519 c1_i32_4178
  let v4522 : BitVec 32 := Scalar.addi c0_i32_4179 v4521
  v4522.toNat
def k0_dev184 (d0 : Dev nD) : Nat :=
  let c0_i32_4196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4183 : BitVec 32 := 19#32
  let v4529 : BitVec 32 := Scalar.addi v2 c19_i32_4183
  let c32_i32_4184 : BitVec 32 := 32#32
  let c0_i32_4185 : BitVec 32 := 0#32
  let v4530 : BitVec 1 := Scalar.cmpi .eq c32_i32_4184 c0_i32_4185
  let c1_i32_4186 : BitVec 32 := 1#32
  let v4531 : BitVec 32 := Scalar.select v4530 c1_i32_4186 c32_i32_4184
  let v4532 : BitVec 32 := Scalar.remsi v4529 v4531
  let c0_i32_4188 : BitVec 32 := 0#32
  let v4534 : BitVec 1 := Scalar.cmpi .slt v4532 c0_i32_4188
  let c0_i32_4189 : BitVec 32 := 0#32
  let v4535 : BitVec 1 := Scalar.cmpi .slt v4531 c0_i32_4189
  let v4536 : BitVec 1 := Scalar.xori v4534 v4535
  let c0_i32_4187 : BitVec 32 := 0#32
  let v4533 : BitVec 1 := Scalar.cmpi .ne v4532 c0_i32_4187
  let v4537 : BitVec 1 := Scalar.andi v4536 v4533
  let v4538 : BitVec 32 := Scalar.addi v4532 v4531
  let v4539 : BitVec 32 := Scalar.select v4537 v4538 v4532
  let c1_i32_4195 : BitVec 32 := 1#32
  let v4541 : BitVec 32 := Scalar.muli v4539 c1_i32_4195
  let v4542 : BitVec 32 := Scalar.addi c0_i32_4196 v4541
  v4542.toNat
def k0_dev185 (d0 : Dev nD) : Nat :=
  let c0_i32_4213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4200 : BitVec 32 := 20#32
  let v4549 : BitVec 32 := Scalar.addi v2 c20_i32_4200
  let c32_i32_4201 : BitVec 32 := 32#32
  let c0_i32_4202 : BitVec 32 := 0#32
  let v4550 : BitVec 1 := Scalar.cmpi .eq c32_i32_4201 c0_i32_4202
  let c1_i32_4203 : BitVec 32 := 1#32
  let v4551 : BitVec 32 := Scalar.select v4550 c1_i32_4203 c32_i32_4201
  let v4552 : BitVec 32 := Scalar.remsi v4549 v4551
  let c0_i32_4205 : BitVec 32 := 0#32
  let v4554 : BitVec 1 := Scalar.cmpi .slt v4552 c0_i32_4205
  let c0_i32_4206 : BitVec 32 := 0#32
  let v4555 : BitVec 1 := Scalar.cmpi .slt v4551 c0_i32_4206
  let v4556 : BitVec 1 := Scalar.xori v4554 v4555
  let c0_i32_4204 : BitVec 32 := 0#32
  let v4553 : BitVec 1 := Scalar.cmpi .ne v4552 c0_i32_4204
  let v4557 : BitVec 1 := Scalar.andi v4556 v4553
  let v4558 : BitVec 32 := Scalar.addi v4552 v4551
  let v4559 : BitVec 32 := Scalar.select v4557 v4558 v4552
  let c1_i32_4212 : BitVec 32 := 1#32
  let v4561 : BitVec 32 := Scalar.muli v4559 c1_i32_4212
  let v4562 : BitVec 32 := Scalar.addi c0_i32_4213 v4561
  v4562.toNat
def k0_dev186 (d0 : Dev nD) : Nat :=
  let c0_i32_4230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4217 : BitVec 32 := 21#32
  let v4569 : BitVec 32 := Scalar.addi v2 c21_i32_4217
  let c32_i32_4218 : BitVec 32 := 32#32
  let c0_i32_4219 : BitVec 32 := 0#32
  let v4570 : BitVec 1 := Scalar.cmpi .eq c32_i32_4218 c0_i32_4219
  let c1_i32_4220 : BitVec 32 := 1#32
  let v4571 : BitVec 32 := Scalar.select v4570 c1_i32_4220 c32_i32_4218
  let v4572 : BitVec 32 := Scalar.remsi v4569 v4571
  let c0_i32_4222 : BitVec 32 := 0#32
  let v4574 : BitVec 1 := Scalar.cmpi .slt v4572 c0_i32_4222
  let c0_i32_4223 : BitVec 32 := 0#32
  let v4575 : BitVec 1 := Scalar.cmpi .slt v4571 c0_i32_4223
  let v4576 : BitVec 1 := Scalar.xori v4574 v4575
  let c0_i32_4221 : BitVec 32 := 0#32
  let v4573 : BitVec 1 := Scalar.cmpi .ne v4572 c0_i32_4221
  let v4577 : BitVec 1 := Scalar.andi v4576 v4573
  let v4578 : BitVec 32 := Scalar.addi v4572 v4571
  let v4579 : BitVec 32 := Scalar.select v4577 v4578 v4572
  let c1_i32_4229 : BitVec 32 := 1#32
  let v4581 : BitVec 32 := Scalar.muli v4579 c1_i32_4229
  let v4582 : BitVec 32 := Scalar.addi c0_i32_4230 v4581
  v4582.toNat
def k0_dev187 (d0 : Dev nD) : Nat :=
  let c0_i32_4247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4234 : BitVec 32 := 22#32
  let v4589 : BitVec 32 := Scalar.addi v2 c22_i32_4234
  let c32_i32_4235 : BitVec 32 := 32#32
  let c0_i32_4236 : BitVec 32 := 0#32
  let v4590 : BitVec 1 := Scalar.cmpi .eq c32_i32_4235 c0_i32_4236
  let c1_i32_4237 : BitVec 32 := 1#32
  let v4591 : BitVec 32 := Scalar.select v4590 c1_i32_4237 c32_i32_4235
  let v4592 : BitVec 32 := Scalar.remsi v4589 v4591
  let c0_i32_4239 : BitVec 32 := 0#32
  let v4594 : BitVec 1 := Scalar.cmpi .slt v4592 c0_i32_4239
  let c0_i32_4240 : BitVec 32 := 0#32
  let v4595 : BitVec 1 := Scalar.cmpi .slt v4591 c0_i32_4240
  let v4596 : BitVec 1 := Scalar.xori v4594 v4595
  let c0_i32_4238 : BitVec 32 := 0#32
  let v4593 : BitVec 1 := Scalar.cmpi .ne v4592 c0_i32_4238
  let v4597 : BitVec 1 := Scalar.andi v4596 v4593
  let v4598 : BitVec 32 := Scalar.addi v4592 v4591
  let v4599 : BitVec 32 := Scalar.select v4597 v4598 v4592
  let c1_i32_4246 : BitVec 32 := 1#32
  let v4601 : BitVec 32 := Scalar.muli v4599 c1_i32_4246
  let v4602 : BitVec 32 := Scalar.addi c0_i32_4247 v4601
  v4602.toNat
def k0_dev188 (d0 : Dev nD) : Nat :=
  let c0_i32_4264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4251 : BitVec 32 := 23#32
  let v4609 : BitVec 32 := Scalar.addi v2 c23_i32_4251
  let c32_i32_4252 : BitVec 32 := 32#32
  let c0_i32_4253 : BitVec 32 := 0#32
  let v4610 : BitVec 1 := Scalar.cmpi .eq c32_i32_4252 c0_i32_4253
  let c1_i32_4254 : BitVec 32 := 1#32
  let v4611 : BitVec 32 := Scalar.select v4610 c1_i32_4254 c32_i32_4252
  let v4612 : BitVec 32 := Scalar.remsi v4609 v4611
  let c0_i32_4256 : BitVec 32 := 0#32
  let v4614 : BitVec 1 := Scalar.cmpi .slt v4612 c0_i32_4256
  let c0_i32_4257 : BitVec 32 := 0#32
  let v4615 : BitVec 1 := Scalar.cmpi .slt v4611 c0_i32_4257
  let v4616 : BitVec 1 := Scalar.xori v4614 v4615
  let c0_i32_4255 : BitVec 32 := 0#32
  let v4613 : BitVec 1 := Scalar.cmpi .ne v4612 c0_i32_4255
  let v4617 : BitVec 1 := Scalar.andi v4616 v4613
  let v4618 : BitVec 32 := Scalar.addi v4612 v4611
  let v4619 : BitVec 32 := Scalar.select v4617 v4618 v4612
  let c1_i32_4263 : BitVec 32 := 1#32
  let v4621 : BitVec 32 := Scalar.muli v4619 c1_i32_4263
  let v4622 : BitVec 32 := Scalar.addi c0_i32_4264 v4621
  v4622.toNat
def k0_dev189 (d0 : Dev nD) : Nat :=
  let c0_i32_4281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4268 : BitVec 32 := 24#32
  let v4629 : BitVec 32 := Scalar.addi v2 c24_i32_4268
  let c32_i32_4269 : BitVec 32 := 32#32
  let c0_i32_4270 : BitVec 32 := 0#32
  let v4630 : BitVec 1 := Scalar.cmpi .eq c32_i32_4269 c0_i32_4270
  let c1_i32_4271 : BitVec 32 := 1#32
  let v4631 : BitVec 32 := Scalar.select v4630 c1_i32_4271 c32_i32_4269
  let v4632 : BitVec 32 := Scalar.remsi v4629 v4631
  let c0_i32_4273 : BitVec 32 := 0#32
  let v4634 : BitVec 1 := Scalar.cmpi .slt v4632 c0_i32_4273
  let c0_i32_4274 : BitVec 32 := 0#32
  let v4635 : BitVec 1 := Scalar.cmpi .slt v4631 c0_i32_4274
  let v4636 : BitVec 1 := Scalar.xori v4634 v4635
  let c0_i32_4272 : BitVec 32 := 0#32
  let v4633 : BitVec 1 := Scalar.cmpi .ne v4632 c0_i32_4272
  let v4637 : BitVec 1 := Scalar.andi v4636 v4633
  let v4638 : BitVec 32 := Scalar.addi v4632 v4631
  let v4639 : BitVec 32 := Scalar.select v4637 v4638 v4632
  let c1_i32_4280 : BitVec 32 := 1#32
  let v4641 : BitVec 32 := Scalar.muli v4639 c1_i32_4280
  let v4642 : BitVec 32 := Scalar.addi c0_i32_4281 v4641
  v4642.toNat
def k0_dev190 (d0 : Dev nD) : Nat :=
  let c0_i32_4298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4285 : BitVec 32 := 25#32
  let v4649 : BitVec 32 := Scalar.addi v2 c25_i32_4285
  let c32_i32_4286 : BitVec 32 := 32#32
  let c0_i32_4287 : BitVec 32 := 0#32
  let v4650 : BitVec 1 := Scalar.cmpi .eq c32_i32_4286 c0_i32_4287
  let c1_i32_4288 : BitVec 32 := 1#32
  let v4651 : BitVec 32 := Scalar.select v4650 c1_i32_4288 c32_i32_4286
  let v4652 : BitVec 32 := Scalar.remsi v4649 v4651
  let c0_i32_4290 : BitVec 32 := 0#32
  let v4654 : BitVec 1 := Scalar.cmpi .slt v4652 c0_i32_4290
  let c0_i32_4291 : BitVec 32 := 0#32
  let v4655 : BitVec 1 := Scalar.cmpi .slt v4651 c0_i32_4291
  let v4656 : BitVec 1 := Scalar.xori v4654 v4655
  let c0_i32_4289 : BitVec 32 := 0#32
  let v4653 : BitVec 1 := Scalar.cmpi .ne v4652 c0_i32_4289
  let v4657 : BitVec 1 := Scalar.andi v4656 v4653
  let v4658 : BitVec 32 := Scalar.addi v4652 v4651
  let v4659 : BitVec 32 := Scalar.select v4657 v4658 v4652
  let c1_i32_4297 : BitVec 32 := 1#32
  let v4661 : BitVec 32 := Scalar.muli v4659 c1_i32_4297
  let v4662 : BitVec 32 := Scalar.addi c0_i32_4298 v4661
  v4662.toNat
def k0_dev191 (d0 : Dev nD) : Nat :=
  let c0_i32_4315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4302 : BitVec 32 := 26#32
  let v4669 : BitVec 32 := Scalar.addi v2 c26_i32_4302
  let c32_i32_4303 : BitVec 32 := 32#32
  let c0_i32_4304 : BitVec 32 := 0#32
  let v4670 : BitVec 1 := Scalar.cmpi .eq c32_i32_4303 c0_i32_4304
  let c1_i32_4305 : BitVec 32 := 1#32
  let v4671 : BitVec 32 := Scalar.select v4670 c1_i32_4305 c32_i32_4303
  let v4672 : BitVec 32 := Scalar.remsi v4669 v4671
  let c0_i32_4307 : BitVec 32 := 0#32
  let v4674 : BitVec 1 := Scalar.cmpi .slt v4672 c0_i32_4307
  let c0_i32_4308 : BitVec 32 := 0#32
  let v4675 : BitVec 1 := Scalar.cmpi .slt v4671 c0_i32_4308
  let v4676 : BitVec 1 := Scalar.xori v4674 v4675
  let c0_i32_4306 : BitVec 32 := 0#32
  let v4673 : BitVec 1 := Scalar.cmpi .ne v4672 c0_i32_4306
  let v4677 : BitVec 1 := Scalar.andi v4676 v4673
  let v4678 : BitVec 32 := Scalar.addi v4672 v4671
  let v4679 : BitVec 32 := Scalar.select v4677 v4678 v4672
  let c1_i32_4314 : BitVec 32 := 1#32
  let v4681 : BitVec 32 := Scalar.muli v4679 c1_i32_4314
  let v4682 : BitVec 32 := Scalar.addi c0_i32_4315 v4681
  v4682.toNat
def k0_dev192 (d0 : Dev nD) : Nat :=
  let c0_i32_4332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4319 : BitVec 32 := 27#32
  let v4689 : BitVec 32 := Scalar.addi v2 c27_i32_4319
  let c32_i32_4320 : BitVec 32 := 32#32
  let c0_i32_4321 : BitVec 32 := 0#32
  let v4690 : BitVec 1 := Scalar.cmpi .eq c32_i32_4320 c0_i32_4321
  let c1_i32_4322 : BitVec 32 := 1#32
  let v4691 : BitVec 32 := Scalar.select v4690 c1_i32_4322 c32_i32_4320
  let v4692 : BitVec 32 := Scalar.remsi v4689 v4691
  let c0_i32_4324 : BitVec 32 := 0#32
  let v4694 : BitVec 1 := Scalar.cmpi .slt v4692 c0_i32_4324
  let c0_i32_4325 : BitVec 32 := 0#32
  let v4695 : BitVec 1 := Scalar.cmpi .slt v4691 c0_i32_4325
  let v4696 : BitVec 1 := Scalar.xori v4694 v4695
  let c0_i32_4323 : BitVec 32 := 0#32
  let v4693 : BitVec 1 := Scalar.cmpi .ne v4692 c0_i32_4323
  let v4697 : BitVec 1 := Scalar.andi v4696 v4693
  let v4698 : BitVec 32 := Scalar.addi v4692 v4691
  let v4699 : BitVec 32 := Scalar.select v4697 v4698 v4692
  let c1_i32_4331 : BitVec 32 := 1#32
  let v4701 : BitVec 32 := Scalar.muli v4699 c1_i32_4331
  let v4702 : BitVec 32 := Scalar.addi c0_i32_4332 v4701
  v4702.toNat
def k0_dev193 (d0 : Dev nD) : Nat :=
  let c0_i32_4349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4336 : BitVec 32 := 28#32
  let v4709 : BitVec 32 := Scalar.addi v2 c28_i32_4336
  let c32_i32_4337 : BitVec 32 := 32#32
  let c0_i32_4338 : BitVec 32 := 0#32
  let v4710 : BitVec 1 := Scalar.cmpi .eq c32_i32_4337 c0_i32_4338
  let c1_i32_4339 : BitVec 32 := 1#32
  let v4711 : BitVec 32 := Scalar.select v4710 c1_i32_4339 c32_i32_4337
  let v4712 : BitVec 32 := Scalar.remsi v4709 v4711
  let c0_i32_4341 : BitVec 32 := 0#32
  let v4714 : BitVec 1 := Scalar.cmpi .slt v4712 c0_i32_4341
  let c0_i32_4342 : BitVec 32 := 0#32
  let v4715 : BitVec 1 := Scalar.cmpi .slt v4711 c0_i32_4342
  let v4716 : BitVec 1 := Scalar.xori v4714 v4715
  let c0_i32_4340 : BitVec 32 := 0#32
  let v4713 : BitVec 1 := Scalar.cmpi .ne v4712 c0_i32_4340
  let v4717 : BitVec 1 := Scalar.andi v4716 v4713
  let v4718 : BitVec 32 := Scalar.addi v4712 v4711
  let v4719 : BitVec 32 := Scalar.select v4717 v4718 v4712
  let c1_i32_4348 : BitVec 32 := 1#32
  let v4721 : BitVec 32 := Scalar.muli v4719 c1_i32_4348
  let v4722 : BitVec 32 := Scalar.addi c0_i32_4349 v4721
  v4722.toNat
def k0_dev194 (d0 : Dev nD) : Nat :=
  let c0_i32_4366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4353 : BitVec 32 := 29#32
  let v4729 : BitVec 32 := Scalar.addi v2 c29_i32_4353
  let c32_i32_4354 : BitVec 32 := 32#32
  let c0_i32_4355 : BitVec 32 := 0#32
  let v4730 : BitVec 1 := Scalar.cmpi .eq c32_i32_4354 c0_i32_4355
  let c1_i32_4356 : BitVec 32 := 1#32
  let v4731 : BitVec 32 := Scalar.select v4730 c1_i32_4356 c32_i32_4354
  let v4732 : BitVec 32 := Scalar.remsi v4729 v4731
  let c0_i32_4358 : BitVec 32 := 0#32
  let v4734 : BitVec 1 := Scalar.cmpi .slt v4732 c0_i32_4358
  let c0_i32_4359 : BitVec 32 := 0#32
  let v4735 : BitVec 1 := Scalar.cmpi .slt v4731 c0_i32_4359
  let v4736 : BitVec 1 := Scalar.xori v4734 v4735
  let c0_i32_4357 : BitVec 32 := 0#32
  let v4733 : BitVec 1 := Scalar.cmpi .ne v4732 c0_i32_4357
  let v4737 : BitVec 1 := Scalar.andi v4736 v4733
  let v4738 : BitVec 32 := Scalar.addi v4732 v4731
  let v4739 : BitVec 32 := Scalar.select v4737 v4738 v4732
  let c1_i32_4365 : BitVec 32 := 1#32
  let v4741 : BitVec 32 := Scalar.muli v4739 c1_i32_4365
  let v4742 : BitVec 32 := Scalar.addi c0_i32_4366 v4741
  v4742.toNat
def k0_dev195 (d0 : Dev nD) : Nat :=
  let c0_i32_4383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4370 : BitVec 32 := 30#32
  let v4749 : BitVec 32 := Scalar.addi v2 c30_i32_4370
  let c32_i32_4371 : BitVec 32 := 32#32
  let c0_i32_4372 : BitVec 32 := 0#32
  let v4750 : BitVec 1 := Scalar.cmpi .eq c32_i32_4371 c0_i32_4372
  let c1_i32_4373 : BitVec 32 := 1#32
  let v4751 : BitVec 32 := Scalar.select v4750 c1_i32_4373 c32_i32_4371
  let v4752 : BitVec 32 := Scalar.remsi v4749 v4751
  let c0_i32_4375 : BitVec 32 := 0#32
  let v4754 : BitVec 1 := Scalar.cmpi .slt v4752 c0_i32_4375
  let c0_i32_4376 : BitVec 32 := 0#32
  let v4755 : BitVec 1 := Scalar.cmpi .slt v4751 c0_i32_4376
  let v4756 : BitVec 1 := Scalar.xori v4754 v4755
  let c0_i32_4374 : BitVec 32 := 0#32
  let v4753 : BitVec 1 := Scalar.cmpi .ne v4752 c0_i32_4374
  let v4757 : BitVec 1 := Scalar.andi v4756 v4753
  let v4758 : BitVec 32 := Scalar.addi v4752 v4751
  let v4759 : BitVec 32 := Scalar.select v4757 v4758 v4752
  let c1_i32_4382 : BitVec 32 := 1#32
  let v4761 : BitVec 32 := Scalar.muli v4759 c1_i32_4382
  let v4762 : BitVec 32 := Scalar.addi c0_i32_4383 v4761
  v4762.toNat
def k0_dev196 (d0 : Dev nD) : Nat :=
  let c0_i32_4400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4387 : BitVec 32 := 31#32
  let v4769 : BitVec 32 := Scalar.addi v2 c31_i32_4387
  let c32_i32_4388 : BitVec 32 := 32#32
  let c0_i32_4389 : BitVec 32 := 0#32
  let v4770 : BitVec 1 := Scalar.cmpi .eq c32_i32_4388 c0_i32_4389
  let c1_i32_4390 : BitVec 32 := 1#32
  let v4771 : BitVec 32 := Scalar.select v4770 c1_i32_4390 c32_i32_4388
  let v4772 : BitVec 32 := Scalar.remsi v4769 v4771
  let c0_i32_4392 : BitVec 32 := 0#32
  let v4774 : BitVec 1 := Scalar.cmpi .slt v4772 c0_i32_4392
  let c0_i32_4393 : BitVec 32 := 0#32
  let v4775 : BitVec 1 := Scalar.cmpi .slt v4771 c0_i32_4393
  let v4776 : BitVec 1 := Scalar.xori v4774 v4775
  let c0_i32_4391 : BitVec 32 := 0#32
  let v4773 : BitVec 1 := Scalar.cmpi .ne v4772 c0_i32_4391
  let v4777 : BitVec 1 := Scalar.andi v4776 v4773
  let v4778 : BitVec 32 := Scalar.addi v4772 v4771
  let v4779 : BitVec 32 := Scalar.select v4777 v4778 v4772
  let c1_i32_4399 : BitVec 32 := 1#32
  let v4781 : BitVec 32 := Scalar.muli v4779 c1_i32_4399
  let v4782 : BitVec 32 := Scalar.addi c0_i32_4400 v4781
  v4782.toNat
def k0_off10 (d0 : Dev nD) (c1_i32_4404 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v4789 : BitVec 32 := Scalar.subi v2 c1_i32_4404
  let c32_i32_4405 : BitVec 32 := 32#32
  let c0_i32_4406 : BitVec 32 := 0#32
  let v4790 : BitVec 1 := Scalar.cmpi .eq c32_i32_4405 c0_i32_4406
  let c1_i32_4407 : BitVec 32 := 1#32
  let v4791 : BitVec 32 := Scalar.select v4790 c1_i32_4407 c32_i32_4405
  let v4792 : BitVec 32 := Scalar.remsi v4789 v4791
  let c0_i32_4409 : BitVec 32 := 0#32
  let v4794 : BitVec 1 := Scalar.cmpi .slt v4792 c0_i32_4409
  let c0_i32_4410 : BitVec 32 := 0#32
  let v4795 : BitVec 1 := Scalar.cmpi .slt v4791 c0_i32_4410
  let v4796 : BitVec 1 := Scalar.xori v4794 v4795
  let c0_i32_4408 : BitVec 32 := 0#32
  let v4793 : BitVec 1 := Scalar.cmpi .ne v4792 c0_i32_4408
  let v4797 : BitVec 1 := Scalar.andi v4796 v4793
  let v4798 : BitVec 32 := Scalar.addi v4792 v4791
  let v4799 : BitVec 32 := Scalar.select v4797 v4798 v4792
  let c24_i32_4411 : BitVec 32 := 24#32
  let v4800 : BitVec 32 := Scalar.muli v4799 c24_i32_4411
  let c0_i32_4418 : BitVec 32 := 0#32
  ![v4800.toNat, 0]
def k0_off11 (d0 : Dev nD) (c1_i32_4931 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5347 : BitVec 32 := Scalar.subi v2 c1_i32_4931
  let c32_i32_4932 : BitVec 32 := 32#32
  let c0_i32_4933 : BitVec 32 := 0#32
  let v5348 : BitVec 1 := Scalar.cmpi .eq c32_i32_4932 c0_i32_4933
  let c1_i32_4934 : BitVec 32 := 1#32
  let v5349 : BitVec 32 := Scalar.select v5348 c1_i32_4934 c32_i32_4932
  let v5350 : BitVec 32 := Scalar.remsi v5347 v5349
  let c0_i32_4936 : BitVec 32 := 0#32
  let v5352 : BitVec 1 := Scalar.cmpi .slt v5350 c0_i32_4936
  let c0_i32_4937 : BitVec 32 := 0#32
  let v5353 : BitVec 1 := Scalar.cmpi .slt v5349 c0_i32_4937
  let v5354 : BitVec 1 := Scalar.xori v5352 v5353
  let c0_i32_4935 : BitVec 32 := 0#32
  let v5351 : BitVec 1 := Scalar.cmpi .ne v5350 c0_i32_4935
  let v5355 : BitVec 1 := Scalar.andi v5354 v5351
  let v5356 : BitVec 32 := Scalar.addi v5350 v5349
  let v5357 : BitVec 32 := Scalar.select v5355 v5356 v5350
  let c24_i32_4938 : BitVec 32 := 24#32
  let v5358 : BitVec 32 := Scalar.muli v5357 c24_i32_4938
  let c256_i32_4945 : BitVec 32 := 256#32
  ![v5358.toNat, 256]
def k0_off12 (d0 : Dev nD) (c1_i32_5458 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5905 : BitVec 32 := Scalar.subi v2 c1_i32_5458
  let c32_i32_5459 : BitVec 32 := 32#32
  let c0_i32_5460 : BitVec 32 := 0#32
  let v5906 : BitVec 1 := Scalar.cmpi .eq c32_i32_5459 c0_i32_5460
  let c1_i32_5461 : BitVec 32 := 1#32
  let v5907 : BitVec 32 := Scalar.select v5906 c1_i32_5461 c32_i32_5459
  let v5908 : BitVec 32 := Scalar.remsi v5905 v5907
  let c0_i32_5463 : BitVec 32 := 0#32
  let v5910 : BitVec 1 := Scalar.cmpi .slt v5908 c0_i32_5463
  let c0_i32_5464 : BitVec 32 := 0#32
  let v5911 : BitVec 1 := Scalar.cmpi .slt v5907 c0_i32_5464
  let v5912 : BitVec 1 := Scalar.xori v5910 v5911
  let c0_i32_5462 : BitVec 32 := 0#32
  let v5909 : BitVec 1 := Scalar.cmpi .ne v5908 c0_i32_5462
  let v5913 : BitVec 1 := Scalar.andi v5912 v5909
  let v5914 : BitVec 32 := Scalar.addi v5908 v5907
  let v5915 : BitVec 32 := Scalar.select v5913 v5914 v5908
  let c24_i32_5465 : BitVec 32 := 24#32
  let v5916 : BitVec 32 := Scalar.muli v5915 c24_i32_5465
  let c512_i32_5472 : BitVec 32 := 512#32
  ![v5916.toNat, 512]
abbrev stage0_0 : Fin 1 → Memref sig .tc .vmem S768x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x12288 : Shape := ⟨2, ![768, 12288]⟩
abbrev S12288x768 : Shape := ⟨2, ![12288, 768]⟩
abbrev S768x768 : Shape := ⟨2, ![768, 768]⟩

abbrev nBuf : Space → Nat
  | .hbm => 6
  | .vmem => 0
  | .smem => 0
  | _ => 0

abbrev bufTy : (tb : Table) → Fin (tcTables nBuf tb) → BufTy
  | .hbm, ⟨0, _⟩ => ⟨S768x12288, .bf16⟩
  | .hbm, ⟨1, _⟩ => ⟨S12288x768, .bf16⟩
  | .hbm, ⟨2, _⟩ => ⟨S768x12288, .f32⟩
  | .hbm, ⟨3, _⟩ => ⟨S12288x768, .f32⟩
  | .hbm, ⟨4, _⟩ => ⟨S768x768, .f32⟩
  | .hbm, ⟨5, _⟩ => ⟨S768x768, .bf16⟩
  | _, _ => ⟨S768x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Steps.lean ====
/-
The kernel's body as a sequence of named effects, indexed by column segment and ring offset.

The printed body is one straight line of about six hundred memory and semaphore operations. Here it is written again as
a few lists: the entry signals, the two-stage entry barrier, the 93 sends of the first phase, per segment the 31
receive waits, the reduction and the 31 sends of the second phase, then the remaining waits. `body_eq` states that the
printed body is this sequence.
-/
module

public import proofs.«01_k».proof.Proof.Gen.KernelIdeal
public import proofs.«01_k».proof.Proof.Gen.KernelIdeal.Skeleton

@[expose] public section

noncomputable section

namespace Cert.Proof.Steps

open Cert.KernelIdeal Cert.KernelIdeal.Gen
open Idealize.ShloMosaic Idealize.SL.Sem

variable {F : FTy → Type} [FloatOps F]

/-- An effect of the body. -/
abbrev Ef (F : FTy → Type) (α : Type) := TpuEff nD τ sig (Elt F) Λ₀ .tc α
/-- A program of such effects. -/
abbrev Pr (F : FTy → Type) := Prog (TpuEff nD τ sig (Elt F) Λ₀ .tc) PUnit

/-! ## Offsets and peers -/

/-- The ring offsets `1 … 31`, counted from zero. -/
def offs : List (Fin 31) :=
  [0, 1, 2, 3, 4, 5, 6, 7, 8, 9, 10, 11, 12, 13, 14, 15, 16, 17, 18, 19, 20, 21, 22, 23, 24, 25, 26, 27, 28, 29, 30]

/-- Every ring offset is in `offs`. -/
theorem mem_offs (o : Fin 31) : o ∈ offs := by revert o; decide
/-- No ring offset is in `offs` twice. -/
theorem nodup_offs : offs.Nodup := by decide

/-- The word `o + 1` the kernel adds to a device's number. -/
abbrev wd (o : Fin 31) : BitVec 32 := BitVec.ofNat 32 (1 + o.val)

/-- Where the accumulator's block for the device `o + 1` further on begins, segment `s`. -/
def oSend (s : Fin 3) (d : Dev nD) (o : Fin 31) : Fin 2 → ℕ :=
  match s with | 0 => k0_off1 d (wd o) | 1 => k0_off2 d (wd o) | 2 => k0_off3 d (wd o)
/-- Where a device's own block begins, segment `s`, for a transfer. -/
def oOwn (s : Fin 3) (d : Dev nD) : Fin 2 → ℕ :=
  match s with | 0 => k0_off4 d | 1 => k0_off6 d | 2 => k0_off8 d
/-- Where a device's own block begins, segment `s`, for a load or a store. -/
def oLoad (s : Fin 3) (d : Dev nD) : Fin 2 → ℕ :=
  match s with | 0 => k0_off5 d | 1 => k0_off7 d | 2 => k0_off9 d
/-- Where the block of the device `o + 1` before begins, segment `s`. -/
def oFrom (s : Fin 3) (d : Dev nD) (o : Fin 31) : Fin 2 → ℕ :=
  match s with | 0 => k0_off10 d (wd o) | 1 => k0_off11 d (wd o) | 2 => k0_off12 d (wd o)
/-- Where slot `o` of the gather buffer begins, segment `s`. -/
def oSlot (s : Fin 3) (o : Fin 31) : Fin 3 → ℕ :=
  match s with | 0 => ![o.val, 0, 0] | 1 => ![o.val, 0, 256] | 2 => ![o.val, 0, 512]
/-- Where segment `s` of the whole gather buffer begins. -/
def oAll (s : Fin 3) : Fin 3 → ℕ :=
  match s with | 0 => ![0, 0, 0] | 1 => ![0, 0, 256] | 2 => ![0, 0, 512]
/-- Where segment `s` of the reduced block begins. -/
def oRed (s : Fin 3) : Fin 2 → ℕ :=
  match s with | 0 => ![0, 0] | 1 => ![0, 256] | 2 => ![0, 512]

theorem oSend_inb (s : Fin 3) (d : Dev nD) (o : Fin 31) : ∀ a, oSend s d o a + S24x256.size a ≤ S768x768.size a :=
  match s with | 0 => k0_off1_inb d o | 1 => k0_off2_inb d o | 2 => k0_off3_inb d o
theorem oSend_words (s : Fin 3) (d : Dev nD) (o : Fin 31) :
    (Rect.unit (s := S768x768) (oSend s d o) S24x256.size (oSend_inb s d o)).WholeWords (EltTy.packing .bf16) :=
  match s with | 0 => k0_off1_wordsbf16 d o | 1 => k0_off2_wordsbf16 d o | 2 => k0_off3_wordsbf16 d o
theorem oOwn_inb (s : Fin 3) (d : Dev nD) : ∀ a, oOwn s d a + S24x256.size a ≤ S768x768.size a :=
  match s with | 0 => k0_off4_inb d | 1 => k0_off6_inb d | 2 => k0_off8_inb d
theorem oOwn_words (s : Fin 3) (d : Dev nD) :
    (Rect.unit (s := S768x768) (oOwn s d) S24x256.size (oOwn_inb s d)).WholeWords (EltTy.packing .bf16) :=
  match s with | 0 => k0_off4_wordsbf16 d | 1 => k0_off6_wordsbf16 d | 2 => k0_off8_wordsbf16 d
theorem oLoad_inb (s : Fin 3) (d : Dev nD) : ∀ a, oLoad s d a + S24x256.size a ≤ S768x768.size a :=
  match s with | 0 => k0_off5_inb d | 1 => k0_off7_inb d | 2 => k0_off9_inb d
theorem oLoad_packed (s : Fin 3) (d : Dev nD) :
    (Rect.unit (s := S768x768) (oLoad s d) S24x256.size (oLoad_inb s d)).PackedRows (EltTy.packing .bf16) :=
  match s with | 0 => k0_off5_packedbf16 d | 1 => k0_off7_packedbf16 d | 2 => k0_off9_packedbf16 d
theorem oFrom_inb (s : Fin 3) (d : Dev nD) (o : Fin 31) : ∀ a, oFrom s d o a + S24x256.size a ≤ S768x768.size a :=
  match s with | 0 => k0_off10_inb d o | 1 => k0_off11_inb d o | 2 => k0_off12_inb d o
theorem oFrom_words (s : Fin 3) (d : Dev nD) (o : Fin 31) :
    (Rect.unit (s := S768x768) (oFrom s d o) S24x256.size (oFrom_inb s d o)).WholeWords (EltTy.packing .bf16) :=
  match s with | 0 => k0_off10_wordsbf16 d o | 1 => k0_off11_wordsbf16 d o | 2 => k0_off12_wordsbf16 d o
theorem oSlot_inb : ∀ (s : Fin 3) (o : Fin 31), ∀ a, oSlot s o a + S1x24x256.size a ≤ S31x24x768.size a := by decide +kernel
theorem oSlot_words : ∀ (s : Fin 3) (o : Fin 31),
    (Rect.unit (s := S31x24x768) (oSlot s o) S1x24x256.size (oSlot_inb s o)).WholeWords (EltTy.packing .bf16) := by decide +kernel
theorem oAll_inb : ∀ (s : Fin 3), ∀ a, oAll s a + S31x24x256.size a ≤ S31x24x768.size a := by decide +kernel
theorem oRed_inb : ∀ (s : Fin 3), ∀ a, oRed s a + S24x256.size a ≤ S24x768.size a := by decide +kernel
theorem oRed_words : ∀ (s : Fin 3),
    (Rect.unit (s := S24x768) (oRed s) S24x256.size (oRed_inb s)).WholeWords (EltTy.packing .bf16) := by decide +kernel
theorem oRed_packed : ∀ (s : Fin 3),
    (Rect.unit (s := S24x768) (oRed s) S24x256.size (oRed_inb s)).PackedRows (EltTy.packing .bf16) := by decide +kernel
theorem semIx_inb : ∀ (s : Fin 3) (o : Fin 31), ∀ a, (![s.val, o.val] : Fin 2 → ℕ) a + S1x1.size a ≤ S3x31.size a := by decide +kernel

/-- The device that lies `w` further on around the mesh, as the kernel computes its number. -/
def peerNo (d : Dev nD) (w : BitVec 32) : ℕ :=
  let v2 : BitVec 32 := Scalar.remsi (Scalar.divsi (Dev.word d) 1#32) 32#32
  let m : BitVec 32 := Scalar.select (Scalar.cmpi .eq 32#32 0#32) 1#32 32#32
  let r : BitVec 32 := Scalar.remsi (Scalar.addi v2 w) m
  let n : BitVec 32 := Scalar.select (Scalar.andi (Scalar.xori (Scalar.cmpi .slt r 0#32) (Scalar.cmpi .slt m 0#32)) (Scalar.cmpi .ne r 0#32)) (Scalar.addi r m) r
  (Scalar.addi 0#32 (Scalar.muli n 1#32)).toNat
theorem peerNo_lt : ∀ (d : Dev nD) (o : Fin 31), peerNo d (wd o) < nD := by decide +kernel
/-- The device `o + 1` further on. -/
abbrev peer (d : Dev nD) (o : Fin 31) : Dev nD := ⟨peerNo d (wd o), peerNo_lt d o⟩

/-! ## The effects -/

section Effects

variable (arg0 : Memref sig .tc .vmem S768x384 .bf16) (harg0 : arg0.IsWhole) (arg1 : Memref sig .tc .vmem S384x768 .bf16) (harg1 : arg1.IsWhole)
  (arg2 : Memref sig .tc .vmem S768x768 .bf16) (harg2 : arg2.IsWhole) (arg3 : Memref sig .tc .vmem S768x768 .bf16) (harg3 : arg3.IsWhole)
  (arg4 : Memref sig .tc .vmem S31x24x768 .bf16) (harg4 : arg4.IsWhole) (arg5 : Memref sig .tc .vmem S24x768 .bf16) (harg5 : arg5.IsWhole)
  (arg6 arg7 arg8 arg9 : DmaSems sig S3x31) (arg10 : Sems sig S_)

/-- One of the 93 semaphores of an array. -/
abbrev semAt (a : DmaSems sig S3x31) (s : Fin 3) (o : Fin 31) : DmaSem sig :=
  ((a.slice (Rect.unit (s := S3x31) ![s.val, o.val] S1x1.size (semIx_inb s o))).squeeze S_ squeezes_S1x1_S_).sem
/-- The accumulator's block for the device `o + 1` further on. -/
abbrev accTo (s : Fin 3) (d : Dev nD) (o : Fin 31) : Memref sig .tc .vmem S24x256 .bf16 :=
  arg3.slice (Rect.unit (s := S768x768) (oSend s d o) S24x256.size (oSend_inb s d o)) (fun _ => rfl)
/-- A 768×768 buffer's block of the device itself. -/
abbrev own (a : Memref sig .tc .vmem S768x768 .bf16) (s : Fin 3) (d : Dev nD) : Memref sig .tc .vmem S24x256 .bf16 :=
  a.slice (Rect.unit (s := S768x768) (oOwn s d) S24x256.size (oOwn_inb s d)) (fun _ => rfl)
/-- The result's block of the device `o + 1` before. -/
abbrev outFrom (s : Fin 3) (d : Dev nD) (o : Fin 31) : Memref sig .tc .vmem S24x256 .bf16 :=
  arg2.slice (Rect.unit (s := S768x768) (oFrom s d o) S24x256.size (oFrom_inb s d o)) (fun _ => rfl)
/-- A slot of the gather buffer. -/
abbrev slot (s : Fin 3) (o : Fin 31) : Memref sig .tc .vmem S24x256 .bf16 :=
  (arg4.slice (Rect.unit (s := S31x24x768) (oSlot s o) S1x24x256.size (oSlot_inb s o)) (fun _ => rfl)).squeeze S24x256 squeezes_S1x24x256_S24x256
/-- A segment of the reduced block. -/
abbrev redSeg (s : Fin 3) : Memref sig .tc .vmem S24x256 .bf16 :=
  arg5.slice (Rect.unit (s := S24x768) (oRed s) S24x256.size (oRed_inb s)) (fun _ => rfl)

/-- The first phase's send of segment `s` to the device `o + 1` further on. -/
def send1 (d : Dev nD) (s : Fin 3) (o : Fin 31) : Ef F PUnit :=
  .enqueueDma (accTo arg3 s d o) (.remote (Dev.tc (peer d o)) (slot arg4 s o) (.dma (semAt arg6 s o))) (.dma (semAt arg7 s o))
    (harg3.wordExact_slice rfl _ (oSend_words s d o)) ((harg4.wordExact_slice rfl _ (oSlot_words s o)).reshape _ _) ⟨⟨rfl, Or.inl rfl⟩, trivial⟩
/-- The wait for the first phase's arrival in slot `o`, segment `s`. -/
def recv1 (d : Dev nD) (s : Fin 3) (o : Fin 31) : Ef F PUnit :=
  .waitDma2 (semAt arg7 s o) (own arg3 s d) (slot arg4 s o) (harg3.wordExact_slice rfl _ (oOwn_words s d)) ((harg4.wordExact_slice rfl _ (oSlot_words s o)).reshape _ _)
/-- The second phase's send of segment `s` to the device `o + 1` further on. -/
def send2 (d : Dev nD) (s : Fin 3) (o : Fin 31) : Ef F PUnit :=
  .enqueueDma (redSeg arg5 s) (.remote (Dev.tc (peer d o)) (own arg2 s d) (.dma (semAt arg8 s o))) (.dma (semAt arg9 s o))
    (harg5.wordExact_slice rfl _ (oRed_words s)) (harg2.wordExact_slice rfl _ (oOwn_words s d)) ⟨⟨rfl, Or.inl rfl⟩, trivial⟩
/-- The wait for the second phase's arrival from the device `o + 1` before, segment `s`. -/
def recv2 (d : Dev nD) (s : Fin 3) (o : Fin 31) : Ef F PUnit :=
  .waitDma2 (semAt arg9 s o) (redSeg arg5 s) (outFrom arg2 s d o) (harg5.wordExact_slice rfl _ (oRed_words s)) (harg2.wordExact_slice rfl _ (oFrom_words s d o))
/-- The wait for a first-phase send to have left. -/
def left1 (d : Dev nD) (s : Fin 3) (o : Fin 31) : Ef F PUnit :=
  .waitDma2 (semAt arg6 s o) (slot arg4 s o) (accTo arg3 s d o) ((harg4.wordExact_slice rfl _ (oSlot_words s o)).reshape _ _) (harg3.wordExact_slice rfl _ (oSend_words s d o))
/-- The wait for a second-phase send to have left. -/
def left2 (d : Dev nD) (s : Fin 3) (o : Fin 31) : Ef F PUnit :=
  .waitDma2 (semAt arg8 s o) (own arg2 s d) (redSeg arg5 s) (harg2.wordExact_slice rfl _ (oOwn_words s d)) (harg5.wordExact_slice rfl _ (oRed_words s))

/-- The runtime's barrier semaphore. -/
abbrev barS : Sem sig := (SemArray.scalar (sig.barrier 0 rfl) : Sems sig S_).sem
/-- The seven devices of the plane the device signals. -/
def planePeers (d : Dev nD) : List (Dev nD) :=
  [⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩,
    ⟨k0_dev6 d, k0_dev6_lt d⟩, ⟨k0_dev7 d, k0_dev7_lt d⟩]
/-- The three devices of the other planes the device signals. -/
def crossPeers (d : Dev nD) : List (Dev nD) :=
  [⟨k0_dev8 d, k0_dev8_lt d⟩, ⟨k0_dev9 d, k0_dev9_lt d⟩, ⟨k0_dev10 d, k0_dev10_lt d⟩]

/-- A unit on a regular semaphore of another device. -/
def sig1 (sm : Sem sig) (e : Dev nD) : Ef F PUnit := .semSignal (e, .tc) sm (1#32 : BitVec 32).toInt
/-- A wait for `n` units of a regular semaphore. -/
def wait1 (sm : Sem sig) (n : BitVec 32) : Ef F PUnit := .semWait sm n.toInt

/-- The effects of a list, one after the other. -/
def seqOf (es : List (Ef F PUnit)) (k : Pr F) : Pr F := es.foldr (fun e p => .op e fun _ => p) k

/-- The reduction of one segment: the own block plus the 31 blocks received, rounded. -/
def redOf (s : Fin 3) (x : Vec F S24x256 .bf16) (g : Vec F S31x24x256 .bf16) : Vec F S24x256 .bf16 :=
  match s with | 0 => k0_pay4 (k0_pay2 x) (k0_pay3 g) | 1 => k0_pay5 x g | 2 => k0_pay7 (k0_pay6 x g)

/-- The rectangle of a device's own block, for a load or a store. -/
abbrev rOwn (s : Fin 3) (d : Dev nD) : Rect S768x768 := Rect.unit (s := S768x768) (oLoad s d) S24x256.size (oLoad_inb s d)
/-- The rectangle of a segment of the reduced block. -/
abbrev rRed (s : Fin 3) : Rect S24x768 := Rect.unit (s := S24x768) (oRed s) S24x256.size (oRed_inb s)
/-- The rectangle of a segment of the gather buffer. -/
abbrev rAll (s : Fin 3) : Rect S31x24x768 := Rect.unit (s := S31x24x768) (oAll s) S31x24x256.size (oAll_inb s)

/-- One segment reduced: load the own block and the gathered ones, store their sum in the reduced block, read it back and
    store it in the result. -/
def reduceSeg (d : Dev nD) (s : Fin 3) (k : Pr F) : Pr F :=
  .op (.load arg3 (rOwn s d).toLoadRect (View.loadsAt_vmem h_S24x256)) fun (x : Vec F S24x256 .bf16) =>
  .op (.load arg4 (rAll s).toLoadRect (View.loadsAt_vmem h_S31x24x256)) fun (g : Vec F S31x24x256 .bf16) =>
  .op (.load arg5 (rRed s).toLoadRect (View.loadsAt_vmem h_S24x256)) fun (_ : Vec F S24x256 .bf16) =>
  .op (.store arg5 (rRed s) (redOf s x g) Finset.univ (View.stores_vmem h_S24x256 (harg5.storeExact_slice rfl _ (oRed_packed s)) (fun _ => rfl)) (.inl rfl)) fun _ =>
  .op (.load arg5 (rRed s).toLoadRect (View.loadsAt_vmem h_S24x256)) fun (r : Vec F S24x256 .bf16) =>
  .op (.load arg2 (rOwn s d).toLoadRect (View.loadsAt_vmem h_S24x256)) fun (_ : Vec F S24x256 .bf16) =>
  .op (.store arg2 (rOwn s d) r Finset.univ (View.stores_vmem h_S24x256 (harg2.storeExact_slice rfl _ (oLoad_packed s d)) (fun _ => rfl)) (.inl rfl)) fun _ => k

/-- One segment: the 31 arrivals, the reduction, the 31 sends of the result. -/
def segment (d : Dev nD) (s : Fin 3) (k : Pr F) : Pr F :=
  seqOf (offs.map (recv1 arg3 harg3 arg4 harg4 arg7 d s))
    (reduceSeg arg2 harg2 arg3 arg4 arg5 harg5 d s (seqOf (offs.map (send2 arg2 harg2 arg5 harg5 arg8 arg9 d s)) k))

/-- What follows the first product: the barrier's two stages and the exchange. -/
def exchange (d : Dev nD) (k : Pr F) : Pr F :=
  .op (wait1 barS 7#32) fun _ => seqOf ((crossPeers d).map (sig1 arg10.sem)) <| .op (wait1 arg10.sem 3#32) fun _ =>
  seqOf (offs.map (send1 arg3 harg3 arg4 harg4 arg6 arg7 d 0)) <|
  seqOf (offs.map (send1 arg3 harg3 arg4 harg4 arg6 arg7 d 1)) <|
  seqOf (offs.map (send1 arg3 harg3 arg4 harg4 arg6 arg7 d 2)) <|
  segment arg2 harg2 arg3 harg3 arg4 harg4 arg5 harg5 arg7 arg8 arg9 d 0 <|
  segment arg2 harg2 arg3 harg3 arg4 harg4 arg5 harg5 arg7 arg8 arg9 d 1 <|
  segment arg2 harg2 arg3 harg3 arg4 harg4 arg5 harg5 arg7 arg8 arg9 d 2 <|
  seqOf (offs.map (recv2 arg2 harg2 arg5 harg5 arg9 d 0)) <|
  seqOf (offs.map (recv2 arg2 harg2 arg5 harg5 arg9 d 1)) <|
  seqOf (offs.map (recv2 arg2 harg2 arg5 harg5 arg9 d 2)) <|
  seqOf (offs.map (left1 arg3 harg3 arg4 harg4 arg6 d 0)) <|
  seqOf (offs.map (left1 arg3 harg3 arg4 harg4 arg6 d 1)) <|
  seqOf (offs.map (left1 arg3 harg3 arg4 harg4 arg6 d 2)) <|
  seqOf (offs.map (left2 arg2 harg2 arg5 harg5 arg8 d 0)) <|
  seqOf (offs.map (left2 arg2 harg2 arg5 harg5 arg8 d 1)) <|
  seqOf (offs.map (left2 arg2 harg2 arg5 harg5 arg8 d 2)) k

/-- The whole body. -/
def body : Pr F :=
  .op .deviceId fun d => seqOf ((planePeers d).map (sig1 barS)) <|
  .op (.load arg0 (Rect.unit (s := S768x384) ![0, 0] S768x384.size inb_S768x384_S768x384_0_0).toLoadRect (View.loadsAt_vmem h_S768x384)) fun (a : Vec F S768x384 .bf16) =>
  .op (.load arg1 (Rect.unit (s := S384x768) ![0, 0] S384x768.size inb_S384x768_S384x768_0_0).toLoadRect (View.loadsAt_vmem h_S384x768)) fun (b : Vec F S384x768 .bf16) =>
  .op (.load arg3 (Rect.unit (s := S768x768) ![0, 0] S768x768.size inb_S768x768_S768x768_0_0).toLoadRect (View.loadsAt_vmem h_S768x768)) fun (_ : Vec F S768x768 .bf16) =>
  .op (.store arg3 (Rect.unit (s := S768x768) ![0, 0] S768x768.size inb_S768x768_S768x768_0_0) (k0_pay1 a b) Finset.univ
      (View.stores_vmem h_S768x768 (harg3.storeExact_slice rfl _ packedbf16_S768x768_S768x768_0_0) (fun _ => rfl)) (.inl rfl)) fun _ =>
  exchange arg2 harg2 arg3 harg3 arg4 harg4 arg5 harg5 arg6 arg7 arg8 arg9 arg10 d (.ret ⟨⟩)

set_option maxRecDepth 1000000 in
set_option maxHeartbeats 0 in
/-- The printed body is that sequence. -/
theorem body_eq : cc0_body (F := F) arg0 harg0 arg1 harg1 arg2 harg2 arg3 harg3 arg4 harg4 arg5 harg5 arg6 arg7 arg8 arg9 arg10
    = body arg0 arg1 arg2 harg2 arg3 harg3 arg4 harg4 arg5 harg5 arg6 arg7 arg8 arg9 arg10 := rfl

end Effects

end Cert.Proof.Steps

end
-- ==== Proof.Geometry.lean ====
/-
Where things lie: the devices around the mesh, the two stages of the entry barrier, the blocks of the buffers and the
semaphores, all in closed form.
-/
module

public import proofs.«01_k».proof.Proof.Steps
public import Idealize.ShloMosaic.Lib.ValueIdxCore
public import Idealize.ShloMosaic.Lib.Pipeline.Kit
public import Idealize.ShloMosaic.Lib.Pipeline.ValueKit.Geometry

@[expose] public section

noncomputable section

namespace Cert.Proof.Steps

open Cert.KernelIdeal Cert.KernelIdeal.Gen
open Idealize.ShloMosaic Idealize.ShloMosaic.TcCoe Idealize.SL.Sem

/-! ## Devices -/

/-- The device `o + 1` further on around the mesh. -/
def fwd (d : Dev nD) (o : Fin 31) : Dev nD := ⟨(d.val + o.val + 1) % 32, Nat.mod_lt _ (by decide)⟩
/-- The device `o + 1` before. -/
def bwd (d : Dev nD) (o : Fin 31) : Dev nD := ⟨(d.val + 31 - o.val) % 32, Nat.mod_lt _ (by decide)⟩

theorem bwd_fwd (d : Dev nD) (o : Fin 31) : bwd (fwd d o) o = d :=
  Fin.ext (by have := d.isLt; have := o.isLt; simp only [fwd, bwd, nD] at *; omega)
theorem fwd_bwd (d : Dev nD) (o : Fin 31) : fwd (bwd d o) o = d :=
  Fin.ext (by have := d.isLt; have := o.isLt; simp only [fwd, bwd, nD] at *; omega)

/-- Walking `o + 1` on, as a permutation of the devices. -/
def step (o : Fin 31) : Dev nD ≃ Dev nD := ⟨fun d => fwd d o, fun d => bwd d o, fun d => bwd_fwd d o, fun d => fwd_bwd d o⟩

/-- The devices other than `c`, by the number of steps from it, on by `f`: with `c` itself they are all of them. -/
theorem bijective_of_ne (c : Dev nD) (f : Fin 31 → Dev nD) (hf : Function.Injective f) (hc : ∀ o, f o ≠ c) :
    Function.Bijective (fun x : Option (Fin 31) => x.elim c f) := by
  refine (Fintype.bijective_iff_injective_and_card _).mpr ⟨?_, by simp [nD]⟩
  rintro (_ | x) (_ | y) h
  · rfl
  · exact absurd h.symm (hc y)
  · exact absurd h (hc x)
  · exact congrArg some (hf h)

/-- The devices are `c` and those `o + 1` further on. -/
def others (c : Dev nD) : Option (Fin 31) ≃ Dev nD :=
  Equiv.ofBijective _ (bijective_of_ne c (fwd c)
    (fun x y h => Fin.ext (by have := congrArg Fin.val h; have := c.isLt; simp only [fwd, nD] at *; omega))
    (fun x h => by have := congrArg Fin.val h; have := c.isLt; simp only [fwd, nD] at *; omega))
/-- The devices are `c` and those `o + 1` before. -/
def othersBack (c : Dev nD) : Option (Fin 31) ≃ Dev nD :=
  Equiv.ofBijective _ (bijective_of_ne c (bwd c)
    (fun x y h => Fin.ext (by have := congrArg Fin.val h; have := c.isLt; simp only [bwd, nD] at *; omega))
    (fun x h => by have := congrArg Fin.val h; have := c.isLt; simp only [bwd, nD] at *; omega))

theorem peer_eq : ∀ (d : Dev nD) (o : Fin 31), peer d o = fwd d o := by decide +kernel

/-- The other devices of the plane of eight. -/
def plane (d : Dev nD) : Finset (Dev nD) := Finset.univ.filter fun e => e.val / 8 = d.val / 8 ∧ e ≠ d
/-- The devices at the same place in the other planes. -/
def cross (d : Dev nD) : Finset (Dev nD) := Finset.univ.filter fun e => e.val % 8 = d.val % 8 ∧ e ≠ d

theorem planePeers_nodup : ∀ d : Dev nD, (planePeers d).Nodup := by decide +kernel
theorem planePeers_set : ∀ d : Dev nD, (planePeers d).toFinset = plane d := by decide +kernel
theorem crossPeers_nodup : ∀ d : Dev nD, (crossPeers d).Nodup := by decide +kernel
theorem crossPeers_set : ∀ d : Dev nD, (crossPeers d).toFinset = cross d := by decide +kernel
theorem plane_card : ∀ d : Dev nD, (plane d).card = 7 := by decide +kernel
theorem cross_card : ∀ d : Dev nD, (cross d).card = 3 := by decide +kernel
theorem plane_symm (d e : Dev nD) : e ∈ plane d ↔ d ∈ plane e := by simp [plane, eq_comm]
theorem cross_symm (d e : Dev nD) : e ∈ cross d ↔ d ∈ cross e := by simp [cross, eq_comm]

/-- A landing place: the receiver, and which of its 31 slots. -/
abbrev Place := Dev nD × Fin 31

/-- Who sends to a landing place. -/
def snd (p : Place) : Dev nD := bwd p.1 p.2
/-- Who passes a landing place on from its receiver to its sender: the device in the receiver's plane at the sender's
    position. -/
def rel (p : Place) : Dev nD := ⟨p.1.val / 8 * 8 + (snd p).val % 8, by have := p.1.isLt; simp only [nD] at *; omega⟩

/-- A device's own landing places. -/
def S0 (c : Dev nD) : Finset Place := Finset.univ.filter fun p => p.1 = c
/-- What `d` hands `e` at the first stage. -/
def B1 (d e : Dev nD) : Finset Place := Finset.univ.filter fun p => p.1 = d ∧ rel p = e
/-- What a device holds between the stages. -/
def S1 (c : Dev nD) : Finset Place := Finset.univ.filter fun p => rel p = c
/-- What `d` hands `e` at the second stage. -/
def B2 (d e : Dev nD) : Finset Place := Finset.univ.filter fun p => rel p = d ∧ snd p = e
/-- The landing places a device sends to. -/
def S2 (c : Dev nD) : Finset Place := Finset.univ.filter fun p => snd p = c

theorem rel_plane (p : Place) : rel p ∈ insert p.1 (plane p.1) := by
  have := p.1.isLt
  by_cases h : rel p = p.1
  · rw [h]; exact Finset.mem_insert_self _ _
  · refine Finset.mem_insert_of_mem (Finset.mem_filter.mpr ⟨Finset.mem_univ _, ?_, h⟩)
    simp only [rel]; omega
theorem plane_rel (p : Place) : p.1 ∈ insert (rel p) (plane (rel p)) := by
  rcases Finset.mem_insert.mp (rel_plane p) with h | h
  · rw [h]; exact Finset.mem_insert_self _ _
  · exact Finset.mem_insert_of_mem ((plane_symm _ _).mp h)
theorem rel_cross (p : Place) : rel p ∈ insert (snd p) (cross (snd p)) := by
  have := (snd p).isLt
  by_cases h : rel p = snd p
  · rw [h]; exact Finset.mem_insert_self _ _
  · refine Finset.mem_insert_of_mem (Finset.mem_filter.mpr ⟨Finset.mem_univ _, ?_, h⟩)
    simp only [rel]; omega
theorem cross_rel (p : Place) : snd p ∈ insert (rel p) (cross (rel p)) := by
  rcases Finset.mem_insert.mp (rel_cross p) with h | h
  · rw [h]; exact Finset.mem_insert_self _ _
  · exact Finset.mem_insert_of_mem ((cross_symm _ _).mp h)
theorem not_mem_plane (c : Dev nD) : c ∉ plane c := by simp [plane]
theorem not_mem_cross (c : Dev nD) : c ∉ cross c := by simp [cross]

/-! ## Offsets -/

theorem oOwn_eq (s : Fin 3) (d : Dev nD) : oOwn s d = ![24 * d.val, 256 * s.val] := by
  match s with
  | 0 => exact k0_off4_eq d
  | 1 => exact k0_off6_eq d
  | 2 => exact k0_off8_eq d
theorem oLoad_eq (s : Fin 3) (d : Dev nD) : oLoad s d = oOwn s d := by
  match s with
  | 0 => exact (k0_off5_eq d).trans (k0_off4_eq d).symm
  | 1 => exact (k0_off7_eq d).trans (k0_off6_eq d).symm
  | 2 => exact (k0_off9_eq d).trans (k0_off8_eq d).symm
set_option maxHeartbeats 0 in
theorem oSend_closed : ∀ (s : Fin 3) (d : Dev nD) (o : Fin 31), oSend s d o = ![24 * (fwd d o).val, 256 * s.val] := by decide +kernel
set_option maxHeartbeats 0 in
theorem oFrom_closed : ∀ (s : Fin 3) (d : Dev nD) (o : Fin 31), oFrom s d o = ![24 * (bwd d o).val, 256 * s.val] := by decide +kernel
theorem oSend_eq (s : Fin 3) (d : Dev nD) (o : Fin 31) : oSend s d o = oOwn s (fwd d o) := by rw [oSend_closed, oOwn_eq]
theorem oFrom_eq (s : Fin 3) (d : Dev nD) (o : Fin 31) : oFrom s d o = oOwn s (bwd d o) := by rw [oFrom_closed, oOwn_eq]
theorem oSlot_eq : ∀ (s : Fin 3) (o : Fin 31), oSlot s o = ![o.val, 0, 256 * s.val] := by decide +kernel
theorem oAll_eq : ∀ (s : Fin 3), oAll s = ![0, 0, 256 * s.val] := by decide +kernel
theorem oRed_eq : ∀ (s : Fin 3), oRed s = ![0, 256 * s.val] := by decide +kernel

/-! ## The buffers and their blocks -/

/-- The result's staging buffer, the accumulator, the gather buffer and the reduced block. -/
abbrev outM : Memref sig .tc .vmem S768x768 .bf16 := Memref.whole cc0_stg2_0
abbrev accM : Memref sig .tc .vmem S768x768 .bf16 := Memref.whole cc0_scratch0
abbrev gatM : Memref sig .tc .vmem S31x24x768 .bf16 := Memref.whole cc0_scratch1
abbrev redM : Memref sig .tc .vmem S24x768 .bf16 := Memref.whole cc0_scratch2
abbrev outW : outM.IsWhole := Memref.isWhole_whole _
abbrev accW : accM.IsWhole := Memref.isWhole_whole _
abbrev gatW : gatM.IsWhole := Memref.isWhole_whole _
abbrev redW : redM.IsWhole := Memref.isWhole_whole _

theorem accTo_eq (a : Memref sig .tc .vmem S768x768 .bf16) (s : Fin 3) (d : Dev nD) (o : Fin 31) : accTo a s d o = own a s (fwd d o) :=
  Memref.slice_unit_congr a (oSend_eq s d o) _ _ (fun _ => rfl) (fun _ => rfl)
theorem outFrom_eq (a : Memref sig .tc .vmem S768x768 .bf16) (s : Fin 3) (d : Dev nD) (o : Fin 31) : outFrom a s d o = own a s (bwd d o) :=
  Memref.slice_unit_congr a (oFrom_eq s d o) _ _ (fun _ => rfl) (fun _ => rfl)

/-- Block `(s, e)` of a 768×768 buffer: the 24 rows of device `e`, the 256 columns of segment `s`. -/
def blk (s : Fin 3) (e : Dev nD) : Finset S768x768.Idx := (Rect.unit (s := S768x768) (oOwn s e) S24x256.size (oOwn_inb s e)).set
/-- Block `(s, o)` of the gather buffer: slot `o`, the 256 columns of segment `s`. -/
def gblk (s : Fin 3) (o : Fin 31) : Finset S31x24x768.Idx := (Rect.unit (s := S31x24x768) (oSlot s o) S1x24x256.size (oSlot_inb s o)).set
/-- Segment `s` of the reduced block. -/
def rblk (s : Fin 3) : Finset S24x768.Idx := (Rect.unit (s := S24x768) (oRed s) S24x256.size (oRed_inb s)).set

theorem mem_blk {s : Fin 3} {e : Dev nD} {i : S768x768.Idx} :
    i ∈ blk s e ↔ (i 0).val / 24 = e.val ∧ (i 1).val / 256 = s.val := by
  unfold blk
  rw [Rect.mem_set_unit, oOwn_eq]
  have h0 : (i 0).val < 768 := (i 0).isLt
  have h1 : (i 1).val < 768 := (i 1).isLt
  constructor
  · intro h
    have a0 := h 0; have a1 := h 1
    simp [S24x256] at a0 a1
    omega
  · rintro ⟨a, b⟩ k
    fin_cases k <;> simp [S24x256] <;> omega
theorem mem_gblk {s : Fin 3} {o : Fin 31} {i : S31x24x768.Idx} :
    i ∈ gblk s o ↔ (i 0).val = o.val ∧ (i 2).val / 256 = s.val := by
  unfold gblk
  rw [Rect.mem_set_unit, oSlot_eq]
  have h0 : (i 0).val < 31 := (i 0).isLt
  have h1 : (i 1).val < 24 := (i 1).isLt
  have h2 : (i 2).val < 768 := (i 2).isLt
  constructor
  · intro h
    have a0 := h 0; have a2 := h 2
    simp [S1x24x256] at a0 a2
    omega
  · rintro ⟨a, b⟩ k
    fin_cases k <;> simp [S1x24x256] <;> omega
theorem mem_rblk {s : Fin 3} {i : S24x768.Idx} : i ∈ rblk s ↔ (i 1).val / 256 = s.val := by
  unfold rblk
  rw [Rect.mem_set_unit, oRed_eq]
  have h0 : (i 0).val < 24 := (i 0).isLt
  have h1 : (i 1).val < 768 := (i 1).isLt
  constructor
  · intro h
    have a1 := h 1
    simp [S24x256] at a1
    omega
  · rintro b k
    fin_cases k <;> simp [S24x256] <;> omega

theorem accown_set (s : Fin 3) (e : Dev nD) : (own accM s e).view.set = blk s e := View.set_slice_whole _ _
theorem outown_set (s : Fin 3) (e : Dev nD) : (own outM s e).view.set = blk s e := View.set_slice_whole _ _
theorem slot_set (s : Fin 3) (o : Fin 31) : (slot gatM s o).view.set = gblk s o :=
  (View.set_reshape (sig := sig) _ squeezes_S1x24x256_S24x256.numel_eq).trans (View.set_slice_whole _ _)
theorem redSeg_set (s : Fin 3) : (redSeg redM s).view.set = rblk s := View.set_slice_whole _ _

/-- The blocks make up the 768×768 buffer. -/
theorem blk_union : (Finset.univ : Finset (Fin 3 × Dev nD)).biUnion (fun p => blk p.1 p.2) = Finset.univ := by
  ext i
  simp only [Finset.mem_biUnion, Finset.mem_univ, true_and, iff_true]
  have h0 : (i 0).val < 768 := (i 0).isLt
  have h1 : (i 1).val < 768 := (i 1).isLt
  exact ⟨(⟨(i 1).val / 256, by omega⟩, ⟨(i 0).val / 24, by simp only [nD]; omega⟩), mem_blk.mpr ⟨rfl, rfl⟩⟩
theorem blk_disj : ((Finset.univ : Finset (Fin 3 × Dev nD)) : Set (Fin 3 × Dev nD)).PairwiseDisjoint (fun p => blk p.1 p.2) := by
  rintro ⟨s, e⟩ - ⟨s', e'⟩ - h
  refine Finset.disjoint_left.mpr fun i hi hi' => h ?_
  have a := mem_blk.mp hi; have b := mem_blk.mp hi'
  exact Prod.ext (Fin.ext (a.2.symm.trans b.2)) (Fin.ext (a.1.symm.trans b.1))
theorem gblk_union : (Finset.univ : Finset (Fin 3 × Fin 31)).biUnion (fun p => gblk p.1 p.2) = Finset.univ := by
  ext i
  simp only [Finset.mem_biUnion, Finset.mem_univ, true_and, iff_true]
  have h2 : (i 2).val < 768 := (i 2).isLt
  exact ⟨(⟨(i 2).val / 256, by omega⟩, i 0), mem_gblk.mpr ⟨rfl, rfl⟩⟩
theorem gblk_disj : ((Finset.univ : Finset (Fin 3 × Fin 31)) : Set (Fin 3 × Fin 31)).PairwiseDisjoint (fun p => gblk p.1 p.2) := by
  rintro ⟨s, e⟩ - ⟨s', e'⟩ - h
  refine Finset.disjoint_left.mpr fun i hi hi' => h ?_
  have a := mem_gblk.mp hi; have b := mem_gblk.mp hi'
  exact Prod.ext (Fin.ext (a.2.symm.trans b.2)) (Fin.ext (a.1.symm.trans b.1))
theorem rblk_union : (Finset.univ : Finset (Fin 3)).biUnion rblk = Finset.univ := by
  ext i
  simp only [Finset.mem_biUnion, Finset.mem_univ, true_and, iff_true]
  have h1 : (i 1).val < 768 := (i 1).isLt
  exact ⟨⟨(i 1).val / 256, by omega⟩, mem_rblk.mpr rfl⟩
theorem rblk_disj : ((Finset.univ : Finset (Fin 3)) : Set (Fin 3)).PairwiseDisjoint rblk := by
  rintro s - s' - h
  refine Finset.disjoint_left.mpr fun i hi hi' => h ?_
  exact Fin.ext ((mem_rblk.mp hi).symm.trans (mem_rblk.mp hi'))

/-! ## Where a view's index lies -/

theorem accown_emb (s : Fin 3) (e : Dev nD) (j : S24x256.Idx) :
    ((own accM s e).view.emb j 0).val = 24 * e.val + (j 0).val ∧ ((own accM s e).view.emb j 1).val = 256 * s.val + (j 1).val := by
  have h := ValueKit.rect_emb_unit_val (s := S768x768) (oOwn s e) S24x256.size (oOwn_inb s e) j
  exact ⟨(h 0).trans (congrArg (· + (j 0).val) (congrFun (oOwn_eq s e) 0)), (h 1).trans (congrArg (· + (j 1).val) (congrFun (oOwn_eq s e) 1))⟩
theorem outown_emb (s : Fin 3) (e : Dev nD) (j : S24x256.Idx) :
    ((own outM s e).view.emb j 0).val = 24 * e.val + (j 0).val ∧ ((own outM s e).view.emb j 1).val = 256 * s.val + (j 1).val :=
  accown_emb s e j
theorem redSeg_emb (s : Fin 3) (j : S24x256.Idx) :
    ((redSeg redM s).view.emb j 0).val = (j 0).val ∧ ((redSeg redM s).view.emb j 1).val = 256 * s.val + (j 1).val := by
  have h := ValueKit.rect_emb_unit_val (s := S24x768) (oRed s) S24x256.size (oRed_inb s) j
  exact ⟨((h 0).trans (congrArg (· + (j 0).val) (congrFun (oRed_eq s) 0))).trans (Nat.zero_add _),
    (h 1).trans (congrArg (· + (j 1).val) (congrFun (oRed_eq s) 1))⟩
theorem slot_emb (s : Fin 3) (o : Fin 31) (j : S24x256.Idx) :
    ((slot gatM s o).view.emb j 0).val = o.val ∧ ((slot gatM s o).view.emb j 1).val = (j 0).val
      ∧ ((slot gatM s o).view.emb j 2).val = 256 * s.val + (j 1).val := by
  have hj : Shape.reshapeEquiv (s := S1x24x256) (s' := S24x256) squeezes_S1x24x256_S24x256.numel_eq j = Fin.cons ⟨0, Nat.one_pos⟩ j :=
    Shape.reshapeEquiv_cons_one _ j
  have h := ValueKit.rect_emb_unit_val (s := S31x24x768) (oSlot s o) S1x24x256.size (oSlot_inb s o)
    (Shape.reshapeEquiv (s := S1x24x256) (s' := S24x256) squeezes_S1x24x256_S24x256.numel_eq j)
  have g := fun a : Fin 3 => (h a).trans (congrArg₂ (· + ·) (congrFun (oSlot_eq s o) a) (congrArg (fun z : S1x24x256.Idx => (z a).val) hj))
  exact ⟨g 0, (g 1).trans (Nat.zero_add _), g 2⟩

end Cert.Proof.Steps

end
-- ==== Proof.Protocol.lean ====
/-
What the devices promise each other: the contents of every buffer, the semaphores' cells, what each signal and each
transfer hands over, what a device owes and in which order it waits.
-/
module

public import proofs.«01_k».proof.Proof.Geometry
public import proofs.«01_k».proof.Proof.Gen.KernelIdeal.Launch
public import Idealize.ShloMosaic.Lib.Pipeline.Launch
public import Idealize.ShloMosaic.Lib.Tactic

@[expose] public section

noncomputable section

namespace Cert.Proof.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2)

variable {F : FTy → Type} [FloatOps F]

/-! ## Contents -/

section Contents

variable (xa : Dev nD → Vec F S768x384 .bf16) (xb : Dev nD → Vec F S384x768 .bf16)

/-- Each device's own product. -/
def accF (c : Dev nD) : S768x768.Idx → Elt F .bf16 := k0_pay1 (xa c) (xb c)

/-- The gather buffer once everything has arrived: slot `o` holds the rows of device `c` of the product of the device
    `o + 1` before `c`. -/
def gatF (c : Dev nD) : S31x24x768.Idx → Elt F .bf16 := fun i =>
  accF xa xb (bwd c (i 0)) (ix2 (n0 := 768) (n1 := 768) ⟨24 * c.val + (i 1).val, by
    have h : (i 1).val < 24 := (i 1).isLt; have := c.isLt; simp only [nD] at *; omega⟩ (i 2))

/-- Segment `s` of a device's own rows, reduced over the devices. -/
def segR (c : Dev nD) (s : Fin 3) : S24x256.Idx → Elt F .bf16 :=
  redOf s (accM.view.readAt (Elt F) (rOwn s c).toLoadRect (accF xa xb c)) (gatM.view.readAt (Elt F) (rAll s).toLoadRect (gatF xa xb c))

/-- The reduced block: a device's 24 rows of the result. -/
def redF (c : Dev nD) : S24x768.Idx → Elt F .bf16 := fun i =>
  segR xa xb c ⟨(i 1).val / 256, by have h : (i 1).val < 768 := (i 1).isLt; omega⟩
    (ix2 (n0 := 24) (n1 := 256) (i 0) ⟨(i 1).val % 256, Nat.mod_lt _ (by decide)⟩)

/-- The result: row `r` is row `r % 24` of device `r / 24`'s reduced block. -/
def outF : S768x768.Idx → Elt F .bf16 := fun i =>
  redF xa xb ⟨(i 0).val / 24, by have h : (i 0).val < 768 := (i 0).isLt; simp only [nD]; omega⟩
    (ix2 (n0 := 24) (n1 := 768) ⟨(i 0).val % 24, Nat.mod_lt _ (by decide)⟩ (i 1))

/-- Two indices of a matrix with the same coordinates are the same. -/
theorem idx2_ext {n m : ℕ} {i j : (⟨2, ![n, m]⟩ : Shape).Idx} (h0 : (i 0).val = (j 0).val) (h1 : (i 1).val = (j 1).val) : i = j := by
  funext a
  match a with
  | ⟨0, _⟩ => exact Fin.ext h0
  | ⟨1, _⟩ => exact Fin.ext h1

theorem gatF_slot (c : Dev nD) (s : Fin 3) (o : Fin 31) (j : S24x256.Idx) :
    gatF xa xb (fwd c o) ((slot gatM s o).view.emb j) = accF xa xb c ((own accM s (fwd c o)).view.emb j) := by
  obtain ⟨h0, h1, h2⟩ := slot_emb s o j
  obtain ⟨g0, g1⟩ := accown_emb s (fwd c o) j
  have hb : bwd (fwd c o) ((slot gatM s o).view.emb j 0) = c := by
    have : ((slot gatM s o).view.emb j 0) = o := Fin.ext h0
    rw [this]; exact bwd_fwd c o
  unfold gatF
  rw [hb]
  refine congrArg (accF xa xb c) (idx2_ext ?_ ?_)
  · exact (congrArg (24 * (fwd c o).val + ·) h1).trans g0.symm
  · exact h2.trans g1.symm

theorem redF_seg (c : Dev nD) (s : Fin 3) (j : S24x256.Idx) : redF xa xb c ((redSeg redM s).view.emb j) = segR xa xb c s j := by
  obtain ⟨h0, h1⟩ := redSeg_emb s j
  have hj : (j 1).val < 256 := (j 1).isLt
  have hs : (⟨((redSeg redM s).view.emb j 1).val / 256, by
      have h : ((redSeg redM s).view.emb j 1).val < 768 := ((redSeg redM s).view.emb j 1).isLt; omega⟩ : Fin 3) = s := Fin.ext (by
    show ((redSeg redM s).view.emb j 1).val / 256 = s.val
    omega)
  unfold redF
  rw [hs]
  refine congrArg (segR xa xb c s) (idx2_ext ?_ ?_)
  · exact h0
  · show ((redSeg redM s).view.emb j 1).val % 256 = (j 1).val
    omega

theorem outF_own (c : Dev nD) (s : Fin 3) (j : S24x256.Idx) : outF xa xb ((own outM s c).view.emb j) = segR xa xb c s j := by
  obtain ⟨h0, h1⟩ := outown_emb s c j
  obtain ⟨g0, g1⟩ := redSeg_emb s j
  have hj : (j 0).val < 24 := (j 0).isLt
  rw [← redF_seg]
  unfold outF
  have hs : ∀ h, (⟨((own outM s c).view.emb j 0).val / 24, h⟩ : Dev nD) = c := fun h => Fin.ext
    ((congrArg (· / 24) h0).trans (by show (24 * c.val + (j 0).val) / 24 = c.val; omega))
  rw [hs]
  refine congrArg (redF xa xb c) (idx2_ext ?_ ?_)
  · exact (congrArg (· % 24) h0).trans ((by show (24 * c.val + (j 0).val) % 24 = (j 0).val; omega : _ = (j 0).val).trans g0.symm)
  · exact h1.trans g1.symm

end Contents

/-! ## Cells -/

/-- A device's semaphores: the two barriers; per family (first-phase departures and arrivals, second-phase departures and
    arrivals), segment and ring offset a transfer's. -/
abbrev CI : Type := Fin 2 ⊕ (Fin 4 × Fin 3 × Fin 31)

/-- The four families' arrays. -/
abbrev famArr (k : Fin 4) : DmaSems sig S3x31 :=
  match k with | 0 => cc0_scratch3 | 1 => cc0_scratch4 | 2 => cc0_scratch5 | 3 => cc0_scratch6

/-- Which semaphore a cell is. -/
abbrev csem (i : CI) : SemLoc sig :=
  match i with
  | .inl 0 => .reg barS
  | .inl 1 => .reg cc0_scratch7.sem
  | .inr (k, s, o) => .dma (semAt (famArr k) s o)

theorem semAt_val : ∀ (k : Fin 4) (s : Fin 3) (o : Fin 31), (semAt (famArr k) s o).val = 3 + 93 * k.val + 31 * s.val + o.val := by
  decide +kernel
theorem bars_ne : (barS : Sem sig) ≠ cc0_scratch7.sem := by decide

theorem csem_injective : Function.Injective csem := by
  rintro (a | ⟨k, s, o⟩) (a' | ⟨k', s', o'⟩) h
  · fin_cases a <;> fin_cases a'
    · rfl
    · exact absurd (SemLoc.reg.inj h) bars_ne
    · exact absurd (SemLoc.reg.inj h).symm bars_ne
    · rfl
  · fin_cases a <;> exact nomatch h
  · fin_cases a' <;> exact nomatch h
  · have e := congrArg Fin.val (SemLoc.dma.inj h)
    rw [semAt_val, semAt_val] at e
    have hk := k.isLt; have hk' := k'.isLt; have hs := s.isLt; have hs' := s'.isLt; have ho := o.isLt; have ho' := o'.isLt
    have e1 : k = k' := Fin.ext (by omega)
    have e2 : s = s' := Fin.ext (by omega)
    have e3 : o = o' := Fin.ext (by omega)
    rw [e1, e2, e3]

/-- A device's cell. -/
abbrev kcell (a : Dev nD × CI) : GSem nD τ sig := ((a.1 : Thread nD τ), csem a.2)

theorem kcell_injective : Function.Injective kcell := by
  rintro ⟨c, i⟩ ⟨c', i'⟩ h
  have h1 : c = c' := congrArg (fun g : GSem nD τ sig => g.1.1) h
  have h2 : csem i = csem i' := congrArg Prod.snd h
  rw [h1, csem_injective h2]

/-- What one transfer of a 24×256 block credits. -/
abbrev N : ℕ := (slot gatM 0 0).view.dmaCredit
theorem N_pos : 0 < N := View.dmaCredit_pos _ (by decide)

/-! ## The resources -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev accL (c : Dev nD) : Loc nD τ sig := accM.view.loc (c : Thread nD τ)
abbrev gatL (c : Dev nD) : Loc nD τ sig := gatM.view.loc (c : Thread nD τ)
abbrev redL (c : Dev nD) : Loc nD τ sig := redM.view.loc (c : Thread nD τ)
abbrev outL (c : Dev nD) : Loc nD τ sig := outM.view.loc (c : Thread nD τ)

/-- Slot `o`, segment `s` of `c`'s gather buffer, whatever it holds. -/
def gatE (c : Dev nD) (s : Fin 3) (o : Fin 31) : sProp 𝕄 :=
  iprop(∃ f : Buf (Elt F) (gatL c), gatL c ↦[gblk s o]{fullShare} f)
/-- Block `(s, e)` of `c`'s result, whatever it holds. -/
def outE (c : Dev nD) (s : Fin 3) (e : Dev nD) : sProp 𝕄 :=
  iprop(∃ f : Buf (Elt F) (outL c), outL c ↦[blk s e]{fullShare} f)
/-- Segment `s` of `c`'s reduced block, whatever it holds. -/
def redE (c : Dev nD) (s : Fin 3) : sProp 𝕄 :=
  iprop(∃ f : Buf (Elt F) (redL c), redL c ↦[rblk s]{fullShare} f)

/-- A landing place: what its receiver lends its sender, the slot and the sender's rows of the receiver's result. -/
def land (p : Place) : sProp 𝕄 :=
  bigSep Finset.univ fun s : Fin 3 => iprop(gatE (F := F) p.1 s p.2 ∗ outE (F := F) p.1 s (snd p))

section Payloads

variable (xa : Dev nD → Vec F S768x384 .bf16) (xb : Dev nD → Vec F S384x768 .bf16)

/-- Block `(s, e)` of `c`'s product. -/
def accP (c : Dev nD) (s : Fin 3) (e : Dev nD) : sProp 𝕄 := accL c ↦[blk s e]{fullShare} (accF xa xb c : Buf (Elt F) (accL c))
/-- Slot `o`, segment `s` of `c`'s gather buffer, arrived. -/
def gatP (c : Dev nD) (s : Fin 3) (o : Fin 31) : sProp 𝕄 := gatL c ↦[gblk s o]{fullShare} (gatF xa xb c : Buf (Elt F) (gatL c))
/-- A share of segment `s` of `c`'s reduced block. -/
def redP (q : PosShare TreeShare) (c : Dev nD) (s : Fin 3) : sProp 𝕄 := redL c ↦[rblk s]{q} (redF xa xb c : Buf (Elt F) (redL c))
/-- Block `(s, e)` of `c`'s result, in place. -/
def outP (c : Dev nD) (s : Fin 3) (e : Dev nD) : sProp 𝕄 := outL c ↦[blk s e]{fullShare} (outF xa xb : Buf (Elt F) (outL c))

omit [FloatOps F] in
instance gatE_storable (c s o) : BI.Storable (upEmb : UEmb _ 𝕄) (gatE (F := F) c s o) := by unfold gatE; infer_instance
omit [FloatOps F] in
instance outE_storable (c s o) : BI.Storable (upEmb : UEmb _ 𝕄) (outE (F := F) c s o) := by unfold outE; infer_instance
omit [FloatOps F] in
instance land_storable (p) : BI.Storable (upEmb : UEmb _ 𝕄) (land (F := F) p) := by unfold land; infer_instance
instance accP_storable (c s e) : BI.Storable (upEmb : UEmb _ 𝕄) (accP xa xb c s e) := by unfold accP; infer_instance
instance gatP_storable (c s o) : BI.Storable (upEmb : UEmb _ 𝕄) (gatP xa xb c s o) := by unfold gatP; infer_instance
instance redP_storable (q c s) : BI.Storable (upEmb : UEmb _ 𝕄) (redP xa xb q c s) := by unfold redP; infer_instance
instance outP_storable (c s e) : BI.Storable (upEmb : UEmb _ 𝕄) (outP xa xb c s e) := by unfold outP; infer_instance

/-- The share of the reduced block that the send to the device `o + 1` further on takes. -/
abbrev tok (o : Fin 31) : PosShare TreeShare := Transfers.shareTok fullShare 31 o

/-- What a cell's transfer hands its owner. -/
def xferPay (c : Dev nD) (k : Fin 4) (s : Fin 3) (o : Fin 31) : sProp 𝕄 :=
  match k with
  | 0 => accP xa xb c s (fwd c o)
  | 1 => gatP xa xb c s o
  | 2 => redP xa xb (tok o) c s
  | 3 => outP xa xb c s (bwd c o)

/-- What the duty of `d` at a cell hands the cell's owner. -/
def cellPay (a : Dev nD × CI) (d : Dev nD) : sProp 𝕄 :=
  match a.2 with
  | .inl 0 => bigSep (B1 d a.1) (land (F := F))
  | .inl 1 => bigSep (B2 d a.1) (land (F := F))
  | .inr (k, s, o) => xferPay xa xb a.1 k s o

instance cellPay_storable (a d) : BI.Storable (upEmb : UEmb _ 𝕄) (cellPay xa xb a d) := by
  obtain ⟨c, i⟩ := a
  rcases i with i | ⟨k, s, o⟩
  · fin_cases i
    · show BI.Storable upEmb (bigSep (B1 d c) (land (F := F))); infer_instance
    · show BI.Storable upEmb (bigSep (B2 d c) (land (F := F))); infer_instance
  · show BI.Storable upEmb (xferPay xa xb c k s o)
    fin_cases k
    · show BI.Storable upEmb (accP xa xb c s (fwd c o)); infer_instance
    · show BI.Storable upEmb (gatP xa xb c s o); infer_instance
    · show BI.Storable upEmb (redP xa xb (tok o) c s); infer_instance
    · show BI.Storable upEmb (outP xa xb c s (bwd c o)); infer_instance

/-- Who pays a cell. A transfer's cell has one duty, named by device `0`. -/
def cellDuties (a : Dev nD × CI) : Finset (Dev nD) :=
  match a.2 with
  | .inl 0 => plane a.1
  | .inl 1 => cross a.1
  | .inr _ => {0}
/-- How many units each duty of a cell pays. -/
def cellAmount (a : Dev nD × CI) : ℕ :=
  match a.2 with
  | .inl _ => 1
  | .inr _ => N
/-- All the units a cell receives. -/
def cellTotal (i : CI) : ℕ :=
  match i with
  | .inl 0 => 7
  | .inl 1 => 3
  | .inr _ => N

/-- One round: every cell is paid once. -/
def Rd : Rounds.Schedule (GSem nD τ sig) (Dev nD) 𝕄 where
  duties g r := if r = 0 then Function.extend kcell cellDuties (fun _ => ∅) g else ∅
  unitless _ := False
  amount g _ _ := Function.extend kcell cellAmount (fun _ => 1) g
  payload g _ d := Function.extend kcell (fun a => cellPay xa xb a d) (fun _ => iprop(emp)) g
  amount_pos g _ _ _ := by
    by_cases h : ∃ a, kcell a = g
    · obtain ⟨a, rfl⟩ := h
      rw [kcell_injective.extend_apply]
      obtain ⟨c, i | x⟩ := a
      · exact Nat.one_pos
      · exact N_pos
    · rw [Function.extend_apply' _ _ _ h]; exact Nat.one_pos

instance Rd_storable (g : GSem nD τ sig) (r : ℕ) (d : Dev nD) : BI.Storable (upEmb : UEmb _ 𝕄) ((Rd xa xb).payload g r d) := by
  show BI.Storable upEmb (Function.extend kcell (fun a => cellPay xa xb a d) (fun _ => iprop(emp)) g)
  by_cases h : ∃ a, kcell a = g
  · obtain ⟨a, rfl⟩ := h
    rw [kcell_injective.extend_apply]; infer_instance
  · rw [Function.extend_apply' _ _ _ h]; infer_instance

theorem Rd_duties (a : Dev nD × CI) : (Rd xa xb).duties (kcell a) 0 = cellDuties a := by
  show (if (0 : ℕ) = 0 then Function.extend kcell cellDuties (fun _ => ∅) (kcell a) else ∅) = _
  rw [if_pos rfl, kcell_injective.extend_apply]
theorem Rd_later (g : GSem nD τ sig) : ∀ r, 1 ≤ r → (Rd xa xb).duties g r = ∅ := fun r hr => if_neg (by omega)
theorem Rd_amount (a : Dev nD × CI) (d : Dev nD) : (Rd xa xb).amount (kcell a) 0 d = cellAmount a :=
  kcell_injective.extend_apply cellAmount (fun _ => 1) a
theorem Rd_payload (a : Dev nD × CI) (d : Dev nD) : (Rd xa xb).payload (kcell a) 0 d = cellPay xa xb a d :=
  kcell_injective.extend_apply (fun a => cellPay xa xb a d) (fun _ => iprop(emp)) a
theorem Rd_expect (c : Dev nD) (i : CI) : (Rd xa xb).expect (kcell (c, i)) 0 = cellTotal i := by
  unfold Schedule.expect Schedule.amountOf
  rw [Rd_duties, Finset.sum_congr rfl fun d _ => Rd_amount xa xb (c, i) d, Finset.sum_const, smul_eq_mul]
  rcases i with i | x
  · fin_cases i
    · show (plane c).card * 1 = 7; rw [plane_card]
    · show (cross c).card * 1 = 3; rw [cross_card]
  · show 1 * N = N; exact Nat.one_mul _

/-- Everything the duties of a cell hand its owner. -/
def cellGain (c : Dev nD) (i : CI) : sProp 𝕄 := bigSep (cellDuties (c, i)) (cellPay xa xb (c, i))

theorem Rd_rest (c : Dev nD) (i : CI) :
    bigSep ((Rd xa xb).duties (kcell (c, i)) 0 \ ∅) (fun d => (Rd xa xb).payload (kcell (c, i)) 0 d) = cellGain xa xb c i := by
  rw [Finset.sdiff_empty, Rd_duties]
  exact bigSep_congr fun d _ => Rd_payload xa xb (c, i) d
theorem cellGain_xfer (c : Dev nD) (k : Fin 4) (s : Fin 3) (o : Fin 31) : cellGain xa xb c (.inr (k, s, o)) = xferPay xa xb c k s o :=
  bigSep_singleton

end Payloads

/-! ## Levels -/

/-- Levels: a device waits for the barriers, then for the first phase's arrivals, then for the second's; departures are
    waited for at the end and staging at the start. -/
def lvl (i : CI) : ℕ :=
  match i with
  | .inl 0 => 1
  | .inl 1 => 2
  | .inr (k, _, _) => match k with | 0 => 0 | 1 => 3 | 2 => 0 | 3 => 4

def L (g : GSem nD τ sig) : Finset Unit := if g.1.2 = .tc then {()} else ∅
def lv (g : GSem nD τ sig) (_ : Unit) : ℕ := Function.extend kcell (fun a => lvl a.2) (fun _ => 0) g

theorem L_of_ne (g : GSem nD τ sig) (h : g.1.2 ≠ .tc) : L g = ∅ := if_neg h
theorem L_tc (c : Dev nD) (sm : SemLoc sig) : L ((c : Thread nD τ), sm) = {()} := if_pos rfl
theorem lv_kcell (a : Dev nD × CI) (u : Unit) : lv (kcell a) u = lvl a.2 := kcell_injective.extend_apply _ _ _

/-- Everything owed is owed to cells above level `n`. -/
def Above (n : ℕ) (O : CellTallies nD τ sig Unit) : Prop := ∀ g u, 0 < O g u → ∃ a, g = kcell a ∧ n < lvl a.2

theorem above_zero (n : ℕ) : Above n 0 := fun g u h => absurd h (Nat.lt_irrefl 0)
theorem above_add {n : ℕ} {O O' : CellTallies nD τ sig Unit} (h : Above n O) (h' : Above n O') : Above n (O + O') := fun g u hp => by
  rw [Pi.add_apply, Finsupp.add_apply] at hp
  by_cases h0 : 0 < O g u
  · exact h g u h0
  · exact h' g u (by omega)
theorem above_tally {n : ℕ} (a : Dev nD × CI) (k : ℕ) (h : n < lvl a.2) : Above n (tallyAt (kcell a) () k) := fun g u hp => by
  rw [tallyAt_apply] at hp
  by_cases hg : g = kcell a ∧ u = ()
  · exact ⟨a, hg.1, h⟩
  · rw [if_neg hg] at hp; exact absurd hp (Nat.lt_irrefl 0)
theorem above_sum {n : ℕ} {ι : Type} (l : List ι) (t : ι → CellTallies nD τ sig Unit) (h : ∀ i ∈ l, Above n (t i)) : Above n (l.map t).sum := by
  induction l with
  | nil => exact above_zero n
  | cons i l ih =>
    rw [List.map_cons, List.sum_cons]
    exact above_add (h i List.mem_cons_self) (ih fun j hj => h j (List.mem_cons_of_mem i hj))

omit [FloatOps F] in
/-- A wait at a level below everything owed is allowed. -/
theorem mayWait_of {n : ℕ} {O : CellTallies nD τ sig Unit} (c : Dev nD) (sm : SemLoc sig) (hsm : lv ((c : Thread nD τ), sm) () ≤ n) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨a, rfl, -⟩ := h g u hg; rw [L_tc]; exact Finset.mem_singleton_self _)
    (fun p hp => by rw [Finset.mem_singleton.mp hp]; exact hsm)
    (fun g u hg => by obtain ⟨a, rfl, ha⟩ := h g u hg; rw [lv_kcell]; exact ha)

/-! ## What a device owes -/

/-- The unit owed to another device's first barrier, -/
abbrev tB (e : Dev nD) : CellTallies nD τ sig Unit := tallyAt (kcell (e, .inl 0)) () 1
/-- to another device's second barrier, -/
abbrev tB2 (e : Dev nD) : CellTallies nD τ sig Unit := tallyAt (kcell (e, .inl 1)) () 1
/-- the first phase's transfer owed to the device `o + 1` further on, -/
abbrev tR1 (c : Dev nD) (s : Fin 3) (o : Fin 31) : CellTallies nD τ sig Unit := tallyAt (kcell (fwd c o, .inr (1, s, o))) () N
/-- and the second phase's. -/
abbrev tR2 (c : Dev nD) (s : Fin 3) (o : Fin 31) : CellTallies nD τ sig Unit := tallyAt (kcell (fwd c o, .inr (3, s, o))) () N

/-- The second phase's debt of segment `s`; the first's; the second barrier's; the first's. -/
def oR2 (c : Dev nD) (s : Fin 3) : CellTallies nD τ sig Unit := (offs.map (tR2 c s)).sum
def oR1 (c : Dev nD) (s : Fin 3) : CellTallies nD τ sig Unit := (offs.map (tR1 c s)).sum
def oB2 (c : Dev nD) : CellTallies nD τ sig Unit := ((crossPeers c).map tB2).sum
def oB (c : Dev nD) : CellTallies nD τ sig Unit := ((planePeers c).map tB).sum

/-- What is still owed as the body goes on: after segment 1's second-phase sends, after segment 0's, … -/
def D1 (c : Dev nD) : CellTallies nD τ sig Unit := 0 + oR2 c 2
def D2 (c : Dev nD) : CellTallies nD τ sig Unit := D1 c + oR2 c 1
def D3 (c : Dev nD) : CellTallies nD τ sig Unit := D2 c + oR2 c 0
def D4 (c : Dev nD) : CellTallies nD τ sig Unit := D3 c + oR1 c 2
def D5 (c : Dev nD) : CellTallies nD τ sig Unit := D4 c + oR1 c 1
def D6 (c : Dev nD) : CellTallies nD τ sig Unit := D5 c + oR1 c 0
def D7 (c : Dev nD) : CellTallies nD τ sig Unit := D6 c + oB2 c
/-- What a device owes at the start. -/
def O₀ (c : Dev nD) : CellTallies nD τ sig Unit := D7 c + oB c

theorem above_R2 (c : Dev nD) (s : Fin 3) {n : ℕ} (h : n < 4) : Above n (oR2 c s) := above_sum _ _ fun o _ => above_tally _ _ h
theorem above_R1 (c : Dev nD) (s : Fin 3) {n : ℕ} (h : n < 3) : Above n (oR1 c s) := above_sum _ _ fun o _ => above_tally _ _ h
theorem above_B2 (c : Dev nD) {n : ℕ} (h : n < 2) : Above n (oB2 c) := above_sum _ _ fun o _ => above_tally _ _ h
theorem above_B (c : Dev nD) {n : ℕ} (h : n < 1) : Above n (oB c) := above_sum _ _ fun o _ => above_tally _ _ h
theorem above_D1 (c : Dev nD) {n : ℕ} (h : n < 4) : Above n (D1 c) := above_add (above_zero n) (above_R2 c 2 h)
theorem above_D2 (c : Dev nD) {n : ℕ} (h : n < 4) : Above n (D2 c) := above_add (above_D1 c h) (above_R2 c 1 h)
theorem above_D3 (c : Dev nD) {n : ℕ} (h : n < 4) : Above n (D3 c) := above_add (above_D2 c h) (above_R2 c 0 h)
theorem above_D6 (c : Dev nD) {n : ℕ} (h : n < 3) : Above n (D6 c) :=
  above_add (above_add (above_add (above_D3 c (by omega)) (above_R1 c 2 h)) (above_R1 c 1 h)) (above_R1 c 0 h)
theorem above_D7 (c : Dev nD) {n : ℕ} (h : n < 2) : Above n (D7 c) := above_add (above_D6 c (by omega)) (above_B2 c h)
theorem above_O₀ (c : Dev nD) {n : ℕ} (h : n < 1) : Above n (O₀ c) := above_add (above_D7 c (by omega)) (above_B c h)

end Cert.Proof.Steps

end
-- ==== Proof.Sep.lean ====
/-
Rearranging separating conjunctions over finite sets, and the kernel's buffers as the conjunction of their blocks.
-/
module

public import proofs.«01_k».proof.Proof.Protocol
public import Idealize.ShloMosaic.Lib.Transfers

@[expose] public section

noncomputable section

namespace Cert.Proof.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Sets

variable {α β : Type} [Fintype α] [Fintype β] [DecidableEq α] [DecidableEq β]

omit [FloatOps F] in
/-- A conjunction over a set is one over everything, empty off the set. -/
theorem sep_all (S : Finset α) (Φ : α → sProp 𝕄) : bigSep S Φ = bigSep Finset.univ fun a => if a ∈ S then Φ a else iprop(emp) := by
  have h := bigSep_filter (M := 𝕄) Finset.univ (fun a => a ∈ S) Φ
  rw [show Finset.univ.filter (fun a => a ∈ S) = S from Finset.filter_univ_mem S] at h
  exact h

omit [FloatOps F] in
/-- Two conjunctions commute. -/
theorem sep_swap (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]
  rfl

omit [FloatOps F] in
/-- Two nested conjunctions over the pairs of a relation commute. -/
theorem sep_rel (T : α → Finset β) (T' : β → Finset α) (hT : ∀ a b, b ∈ T a ↔ a ∈ T' b) (Φ : α → β → sProp 𝕄) :
    (bigSep Finset.univ fun a => bigSep (T a) fun b => Φ a b) = bigSep Finset.univ fun b => bigSep (T' b) fun a => Φ a b := by
  have h1 : (bigSep Finset.univ fun a => bigSep (T a) fun b => Φ a b)
      = bigSep Finset.univ fun a => bigSep Finset.univ fun b => if b ∈ T a then Φ a b else iprop(emp) :=
    bigSep_congr fun a _ => sep_all (T a) _
  have h2 : (bigSep Finset.univ fun b => bigSep (T' b) fun a => Φ a b)
      = bigSep Finset.univ fun b => bigSep Finset.univ fun a => if b ∈ T a then Φ a b else iprop(emp) :=
    bigSep_congr fun b _ => (sep_all (T' b) _).trans (bigSep_congr fun a _ => if_congr (hT a b).symm rfl rfl)
  rw [h1, h2, sep_swap]

omit [FloatOps F] in
/-- A conjunction over a set is the conjunction, over the values a map takes on it, of those over the fibres. -/
theorem sep_fibres (S : Finset α) (T : Finset β) (B : β → Finset α) (f : α → β) (h : ∀ a b, (a ∈ S ∧ b = f a) ↔ (b ∈ T ∧ a ∈ B b))
    (Φ : α → sProp 𝕄) : bigSep S Φ = bigSep T fun b => bigSep (B b) Φ := by
  have h1 : bigSep S Φ = bigSep Finset.univ fun a => bigSep (if a ∈ S then {f a} else ∅) fun _ => Φ a := by
    rw [sep_all]
    refine bigSep_congr fun a _ => ?_
    by_cases ha : a ∈ S
    · rw [if_pos ha, if_pos ha, bigSep_singleton]
    · rw [if_neg ha, if_neg ha]; rfl
  have h2 : (bigSep T fun b => bigSep (B b) Φ) = bigSep Finset.univ fun b => bigSep (if b ∈ T then B b else ∅) Φ := by
    rw [sep_all]
    refine bigSep_congr fun b _ => ?_
    by_cases hb : b ∈ T
    · rw [if_pos hb, if_pos hb]
    · rw [if_neg hb, if_neg hb]; rfl
  rw [h1, h2]
  refine sep_rel (fun a => if a ∈ S then {f a} else ∅) (fun b => if b ∈ T then B b else ∅) (fun a b => ?_) (fun a _ => Φ a)
  constructor
  · intro hb
    by_cases ha : a ∈ S
    · rw [if_pos ha] at hb
      have := (h a b).mp ⟨ha, Finset.mem_singleton.mp hb⟩
      rw [if_pos this.1]; exact this.2
    · rw [if_neg ha] at hb; exact absurd hb (Finset.notMem_empty _)
  · intro ha
    by_cases hb : b ∈ T
    · rw [if_pos hb] at ha
      have := (h a b).mpr ⟨hb, ha⟩
      rw [if_pos this.1]; exact Finset.mem_singleton.mpr this.2
    · rw [if_neg hb] at ha; exact absurd ha (Finset.notMem_empty _)

omit [FloatOps F] [Fintype α] in
/-- A separating conjunction over a set with one more element. -/
theorem sep_insert {l : Finset α} {i : α} (h : i ∉ l) {Φ : α → sProp 𝕄} : bigSep (insert i l) Φ = iprop(Φ i ∗ bigSep l Φ) := bigSep_insert h
omit [FloatOps F] [Fintype α] in
/-- One of its members. -/
theorem sep_pick {l : Finset α} {i : α} (h : i ∈ l) {Φ : α → sProp 𝕄} : (bigSep l Φ : sProp 𝕄) ⊢ Φ i := bigSep_elim h

omit [FloatOps F] in
/-- Over the three segments. -/
theorem sep_three (Φ : Fin 3 → sProp 𝕄) : bigSep Finset.univ Φ = iprop(Φ 0 ∗ Φ 1 ∗ Φ 2) := by
  rw [show (Finset.univ : Finset (Fin 3)) = insert 0 (insert 1 {2}) by decide, sep_insert (by decide), sep_insert (by decide), bigSep_singleton]

end Sets

omit [FloatOps F] in
/-- The two sides of a separating conjunction the other way round. -/
theorem sep_flip (P Q : sProp 𝕄) : iprop(P ∗ Q) = iprop(Q ∗ P) :=
  BI.Entails.antisymm
    (show (iprop(P ∗ Q) : sProp 𝕄) ⊢ iprop(Q ∗ P) by iintro ⟨H1, H2⟩; isplitl [H2] <;> iassumption)
    (show (iprop(Q ∗ P) : sProp 𝕄) ⊢ iprop(P ∗ Q) by iintro ⟨H1, H2⟩; isplitl [H2] <;> iassumption)

/-! ## The ring -/

omit [FloatOps F] in
/-- All devices are one device and those further on. -/
theorem sep_others (c : Dev nD) (Φ : Dev nD → sProp 𝕄) : bigSep Finset.univ Φ = iprop(Φ c ∗ bigSep Finset.univ fun o => Φ (fwd c o)) := by
  rw [bigSep_univ_equiv ((Equiv.optionEquivSumPUnit (Fin 31)).symm.trans (others c)), bigSep_univ_sum]
  have h : (bigSep Finset.univ fun b : PUnit.{1} => Φ (((Equiv.optionEquivSumPUnit (Fin 31)).symm.trans (others c)) (.inr b))) = Φ c := by
    rw [show (Finset.univ : Finset PUnit.{1}) = {⟨⟩} from rfl, bigSep_singleton]; rfl
  rw [h]
  exact sep_flip _ _
omit [FloatOps F] in
/-- All devices are one device and those before. -/
theorem sep_othersBack (c : Dev nD) (Φ : Dev nD → sProp 𝕄) : bigSep Finset.univ Φ = iprop(Φ c ∗ bigSep Finset.univ fun o => Φ (bwd c o)) := by
  rw [bigSep_univ_equiv ((Equiv.optionEquivSumPUnit (Fin 31)).symm.trans (othersBack c)), bigSep_univ_sum]
  have h : (bigSep Finset.univ fun b : PUnit.{1} => Φ (((Equiv.optionEquivSumPUnit (Fin 31)).symm.trans (othersBack c)) (.inr b))) = Φ c := by
    rw [show (Finset.univ : Finset PUnit.{1}) = {⟨⟩} from rfl, bigSep_singleton]; rfl
  rw [h]
  exact sep_flip _ _

/-! ## The landing places' two hops -/

omit [FloatOps F] in
theorem land_give (c : Dev nD) : bigSep (S0 c) (land (F := F)) = iprop(bigSep (B1 c c) land ∗ bigSep (plane c) fun e => bigSep (B1 c e) land) := by
  rw [sep_fibres (S0 c) (insert c (plane c)) (B1 c) rel (fun p e => ?_), sep_insert (not_mem_plane c)]
  simp only [S0, B1, Finset.mem_filter, Finset.mem_univ, true_and]
  constructor
  · rintro ⟨rfl, rfl⟩; exact ⟨rel_plane p, rfl, rfl⟩
  · rintro ⟨-, h, h'⟩; exact ⟨h, h'.symm⟩
omit [FloatOps F] in
theorem land_got (c : Dev nD) : iprop(bigSep (B1 c c) land ∗ bigSep (plane c) fun d => bigSep (B1 d c) land) = bigSep (S1 c) (land (F := F)) := by
  rw [sep_fibres (S1 c) (insert c (plane c)) (fun d => B1 d c) Prod.fst (fun p e => ?_), sep_insert (not_mem_plane c)]
  simp only [S1, B1, Finset.mem_filter, Finset.mem_univ, true_and]
  constructor
  · rintro ⟨rfl, rfl⟩; exact ⟨plane_rel p, rfl, rfl⟩
  · rintro ⟨-, h, h'⟩; exact ⟨h', h.symm⟩
omit [FloatOps F] in
theorem land_give2 (c : Dev nD) : bigSep (S1 c) (land (F := F)) = iprop(bigSep (B2 c c) land ∗ bigSep (cross c) fun e => bigSep (B2 c e) land) := by
  rw [sep_fibres (S1 c) (insert c (cross c)) (B2 c) snd (fun p e => ?_), sep_insert (not_mem_cross c)]
  simp only [S1, B2, Finset.mem_filter, Finset.mem_univ, true_and]
  constructor
  · rintro ⟨rfl, rfl⟩; exact ⟨cross_rel p, rfl, rfl⟩
  · rintro ⟨-, h, h'⟩; exact ⟨h, h'.symm⟩
omit [FloatOps F] in
theorem land_got2 (c : Dev nD) : iprop(bigSep (B2 c c) land ∗ bigSep (cross c) fun d => bigSep (B2 d c) land) = bigSep (S2 c) (land (F := F)) := by
  rw [sep_fibres (S2 c) (insert c (cross c)) (fun d => B2 d c) rel (fun p e => ?_), sep_insert (not_mem_cross c)]
  simp only [S2, B2, Finset.mem_filter, Finset.mem_univ, true_and]
  constructor
  · rintro ⟨rfl, rfl⟩; exact ⟨rel_cross p, rfl, rfl⟩
  · rintro ⟨-, h, h'⟩; exact ⟨h', h.symm⟩

omit [FloatOps F] in
/-- A device's own landing places, by ring offset. -/
theorem land_own (c : Dev nD) : bigSep (S0 c) (land (F := F)) = bigSep Finset.univ fun o => land (c, o) := by
  rw [show S0 c = Finset.univ.image (fun o : Fin 31 => ((c, o) : Place)) from ?_,
    bigSep_image_of_injOn (fun o _ o' _ h => congrArg Prod.snd h)]
  ext ⟨d, o⟩
  simp only [S0, Finset.mem_filter, Finset.mem_univ, true_and, Finset.mem_image]
  constructor
  · rintro rfl; exact ⟨o, rfl⟩
  · rintro ⟨o', h⟩; exact (congrArg Prod.fst h).symm
omit [FloatOps F] in
/-- The landing places a device sends to, by ring offset. -/
theorem land_to (c : Dev nD) : bigSep (S2 c) (land (F := F)) = bigSep Finset.univ fun o => land (fwd c o, o) := by
  rw [show S2 c = Finset.univ.image (fun o : Fin 31 => ((fwd c o, o) : Place)) from ?_,
    bigSep_image_of_injOn (fun o _ o' _ h => congrArg Prod.snd h)]
  ext ⟨d, o⟩
  simp only [S2, Finset.mem_filter, Finset.mem_univ, true_and, Finset.mem_image]
  constructor
  · intro h
    have h' : bwd d o = c := h
    exact ⟨o, by rw [← h', fwd_bwd]⟩
  · rintro ⟨o', h⟩
    have h2 : o' = o := congrArg Prod.snd h
    have h1 : fwd c o' = d := congrArg Prod.fst h
    show bwd d o = c
    rw [← h1, h2, bwd_fwd]

/-! ## Buffers and blocks -/

section Blocks

variable {q : PosShare TreeShare}

omit [FloatOps F] in
theorem acc_blocks (c : Dev nD) (f : Buf (Elt F) (accL c)) :
    (accL c ↦{q} f : sProp 𝕄) = bigSep Finset.univ fun s : Fin 3 => bigSep Finset.univ fun e : Dev nD => accL c ↦[blk s e]{q} f :=
  (congrArg (fun S => (accL c ↦[S]{q} f : sProp 𝕄)) blk_union.symm).trans
    ((pointsTo_biUnion (ℓ := accL c) (q := q) (f := f) Finset.univ (fun x : Fin 3 × Dev nD => blk x.1 x.2) fun a ha b hb h => blk_disj (Finset.mem_coe.mpr ha) (Finset.mem_coe.mpr hb) h).trans
      (bigSep_univ_prod _))
omit [FloatOps F] in
theorem out_blocks (c : Dev nD) (f : Buf (Elt F) (outL c)) :
    (outL c ↦{q} f : sProp 𝕄) = bigSep Finset.univ fun s : Fin 3 => bigSep Finset.univ fun e : Dev nD => outL c ↦[blk s e]{q} f :=
  (congrArg (fun S => (outL c ↦[S]{q} f : sProp 𝕄)) blk_union.symm).trans
    ((pointsTo_biUnion (ℓ := outL c) (q := q) (f := f) Finset.univ (fun x : Fin 3 × Dev nD => blk x.1 x.2) fun a ha b hb h => blk_disj (Finset.mem_coe.mpr ha) (Finset.mem_coe.mpr hb) h).trans
      (bigSep_univ_prod _))
omit [FloatOps F] in
theorem gat_blocks (c : Dev nD) (f : Buf (Elt F) (gatL c)) :
    (gatL c ↦{q} f : sProp 𝕄) = bigSep Finset.univ fun s : Fin 3 => bigSep Finset.univ fun o : Fin 31 => gatL c ↦[gblk s o]{q} f :=
  (congrArg (fun S => (gatL c ↦[S]{q} f : sProp 𝕄)) gblk_union.symm).trans
    ((pointsTo_biUnion (ℓ := gatL c) (q := q) (f := f) Finset.univ (fun x : Fin 3 × Fin 31 => gblk x.1 x.2) fun a ha b hb h => gblk_disj (Finset.mem_coe.mpr ha) (Finset.mem_coe.mpr hb) h).trans
      (bigSep_univ_prod _))
omit [FloatOps F] in
theorem red_blocks (c : Dev nD) (f : Buf (Elt F) (redL c)) :
    (redL c ↦{q} f : sProp 𝕄) = bigSep Finset.univ fun s : Fin 3 => redL c ↦[rblk s]{q} f :=
  (congrArg (fun S => (redL c ↦[S]{q} f : sProp 𝕄)) rblk_union.symm).trans
    (pointsTo_biUnion (ℓ := redL c) (q := q) (f := f) Finset.univ rblk fun a ha b hb h => rblk_disj (Finset.mem_coe.mpr ha) (Finset.mem_coe.mpr hb) h)
omit [FloatOps F] in
theorem gblk_apart (s : Fin 3) (o o' : Fin 31) (h : o ≠ o') : Disjoint (gblk s o) (gblk s o') :=
  Finset.disjoint_left.mpr fun i hi hi' => h (Fin.ext ((mem_gblk.mp hi).1.symm.trans (mem_gblk.mp hi').1))
omit [FloatOps F] in
/-- One segment of the gather buffer, slot by slot. -/
theorem gat_segment (c : Dev nD) (s : Fin 3) (f : Buf (Elt F) (gatL c)) :
    (gatL c ↦[Finset.univ.biUnion (gblk s)]{q} f : sProp 𝕄) = bigSep Finset.univ fun o : Fin 31 => (gatL c ↦[gblk s o]{q} f : sProp 𝕄) :=
  pointsTo_biUnion (ℓ := gatL c) (q := q) (f := f) Finset.univ (gblk s) fun a _ b _ h => gblk_apart s a b h

end Blocks

end Cert.Proof.Steps

end
-- ==== Proof.Body.lean ====
/-
One device's run of the kernel, effect by effect: what each signal, send and wait takes and gives, then the body put
together from them.
-/
module

public import proofs.«01_k».proof.Proof.Sep
public import Idealize.ShloMosaic.Lib.Pipeline.Value

@[expose] public section

noncomputable section

namespace Cert.Proof.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The program `p` on device `c`, ending with `Q`. -/
abbrev WP (c : Dev nD) (p : Pr F) (Q : PUnit → sProp 𝕄) : sProp 𝕄 :=
  wp frame (wpE (defs₀ (F := F)) 𝒱₀ (c : Thread nD τ) none) Set.univ p Q

/-- What the device owes, whatever it has waited for. -/
def debt (c : Dev nD) (O : CellTallies nD τ sig Unit) : sProp 𝕄 := iprop(∃ W, owes (c : Thread nD τ) O W)

/-! ## Lists of effects -/

/-- A list of effects, each of which takes a resource of its own and a running state. -/
theorem wp_seqOf {ι : Type} [DecidableEq ι] (c : Dev nD) (ef : ι → Ef F PUnit) (A B : ι → sProp 𝕄) (S : List ι → sProp 𝕄) (Q : PUnit → sProp 𝕄) (k : Pr F)
    (l : List ι) (hl : l.Nodup)
    (hstep : ∀ i l', i ∈ l → ∀ k : Pr F, iprop(A i ∗ S (i :: l')) ⊢ iprop(((B i ∗ S l') -∗ WP c k Q) -∗ WP c (.op (ef i) fun _ => k) Q)) :
    iprop(bigSep l.toFinset A ∗ S l) ⊢ iprop(((bigSep l.toFinset B ∗ S []) -∗ WP c k Q) -∗ WP c (seqOf (l.map ef) k) Q) := by
  induction l with
  | nil =>
    show _ ⊢ iprop(_ -∗ WP c k Q)
    rw [List.toFinset_nil, bigSep_empty, bigSep_empty]
    iintro ⟨He, HS⟩ Hk
    iapply Hk
    isplitl [He] <;> iassumption
  | cons i l ih =>
    have hi : i ∉ l.toFinset := fun h => (List.nodup_cons.mp hl).1 (List.mem_toFinset.mp h)
    show _ ⊢ iprop(_ -∗ WP c (.op (ef i) fun _ => seqOf (l.map ef) k) Q)
    rw [List.toFinset_cons, sep_insert hi, sep_insert hi]
    iintro ⟨⟨HA, HAs⟩, HS⟩ Hk
    iapply (hstep i l List.mem_cons_self (seqOf (l.map ef) k)) $$ [HA HS]
    · isplitl [HA] <;> iassumption
    iintro ⟨HB, HS⟩
    iapply (ih (List.nodup_cons.mp hl).2 fun j l' hj k => hstep j l' (List.mem_cons_of_mem i hj) k) $$ [HAs HS]
    · isplitl [HAs] <;> iassumption
    iintro ⟨HBs, HS⟩
    iapply Hk
    isplitl [HB HBs]
    · isplitl [HB] <;> iassumption
    iexact HS

theorem offs_univ : offs.toFinset = Finset.univ := Finset.eq_univ_iff_forall.mpr fun o => List.mem_toFinset.mpr (mem_offs o)

/-- One more effect of a list: what it pays is owed on top. -/
theorem sum_cons {ι : Type} (O : CellTallies nD τ sig Unit) (t : ι → CellTallies nD τ sig Unit) (i : ι) (l : List ι) :
    O + ((i :: l).map t).sum = (O + (l.map t).sum) + t i := by
  rw [List.map_cons, List.sum_cons, add_comm (t i), ← add_assoc]

section Steps

variable (xa : Dev nD → Vec F S768x384 .bf16) (xb : Dev nD → Vec F S384x768 .bf16) (K : Dev nD × CI → ℕ)

/-- What every device knows: all the cells' invariants, that each cell is at its round, and the levels. -/
def recs : sProp 𝕄 :=
  iprop((bigSep Finset.univ fun a => cellInv ER (Rd xa xb) (K a) (kcell a)) ∗ (bigSep Finset.univ fun a => reached ER (kcell a) 0) ∗ levAts L lv)

instance recs_persistent : BI.Persistent (recs xa xb K) := by unfold recs; infer_instance

theorem recs_inv (a : Dev nD × CI) : recs xa xb K ⊢ cellInv ER (Rd xa xb) (K a) (kcell a) := by
  unfold recs
  iintro ⟨H, -, -⟩
  iapply (sep_pick (Φ := fun a => cellInv ER (Rd xa xb) (K a) (kcell a)) (Finset.mem_univ a)); iexact H
theorem recs_reached (a : Dev nD × CI) : recs xa xb K ⊢ reached ER (kcell a) 0 := by
  unfold recs
  iintro ⟨-, H, -⟩
  iapply (sep_pick (Φ := fun a => reached ER (kcell a) 0) (Finset.mem_univ a)); iexact H
theorem recs_lev : recs xa xb K ⊢ (levAts L lv : sProp 𝕄) := by
  unfold recs
  iintro ⟨-, -, H⟩; iexact H

/-! ## Waits -/

/-- What a wait takes: the credit for all the cell's units and the position at its round. -/
def waitIn (c : Dev nD) (i : CI) : sProp 𝕄 := iprop(cred (tallyAt (kcell (c, i)) () (cellTotal i)) ∗ atPos ER (kcell (c, i)) 0 ∅ 0)
/-- What it gives: the semaphore at zero and what the payers hand over. -/
def waitOut (c : Dev nD) (i : CI) : sProp 𝕄 := iprop(semVal (kcell (c, i)) 0 ∗ cellGain xa xb c i)

set_option maxRecDepth 100000 in
/-- A wait for everything a cell receives; the cell is closed on the spot. -/
theorem wp_wait_cell (c : Dev nD) (i : CI) (w : Ef F PUnit) (n : ℕ) (hn : n = cellTotal i)
    (hw : ∀ K : PUnit → sProp 𝕄, wpE (defs₀ (F := F)) 𝒱₀ (c : Thread nD τ) none Set.univ w K = waitSpec (c : Thread nD τ) Set.univ (csem i) n K)
    (O : CellTallies nD τ sig Unit) (hO : Above (lvl i) O) (Q : PUnit → sProp 𝕄) (k : Pr F) :
    iprop(waitIn c i ∗ recs xa xb K ∗ debt c O) ⊢ iprop(((waitOut xa xb c i ∗ recs xa xb K ∗ debt c O) -∗ WP c k Q) -∗ WP c (.op w fun _ => k) Q) := by
  subst hn
  have hle : lv ((c : Thread nD τ), csem i) () ≤ lvl i := Nat.le_of_eq (lv_kcell (c, i) ())
  have hmw : recs xa xb K ⊢ MayWait (c : Thread nD τ) (csem i) () O := by
    have h1 := mayWait_of (F := F) (n := lvl i) (O := O) c (csem i) hle hO
    have h2 := recs_lev xa xb K
    exact BI.Entails.trans h2 h1
  unfold waitIn waitOut debt
  iintro ⟨⟨Hc, Hat⟩, #HR, ⟨%W, HO⟩⟩ Hk
  iapply (Rounds.wp_wait_rest_token 𝒱₀ ER (Rd xa xb) (c : Thread nD τ) none (w := w) (sm := csem i) (k' := cellTotal i) (κ := K (c, i)) hw (Set.mem_univ _) () (O := O) (W := W) (R := 0) (m := 0) (T := ∅)
      (by rw [Nat.zero_add]; exact (Rd_expect xa xb c i).symm)) $$ [Hc HO Hat]
  · isplitr; · iapply (recs_inv xa xb K (c, i)); iexact HR
    isplitl [Hc]; · iexact Hc
    isplitl [HO]; · iexact HO
    isplitr
    · iapply hmw; iexact HR
    iexact Hat
  iintro ⟨HO, Hat, -, Hpay⟩
  ihave Hp := (Entails.of_eq (Rd_rest xa xb c i)) $$ Hpay
  imod (Rounds.cell_close ER (Rd xa xb) (Set.mem_univ (K (c, i))) (fun h => h) (R := 0 + 1) (Rd_later xa xb (kcell (c, i)))) $$ [Hat] with Hz
  · isplitr; · iapply (recs_inv xa xb K (c, i)); iexact HR
    iexact Hat
  iapply Hk
  isplitl [Hz Hp]
  · isplitl [Hz] <;> iassumption
  isplitr; · iexact HR
  iexists _; iexact HO

/-! ## Signals -/

/-- A signal to another device's barrier cell, paying the device's duty there. -/
theorem wp_sig_cell (c e : Dev nD) (j : Fin 2) (sm : Sem sig) (hsm : csem (.inl j) = .reg sm) (hd : c ∈ cellDuties (e, .inl j))
    (O : CellTallies nD τ sig Unit) (Q : PUnit → sProp 𝕄) (k : Pr F) :
    iprop((dutyTok ER (kcell (e, .inl j)) 0 c ∗ cellPay xa xb (e, .inl j) c) ∗ recs xa xb K ∗ debt c (O + tallyAt (kcell (e, .inl j)) () 1))
      ⊢ iprop(((emp ∗ recs xa xb K ∗ debt c O) -∗ WP c k Q) -∗ WP c (.op (sig1 sm e) fun _ => k) Q) := by
  have hk : (kcell (e, .inl j) : GSem nD τ sig) = ((e : Thread nD τ), .reg sm) := Prod.ext rfl hsm
  unfold debt sig1
  iintro ⟨⟨Ht, Hp⟩, #HR, ⟨%W, HO⟩⟩ Hk
  ihave #HI := (recs_inv xa xb K (e, .inl j)) $$ HR
  ihave #Hr := (recs_reached xa xb K (e, .inl j)) $$ HR
  ihave Hp' := (Entails.of_eq (Rd_payload xa xb (e, .inl j) c).symm) $$ Hp
  have h1 := Rd_duties xa xb (e, .inl j)
  have h2 := Rd_amount xa xb (e, .inl j) c
  rw [hk] at h1 h2 ⊢
  iapply (Rounds.wp_signal 𝒱₀ ER (Rd xa xb) (c : Thread nD τ) none (dst := (e : Thread nD τ)) (κ := K (e, .inl j)) (r := 0)
      (d := c) (by rw [h1]; exact hd) (h2.trans (show (1 : ℕ) = (1#32 : BitVec 32).toInt.toNat by decide)) () O rfl)
    $$ [HO Ht Hp']
  · isplitr; · iexact HI
    isplitl [HO]; · iexact HO
    isplitl [Ht]; · iexact Ht
    isplitl [Hp']; · iexact Hp'
    iexact Hr
  iintro HO
  iapply Hk
  isplitr; · iempintro
  isplitr; · iexact HR
  iexists W; iexact HO

/-! ## Sends -/

/-- Writing a whole view leaves, on the view's elements, any function that agrees with what is written. -/
theorem write_eq_on {sp : Space} {s : Shape} {e : EltTy} (v : View sig .tc sp s e) (f g : v.ty.Contents (Elt F)) (w : s.Idx → Elt F e)
    (h : ∀ j, _root_.cast (congrArg (Elt F) v.elt_eq.symm) (w j) = g (v.emb j)) : ∀ i ∈ v.set, v.write (Elt F) f w Finset.univ i = g i := fun i hi => by
  obtain ⟨j, rfl⟩ := View.exists_emb_of_mem_set v hi
  rw [View.write_emb_of_mem (h := Finset.mem_univ j)]
  exact h j

/-- A transfer's cell has its one duty. -/
theorem mem_duty (c : Dev nD) (k : Fin 4) (s : Fin 3) (o : Fin 31) : (0 : Dev nD) ∈ (Rd xa xb).duties (kcell (c, .inr (k, s, o))) 0 := by
  rw [Rd_duties]; exact Finset.mem_singleton_self _

/-- What a first-phase send takes: the block, the receiver's slot, and the two duties it pays. -/
def send1In (c : Dev nD) (s : Fin 3) (o : Fin 31) : sProp 𝕄 :=
  iprop(accP xa xb c s (fwd c o) ∗ gatE (F := F) (fwd c o) s o
    ∗ dutyTok ER (kcell (c, .inr (0, s, o))) 0 0 ∗ dutyTok ER (kcell (fwd c o, .inr (1, s, o))) 0 0)

theorem wp_send1_at (c n : Dev nD) (s : Fin 3) (o : Fin 31) (hn : n = fwd c o) (src : Memref sig .tc .vmem S24x256 .bf16) (hs : src = own accM s (fwd c o))
    (sS sR : SemLoc sig) (hS : sS = csem (.inr (0, s, o))) (hR : sR = csem (.inr (1, s, o))) (hN : (slot gatM s o).view.amount sR = N)
    {hsc : (slot gatM s o).view.ref.isScScratch = false}
    {hsrc : src.view.WordExact} {hdst : (slot gatM s o).view.WordExact}
    {hsem : DmaTarget.Typed .vmem sR (.remote (Dev.tc n : Thread nD τ) (slot gatM s o) sS hsc)}
    (O : CellTallies nD τ sig Unit) (Q : PUnit → sProp 𝕄) (k : Pr F) :
    iprop(send1In xa xb c s o ∗ recs xa xb K ∗ debt c (O + tR1 c s o))
      ⊢ iprop(((cred (tallyAt (kcell (c, .inr (0, s, o))) () N) ∗ recs xa xb K ∗ debt c O) -∗ WP c k Q)
        -∗ WP c (.op (.enqueueDma src (.remote (Dev.tc n : Thread nD τ) (slot gatM s o) sS hsc)
            sR hsrc hdst hsem) fun _ => k) Q) := by
  subst hn
  subst hS
  subst hR
  subst hs
  unfold send1In debt gatE accP
  iintro ⟨⟨Hs, ⟨%fd, Hd⟩, Ht, Ht'⟩, #HR, ⟨%W, HO⟩⟩ Hk
  ihave #HI := (recs_inv xa xb K (c, .inr (0, s, o))) $$ HR
  ihave #HI' := (recs_inv xa xb K (fwd c o, .inr (1, s, o))) $$ HR
  ihave #Hr := (recs_reached xa xb K (c, .inr (0, s, o))) $$ HR
  ihave #Hr' := (recs_reached xa xb K (fwd c o, .inr (1, s, o))) $$ HR
  iapply (Rounds.wp_send_pointsTo 𝒱₀ ER (Rd xa xb) (c : Thread nD τ) none (c' := (fwd c o : Thread nD τ)) (src := own accM s (fwd c o)) (dst := slot gatM s o)
      (sS := csem (.inr (0, s, o))) (sem := csem (.inr (1, s, o))) (κ₁ := K (c, .inr (0, s, o))) (κ₂ := K (fwd c o, .inr (1, s, o)))
      (r₁ := 0) (r₂ := 0) (d₁ := 0) (d₂ := 0) (fs := (accF xa xb c : Buf (Elt F) (accL c))) (fd := fd)
      (mem_duty xa xb _ _ s o)
      (mem_duty xa xb _ _ s o)
      () () N hN (Rd_amount xa xb (c, .inr (0, s, o)) 0) (Rd_amount xa xb (fwd c o, .inr (1, s, o)) 0) O rfl (W := W)
      ((Entails.of_eq (congrArg (fun S => (accL c ↦[S]{fullShare} (accF xa xb c : Buf (Elt F) (accL c)) : sProp 𝕄)) (accown_set s (fwd c o)))).trans
        (Entails.of_eq (Rd_payload xa xb (c, .inr (0, s, o)) 0).symm))
      ((Entails.of_eq ((pointsTo_congr (write_eq_on (slot gatM s o).view fd (gatF xa xb (fwd c o)) _ fun j => (gatF_slot xa xb c s o j).symm)).trans
          (congrArg (fun S => (gatL (fwd c o) ↦[S]{fullShare} (gatF xa xb (fwd c o) : Buf (Elt F) (gatL (fwd c o))) : sProp 𝕄)) (slot_set s o)))).trans
        (Entails.of_eq (Rd_payload xa xb (fwd c o, .inr (1, s, o)) 0).symm)))
    $$ [Hs Hd HO Ht Ht']
  · isplitr; · iexact HI
    isplitr; · iexact HI'
    isplitl [Hs]; · rw [accown_set]; iexact Hs
    isplitl [Hd]; · rw [slot_set]; iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  isplitr; · iexact HR
  iexists W; iexact HO

/-- What a second-phase send takes: a share of the reduced segment, the receiver's block, and the two duties it pays. -/
def send2In (c : Dev nD) (s : Fin 3) (o : Fin 31) : sProp 𝕄 :=
  iprop(redP xa xb (tok o) c s ∗ outE (F := F) (fwd c o) s c
    ∗ dutyTok ER (kcell (c, .inr (2, s, o))) 0 0 ∗ dutyTok ER (kcell (fwd c o, .inr (3, s, o))) 0 0)

theorem wp_send2_at (c n : Dev nD) (s : Fin 3) (o : Fin 31) (hn : n = fwd c o)
    (sS sR : SemLoc sig) (hS : sS = csem (.inr (2, s, o))) (hR : sR = csem (.inr (3, s, o))) (hN : (own outM s c).view.amount sR = N)
    {hsc : (own outM s c).view.ref.isScScratch = false}
    {hsrc : (redSeg redM s).view.WordExact} {hdst : (own outM s c).view.WordExact}
    {hsem : DmaTarget.Typed .vmem sR (.remote (Dev.tc n : Thread nD τ) (own outM s c) sS hsc)}
    (O : CellTallies nD τ sig Unit) (Q : PUnit → sProp 𝕄) (k : Pr F) :
    iprop(send2In xa xb c s o ∗ recs xa xb K ∗ debt c (O + tR2 c s o))
      ⊢ iprop(((cred (tallyAt (kcell (c, .inr (2, s, o))) () N) ∗ recs xa xb K ∗ debt c O) -∗ WP c k Q)
        -∗ WP c (.op (.enqueueDma (redSeg redM s) (.remote (Dev.tc n : Thread nD τ) (own outM s c) sS hsc)
            sR hsrc hdst hsem) fun _ => k) Q) := by
  subst hn
  subst hS
  subst hR
  unfold send2In debt outE redP
  iintro ⟨⟨Hs, ⟨%fd, Hd⟩, Ht, Ht'⟩, #HR, ⟨%W, HO⟩⟩ Hk
  ihave #HI := (recs_inv xa xb K (c, .inr (2, s, o))) $$ HR
  ihave #HI' := (recs_inv xa xb K (fwd c o, .inr (3, s, o))) $$ HR
  ihave #Hr := (recs_reached xa xb K (c, .inr (2, s, o))) $$ HR
  ihave #Hr' := (recs_reached xa xb K (fwd c o, .inr (3, s, o))) $$ HR
  have hpay : cellPay xa xb (fwd c o, .inr (3, s, o)) 0 = outP xa xb (fwd c o) s c := by
    show outP xa xb (fwd c o) s (bwd (fwd c o) o) = _
    rw [bwd_fwd]
  iapply (Rounds.wp_send_pointsTo 𝒱₀ ER (Rd xa xb) (c : Thread nD τ) none (c' := (fwd c o : Thread nD τ)) (src := redSeg redM s) (dst := own outM s c)
      (sS := csem (.inr (2, s, o))) (sem := csem (.inr (3, s, o))) (κ₁ := K (c, .inr (2, s, o))) (κ₂ := K (fwd c o, .inr (3, s, o)))
      (r₁ := 0) (r₂ := 0) (d₁ := 0) (d₂ := 0) (q := tok o) (fs := (redF xa xb c : Buf (Elt F) (redL c))) (fd := fd)
      (mem_duty xa xb _ _ s o)
      (mem_duty xa xb _ _ s o)
      () () N hN (Rd_amount xa xb (c, .inr (2, s, o)) 0) (Rd_amount xa xb (fwd c o, .inr (3, s, o)) 0) O rfl (W := W)
      ((Entails.of_eq (congrArg (fun S => (redL c ↦[S]{tok o} (redF xa xb c : Buf (Elt F) (redL c)) : sProp 𝕄)) (redSeg_set s))).trans
        (Entails.of_eq (Rd_payload xa xb (c, .inr (2, s, o)) 0).symm))
      ((Entails.of_eq ((pointsTo_congr (write_eq_on (own outM s c).view fd (outF xa xb) _ fun j => (redF_seg xa xb c s j).trans (outF_own xa xb c s j).symm)).trans
          (congrArg (fun S => (outL (fwd c o) ↦[S]{fullShare} (outF xa xb : Buf (Elt F) (outL (fwd c o))) : sProp 𝕄)) (outown_set s c)))).trans
        (Entails.of_eq (hpay.symm.trans (Rd_payload xa xb (fwd c o, .inr (3, s, o)) 0).symm))))
    $$ [Hs Hd HO Ht Ht']
  · isplitr; · iexact HI
    isplitr; · iexact HI'
    isplitl [Hs]; · rw [redSeg_set]; iexact Hs
    isplitl [Hd]; · rw [outown_set]; iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  isplitr; · iexact HR
  iexists W; iexact HO

/-! ## Phases -/

/-- A transfer's cell before its wait, among those of its segment. -/
abbrev x (k : Fin 4) (s : Fin 3) (o : Fin 31) : CI := .inr (k, s, o)

/-- 31 waits of one family and segment. -/
theorem wp_waits (c : Dev nD) (k : Fin 4) (s : Fin 3) (ef : Fin 31 → Ef F PUnit)
    (hw : ∀ (o : Fin 31) (K : PUnit → sProp 𝕄), wpE (defs₀ (F := F)) 𝒱₀ (c : Thread nD τ) none Set.univ (ef o) K = waitSpec (c : Thread nD τ) Set.univ (csem (x k s o)) N K)
    (O : CellTallies nD τ sig Unit) (hO : Above (lvl (x k s 0)) O) (Q : PUnit → sProp 𝕄) (p : Pr F) :
    iprop((bigSep Finset.univ fun o => waitIn c (x k s o)) ∗ recs xa xb K ∗ debt c O)
      ⊢ iprop((((bigSep Finset.univ fun o => semVal (kcell (c, x k s o)) 0) ∗ (bigSep Finset.univ fun o => xferPay xa xb c k s o) ∗ recs xa xb K ∗ debt c O) -∗ WP c p Q)
        -∗ WP c (seqOf (offs.map ef) p) Q) := by
  have h := wp_seqOf c ef (fun o => waitIn c (x k s o)) (fun o => waitOut xa xb c (x k s o)) (fun _ => iprop(recs xa xb K ∗ debt c O)) Q p offs nodup_offs
    fun o l' _ p => wp_wait_cell xa xb K c (x k s o) (ef o) N rfl (hw o) O hO Q p
  rw [offs_univ] at h
  iintro H Hk
  iapply h $$ H
  iintro ⟨Hb, HR, HO⟩
  unfold waitOut
  ihave Hb' := (Entails.of_eq (bigSep_sep' Finset.univ (fun o => semVal (kcell (c, x k s o)) 0) fun o => cellGain xa xb c (x k s o))) $$ Hb
  icases Hb' with ⟨Hz, Hp⟩
  ihave Hp' := (Entails.of_eq (bigSep_congr (s := Finset.univ) fun o _ => cellGain_xfer xa xb c k s o)) $$ Hp
  iapply Hk
  isplitl [Hz]; · iexact Hz
  isplitl [Hp']; · iexact Hp'
  isplitl [HR] <;> iassumption

/-- The 31 first-phase sends of a segment. -/
theorem wp_sends1 (c : Dev nD) (s : Fin 3) (O : CellTallies nD τ sig Unit) (Q : PUnit → sProp 𝕄) (p : Pr F) :
    iprop((bigSep Finset.univ fun o => send1In xa xb c s o) ∗ recs xa xb K ∗ debt c (O + oR1 c s))
      ⊢ iprop((((bigSep Finset.univ fun o => cred (tallyAt (kcell (c, x 0 s o)) () N)) ∗ recs xa xb K ∗ debt c O) -∗ WP c p Q)
        -∗ WP c (seqOf (offs.map (send1 accM accW gatM gatW cc0_scratch3 cc0_scratch4 c s)) p) Q) := by
  have h := wp_seqOf c (send1 accM accW gatM gatW cc0_scratch3 cc0_scratch4 c s) (fun o => send1In xa xb c s o)
    (fun o => cred (tallyAt (kcell (c, x 0 s o)) () N)) (fun l => iprop(recs xa xb K ∗ debt c (O + (l.map (tR1 c s)).sum))) Q p offs nodup_offs
    fun o l' _ p => by
      rw [sum_cons]
      exact wp_send1_at xa xb K c (peer c o) s o (peer_eq c o) _ (accTo_eq accM s c o) _ _ rfl rfl rfl _ Q p
  rw [offs_univ] at h
  simp only [List.map_nil, List.sum_nil, add_zero] at h
  exact h

/-- The 31 second-phase sends of a segment. -/
theorem wp_sends2 (c : Dev nD) (s : Fin 3) (O : CellTallies nD τ sig Unit) (Q : PUnit → sProp 𝕄) (p : Pr F) :
    iprop((bigSep Finset.univ fun o => send2In xa xb c s o) ∗ recs xa xb K ∗ debt c (O + oR2 c s))
      ⊢ iprop((((bigSep Finset.univ fun o => cred (tallyAt (kcell (c, x 2 s o)) () N)) ∗ recs xa xb K ∗ debt c O) -∗ WP c p Q)
        -∗ WP c (seqOf (offs.map (send2 outM outW redM redW cc0_scratch5 cc0_scratch6 c s)) p) Q) := by
  have h := wp_seqOf c (send2 outM outW redM redW cc0_scratch5 cc0_scratch6 c s) (fun o => send2In xa xb c s o)
    (fun o => cred (tallyAt (kcell (c, x 2 s o)) () N)) (fun l => iprop(recs xa xb K ∗ debt c (O + (l.map (tR2 c s)).sum))) Q p offs nodup_offs
    fun o l' _ p => by
      rw [sum_cons]
      exact wp_send2_at xa xb K c (peer c o) s o (peer_eq c o) _ _ rfl rfl rfl _ Q p
  rw [offs_univ] at h
  simp only [List.map_nil, List.sum_nil, add_zero] at h
  exact h

/-- Every transfer credits the same. -/
theorem credit (m : Memref sig .tc .vmem S24x256 .bf16) : m.view.dmaCredit = N := rfl
theorem recv1s_spec (c : Dev nD) (s : Fin 3) (o : Fin 31) (K : PUnit → sProp 𝕄) :
    wpE (defs₀ (F := F)) 𝒱₀ (c : Thread nD τ) none Set.univ (recv1 accM accW gatM gatW cc0_scratch4 c s o) K = waitSpec (c : Thread nD τ) Set.univ (csem (x 1 s o)) N K := by
  unfold recv1
  rw [wpE_waitDma2_eq]
theorem wp_recv1s (c : Dev nD) (s : Fin 3) (O : CellTallies nD τ sig Unit) (hO : Above 3 O) (Q : PUnit → sProp 𝕄) (p : Pr F) :
    iprop((bigSep Finset.univ fun o => waitIn c (x 1 s o)) ∗ recs xa xb K ∗ debt c O)
      ⊢ iprop((((bigSep Finset.univ fun o => semVal (kcell (c, x 1 s o)) 0) ∗ (bigSep Finset.univ fun o => gatP xa xb c s o) ∗ recs xa xb K ∗ debt c O) -∗ WP c p Q)
        -∗ WP c (seqOf (offs.map (recv1 accM accW gatM gatW cc0_scratch4 c s)) p) Q) :=
  wp_waits xa xb K c 1 s (recv1 accM accW gatM gatW cc0_scratch4 c s) (fun o K => recv1s_spec c s o K) O hO Q p
theorem recv2s_spec (c : Dev nD) (s : Fin 3) (o : Fin 31) (K : PUnit → sProp 𝕄) :
    wpE (defs₀ (F := F)) 𝒱₀ (c : Thread nD τ) none Set.univ (recv2 outM outW redM redW cc0_scratch6 c s o) K = waitSpec (c : Thread nD τ) Set.univ (csem (x 3 s o)) N K := by
  unfold recv2
  rw [wpE_waitDma2_eq]
theorem wp_recv2s (c : Dev nD) (s : Fin 3) (O : CellTallies nD τ sig Unit) (hO : Above 4 O) (Q : PUnit → sProp 𝕄) (p : Pr F) :
    iprop((bigSep Finset.univ fun o => waitIn c (x 3 s o)) ∗ recs xa xb K ∗ debt c O)
      ⊢ iprop((((bigSep Finset.univ fun o => semVal (kcell (c, x 3 s o)) 0) ∗ (bigSep Finset.univ fun o => outP xa xb c s (bwd c o)) ∗ recs xa xb K ∗ debt c O) -∗ WP c p Q)
        -∗ WP c (seqOf (offs.map (recv2 outM outW redM redW cc0_scratch6 c s)) p) Q) :=
  wp_waits xa xb K c 3 s (recv2 outM outW redM redW cc0_scratch6 c s) (fun o K => recv2s_spec c s o K) O hO Q p
theorem left1s_spec (c : Dev nD) (s : Fin 3) (o : Fin 31) (K : PUnit → sProp 𝕄) :
    wpE (defs₀ (F := F)) 𝒱₀ (c : Thread nD τ) none Set.univ (left1 accM accW gatM gatW cc0_scratch3 c s o) K = waitSpec (c : Thread nD τ) Set.univ (csem (x 0 s o)) N K := by
  unfold left1
  rw [wpE_waitDma2_eq]
theorem wp_left1s (c : Dev nD) (s : Fin 3) (O : CellTallies nD τ sig Unit) (hO : Above 0 O) (Q : PUnit → sProp 𝕄) (p : Pr F) :
    iprop((bigSep Finset.univ fun o => waitIn c (x 0 s o)) ∗ recs xa xb K ∗ debt c O)
      ⊢ iprop((((bigSep Finset.univ fun o => semVal (kcell (c, x 0 s o)) 0) ∗ (bigSep Finset.univ fun o => accP xa xb c s (fwd c o)) ∗ recs xa xb K ∗ debt c O) -∗ WP c p Q)
        -∗ WP c (seqOf (offs.map (left1 accM accW gatM gatW cc0_scratch3 c s)) p) Q) :=
  wp_waits xa xb K c 0 s (left1 accM accW gatM gatW cc0_scratch3 c s) (fun o K => left1s_spec c s o K) O hO Q p
theorem left2s_spec (c : Dev nD) (s : Fin 3) (o : Fin 31) (K : PUnit → sProp 𝕄) :
    wpE (defs₀ (F := F)) 𝒱₀ (c : Thread nD τ) none Set.univ (left2 outM outW redM redW cc0_scratch5 c s o) K = waitSpec (c : Thread nD τ) Set.univ (csem (x 2 s o)) N K := by
  unfold left2
  rw [wpE_waitDma2_eq]
theorem wp_left2s (c : Dev nD) (s : Fin 3) (O : CellTallies nD τ sig Unit) (hO : Above 0 O) (Q : PUnit → sProp 𝕄) (p : Pr F) :
    iprop((bigSep Finset.univ fun o => waitIn c (x 2 s o)) ∗ recs xa xb K ∗ debt c O)
      ⊢ iprop((((bigSep Finset.univ fun o => semVal (kcell (c, x 2 s o)) 0) ∗ (bigSep Finset.univ fun o => redP xa xb (tok o) c s) ∗ recs xa xb K ∗ debt c O) -∗ WP c p Q)
        -∗ WP c (seqOf (offs.map (left2 outM outW redM redW cc0_scratch5 c s)) p) Q) :=
  wp_waits xa xb K c 2 s (left2 outM outW redM redW cc0_scratch5 c s) (fun o K => left2s_spec c s o K) O hO Q p

/-! ## The reduction -/

theorem rOwn_set (s : Fin 3) (e : Dev nD) : (rOwn s e).set = blk s e := by
  ext i
  unfold blk
  rw [Rect.mem_set_unit, Rect.mem_set_unit, oLoad_eq]
theorem rAll_set (s : Fin 3) : (rAll s).set ⊆ Finset.univ.biUnion (gblk s) := fun i hi => by
  rw [Rect.mem_set_unit, oAll_eq] at hi
  have h2 := hi 2
  have hl : (i 2).val < 768 := (i 2).isLt
  simp [S31x24x256] at h2
  exact Finset.mem_biUnion.mpr ⟨i 0, Finset.mem_univ _, mem_gblk.mpr ⟨rfl, by omega⟩⟩

theorem own_load_set (a : Memref sig .tc .vmem S768x768 .bf16) (s : Fin 3) (e : Dev nD) (j : S24x256.Idx) :
    (a.access (rOwn s e)).emb j = (own a s e).view.emb j := by
  refine congrArg a.view.emb (idx2_ext ?_ ?_)
  · have h := ValueKit.rect_emb_unit_val (s := S768x768) (oLoad s e) S24x256.size (oLoad_inb s e) j 0
    have h' := ValueKit.rect_emb_unit_val (s := S768x768) (oOwn s e) S24x256.size (oOwn_inb s e) j 0
    exact (h.trans (congrArg (· + (j 0).val) (congrFun (oLoad_eq s e) 0))).trans h'.symm
  · have h := ValueKit.rect_emb_unit_val (s := S768x768) (oLoad s e) S24x256.size (oLoad_inb s e) j 1
    have h' := ValueKit.rect_emb_unit_val (s := S768x768) (oOwn s e) S24x256.size (oOwn_inb s e) j 1
    exact (h.trans (congrArg (· + (j 1).val) (congrFun (oLoad_eq s e) 1))).trans h'.symm

/-- What the reduction of a segment needs and leaves: the own block, the gathered ones, the reduced segment, the own rows
    of the result. -/
theorem wp_reduceSeg (c : Dev nD) (s : Fin 3) (Q : PUnit → sProp 𝕄) (p : Pr F) :
    iprop(accP xa xb c s c ∗ (bigSep Finset.univ fun o => gatP xa xb c s o) ∗ redE (F := F) c s ∗ outE (F := F) c s c)
      ⊢ iprop(((accP xa xb c s c ∗ (bigSep Finset.univ fun o => gatP xa xb c s o) ∗ redP xa xb fullShare c s ∗ outP xa xb c s c) -∗ WP c p Q)
        -∗ WP c (reduceSeg outM outW accM gatM redM redW c s p) Q) := by
  have hacc : (accM.access (rOwn s c)).set ⊆ blk s c := (View.set_slice_whole (sig := sig) cc0_scratch0 (rOwn s c)).trans_subset (rOwn_set s c).subset
  have hout : (outM.access (rOwn s c)).set = blk s c := (View.set_slice_whole (sig := sig) cc0_stg2_0 (rOwn s c)).trans (rOwn_set s c)
  have hgat : (gatM.access (rAll s)).set ⊆ Finset.univ.biUnion (gblk s) :=
    (View.set_slice_whole (sig := sig) cc0_scratch1 (rAll s)).trans_subset (rAll_set s)
  have hred : (redM.access (rRed s)).set = rblk s := redSeg_set s
  have hread : (redM.access (rRed s)).read (Elt F) (redF xa xb c) = segR xa xb c s := funext fun j => redF_seg xa xb c s j
  have hgs : (bigSep Finset.univ fun o => gatP xa xb c s o)
      = (gatL c ↦[Finset.univ.biUnion (gblk s)]{fullShare} (gatF xa xb c : Buf (Elt F) (gatL c)) : sProp 𝕄) := (gat_segment c s _).symm
  have hst : ∀ f, (redL c ↦[rblk s]{fullShare} ((redM.access (rRed s)).write (Elt F) f
        (redOf s ((accM.access (rOwn s c)).read (Elt F) (accF xa xb c)) ((gatM.access (rAll s)).read (Elt F) (gatF xa xb c))) Finset.univ) : sProp 𝕄)
      = redL c ↦[rblk s]{fullShare} (redF xa xb c : Buf (Elt F) (redL c)) := fun f =>
    pointsTo_congr fun i hi => write_eq_on (redM.access (rRed s)) f (redF xa xb c) _ (fun j => (redF_seg xa xb c s j).symm) i (hred ▸ hi)
  have hso : ∀ f, (outL c ↦[blk s c]{fullShare} ((outM.access (rOwn s c)).write (Elt F) f (segR xa xb c s) Finset.univ) : sProp 𝕄)
      = outL c ↦[blk s c]{fullShare} (outF xa xb : Buf (Elt F) (outL c)) := fun f =>
    pointsTo_congr fun i hi => write_eq_on (outM.access (rOwn s c)) f (outF xa xb) _
      (fun j => ((congrArg (outF xa xb) (own_load_set outM s c j)).trans (outF_own xa xb c s j)).symm) i (hout ▸ hi)
  rw [hgs]
  unfold reduceSeg accP redE outE redP outP
  iintro ⟨Ha, Hg, ⟨%fr, Hr⟩, ⟨%fo, Ho⟩⟩ Hk
  iapply (wp_load_rect 𝒱₀ (c : Thread nD τ) none Set.univ (m := accM) (r := rOwn s c) hacc) $$ Ha; iintro Ha
  iapply (wp_load_rect 𝒱₀ (c : Thread nD τ) none Set.univ (m := gatM) (r := rAll s) hgat) $$ Hg; iintro Hg
  iapply (wp_load_rect 𝒱₀ (c : Thread nD τ) none Set.univ (m := redM) (r := rRed s) hred.subset) $$ Hr; iintro Hr
  iapply (wp_store 𝒱₀ (c : Thread nD τ) none Set.univ (m := redM) (r := rRed s) (Mk := Finset.univ) hred.subset) $$ Hr; iintro Hr
  ihave Hr' := (Entails.of_eq (hst fr)) $$ Hr
  iapply (wp_load_rect 𝒱₀ (c : Thread nD τ) none Set.univ (m := redM) (r := rRed s) hred.subset) $$ Hr'; iintro Hr
  rw [hread]
  iapply (wp_load_rect 𝒱₀ (c : Thread nD τ) none Set.univ (m := outM) (r := rOwn s c) hout.subset) $$ Ho; iintro Ho
  iapply (wp_store 𝒱₀ (c : Thread nD τ) none Set.univ (m := outM) (r := rOwn s c) (Mk := Finset.univ) hout.subset) $$ Ho; iintro Ho
  ihave Ho' := (Entails.of_eq (hso fo)) $$ Ho
  iapply Hk
  isplitl [Ha]; · iexact Ha
  isplitl [Hg]; · iexact Hg
  isplitl [Hr] <;> iassumption

/-! ## A segment -/

/-- What remains of a reduced segment once the 31 sends have their shares. -/
def redRest (c : Dev nD) (s : Fin 3) : sProp 𝕄 := redP xa xb (Transfers.shareDrop fullShare 31) c s

/-- What a second-phase send takes besides its share. -/
def send2Rest (c : Dev nD) (s : Fin 3) (o : Fin 31) : sProp 𝕄 :=
  iprop(outE (F := F) (fwd c o) s c ∗ dutyTok ER (kcell (c, x 2 s o)) 0 0 ∗ dutyTok ER (kcell (fwd c o, x 3 s o)) 0 0)

/-- The reduced segment cut into the shares the sends take, and put together again. -/
theorem red_shares (c : Dev nD) (s : Fin 3) :
    redP xa xb fullShare c s ⊢ iprop(redRest xa xb c s ∗ bigSep Finset.univ fun o => redP xa xb (tok o) c s) := by
  unfold redRest redP
  exact Transfers.pointsTo_toks_split fullShare 31
theorem red_join (c : Dev nD) (s : Fin 3) :
    iprop(redRest xa xb c s ∗ bigSep Finset.univ fun o => redP xa xb (tok o) c s) ⊢ redP xa xb fullShare c s := by
  unfold redRest redP
  exact Transfers.pointsTo_toks_join fullShare 31

/-- What a segment's arrivals, reduction and sends take, -/
def segIn (c : Dev nD) (s : Fin 3) : sProp 𝕄 :=
  iprop((bigSep Finset.univ fun o => waitIn c (x 1 s o)) ∗ accP xa xb c s c ∗ redE (F := F) c s ∗ outE (F := F) c s c
    ∗ bigSep Finset.univ fun o => send2Rest (F := F) c s o)
/-- and give. -/
def segOut (c : Dev nD) (s : Fin 3) : sProp 𝕄 :=
  iprop((bigSep Finset.univ fun o => semVal (kcell (c, x 1 s o)) 0) ∗ accP xa xb c s c ∗ (bigSep Finset.univ fun o => gatP xa xb c s o)
    ∗ redRest xa xb c s ∗ outP xa xb c s c ∗ bigSep Finset.univ fun o => cred (tallyAt (kcell (c, x 2 s o)) () N))

theorem wp_segment (c : Dev nD) (s : Fin 3) (O : CellTallies nD τ sig Unit) (hO : Above 3 O) (Q : PUnit → sProp 𝕄) (p : Pr F) :
    iprop(segIn xa xb c s ∗ recs xa xb K ∗ debt c (O + oR2 c s))
      ⊢ iprop(((segOut xa xb c s ∗ recs xa xb K ∗ debt c O) -∗ WP c p Q)
        -∗ WP c (segment outM outW accM accW gatM gatW redM redW cc0_scratch4 cc0_scratch5 cc0_scratch6 c s p) Q) := by
  unfold segment segIn segOut
  iintro ⟨⟨Hw, Ha, Hr, Ho, Hs⟩, HR, HO⟩ Hk
  iapply (wp_recv1s xa xb K c s (O + oR2 c s) (above_add hO (above_R2 c s (by decide))) Q) $$ [Hw HR HO]
  · isplitl [Hw]; · iexact Hw
    isplitl [HR] <;> iassumption
  iintro ⟨Hz, Hg, HR, HO⟩
  iapply (wp_reduceSeg xa xb c s Q) $$ [Ha Hg Hr Ho]
  · isplitl [Ha]; · iexact Ha
    isplitl [Hg]; · iexact Hg
    isplitl [Hr] <;> iassumption
  iintro ⟨Ha, Hg, Hr, Ho⟩
  ihave Hr' := (red_shares xa xb c s) $$ Hr
  icases Hr' with ⟨Hrest, Htoks⟩
  iapply (wp_sends2 xa xb K c s O Q) $$ [Htoks Hs HR HO]
  · isplitl [Htoks Hs]
    · iapply (Entails.of_eq (bigSep_sep' Finset.univ (fun o => redP xa xb (tok o) c s) fun o => send2Rest (F := F) c s o).symm)
      isplitl [Htoks] <;> iassumption
    isplitl [HR] <;> iassumption
  iintro ⟨Hc, HR, HO⟩
  iapply Hk
  isplitl [Hz Ha Hg Hrest Ho Hc]
  · isplitl [Hz]; · iexact Hz
    isplitl [Ha]; · iexact Ha
    isplitl [Hg]; · iexact Hg
    isplitl [Hrest]; · iexact Hrest
    isplitl [Ho] <;> iassumption
  isplitl [HR] <;> iassumption

/-! ## The data movement -/

/-- What a segment takes from the first-phase sends to the end. -/
def segPre (c : Dev nD) (s : Fin 3) : sProp 𝕄 :=
  iprop((bigSep Finset.univ fun o => send1In xa xb c s o) ∗ segIn xa xb c s ∗ (bigSep Finset.univ fun o => waitIn c (x 3 s o))
    ∗ (bigSep Finset.univ fun o => atPos ER (kcell (c, x 0 s o)) 0 ∅ 0) ∗ bigSep Finset.univ fun o => atPos ER (kcell (c, x 2 s o)) 0 ∅ 0)

/-- A segment's semaphores, all at zero. -/
def zeros (c : Dev nD) (s : Fin 3) : sProp 𝕄 :=
  iprop((bigSep Finset.univ fun o => semVal (kcell (c, x 0 s o)) 0) ∗ (bigSep Finset.univ fun o => semVal (kcell (c, x 1 s o)) 0)
    ∗ (bigSep Finset.univ fun o => semVal (kcell (c, x 2 s o)) 0) ∗ bigSep Finset.univ fun o => semVal (kcell (c, x 3 s o)) 0)

/-- What a segment leaves: its part of the four buffers, and its semaphores at zero. -/
def segDone (c : Dev nD) (s : Fin 3) : sProp 𝕄 :=
  iprop((bigSep Finset.univ fun e => accP xa xb c s e) ∗ (bigSep Finset.univ fun o => gatP xa xb c s o) ∗ redP xa xb fullShare c s
    ∗ (bigSep Finset.univ fun e => outP xa xb c s e) ∗ zeros (F := F) c s)

/-- The credit of the sends and the positions at their cells are what the waits for them to have left take. -/
theorem waits_of (c : Dev nD) (k : Fin 4) (s : Fin 3) :
    iprop((bigSep Finset.univ fun o => cred (tallyAt (kcell (c, x k s o)) () N)) ∗ bigSep Finset.univ fun o => atPos ER (kcell (c, x k s o)) 0 ∅ 0)
      ⊢ (bigSep Finset.univ fun o => waitIn (F := F) c (x k s o) : sProp 𝕄) :=
  Entails.of_eq (bigSep_sep' Finset.univ (fun o => (cred (tallyAt (kcell (c, x k s o)) () N) : sProp 𝕄)) fun o => atPos ER (kcell (c, x k s o)) 0 ∅ 0).symm

/-- What a segment's steps gave, put together. -/
theorem seg_done (c : Dev nD) (s : Fin 3) :
    iprop((bigSep Finset.univ fun o => semVal (kcell (c, x 1 s o)) 0) ∗ accP xa xb c s c ∗ (bigSep Finset.univ fun o => gatP xa xb c s o)
        ∗ redRest xa xb c s ∗ outP xa xb c s c
        ∗ (bigSep Finset.univ fun o => semVal (kcell (c, x 3 s o)) 0) ∗ (bigSep Finset.univ fun o => outP xa xb c s (bwd c o))
        ∗ (bigSep Finset.univ fun o => semVal (kcell (c, x 0 s o)) 0) ∗ (bigSep Finset.univ fun o => accP xa xb c s (fwd c o))
        ∗ (bigSep Finset.univ fun o => semVal (kcell (c, x 2 s o)) 0) ∗ (bigSep Finset.univ fun o => redP xa xb (tok o) c s))
      ⊢ segDone xa xb c s := by
  unfold segDone zeros
  rw [sep_others c (fun e => accP xa xb c s e), sep_othersBack c (fun e => outP xa xb c s e)]
  iintro ⟨Hz1, Ha, Hg, Hr, Ho, Hz3, Hos, Hz0, Has, Hz2, Hrs⟩
  isplitl [Ha Has]; · isplitl [Ha] <;> iassumption
  isplitl [Hg]; · iexact Hg
  isplitl [Hr Hrs]
  · iapply (red_join xa xb c s)
    isplitl [Hr] <;> iassumption
  isplitl [Ho Hos]; · isplitl [Ho] <;> iassumption
  isplitl [Hz0]; · iexact Hz0
  isplitl [Hz1]; · iexact Hz1
  isplitl [Hz2] <;> iassumption

set_option maxHeartbeats 1000000 in
/-- Everything after the barriers. -/
theorem wp_data (c : Dev nD) (Q : PUnit → sProp 𝕄) (p : Pr F) :
    iprop(segPre xa xb c 0 ∗ segPre xa xb c 1 ∗ segPre xa xb c 2 ∗ recs xa xb K ∗ debt c (D6 c))
      ⊢ iprop(((segDone xa xb c 0 ∗ segDone xa xb c 1 ∗ segDone xa xb c 2 ∗ debt c 0) -∗ WP c p Q)
        -∗ WP c (
            seqOf (offs.map (send1 accM accW gatM gatW cc0_scratch3 cc0_scratch4 c 0)) <|
            seqOf (offs.map (send1 accM accW gatM gatW cc0_scratch3 cc0_scratch4 c 1)) <|
            seqOf (offs.map (send1 accM accW gatM gatW cc0_scratch3 cc0_scratch4 c 2)) <|
            segment outM outW accM accW gatM gatW redM redW cc0_scratch4 cc0_scratch5 cc0_scratch6 c 0 <|
            segment outM outW accM accW gatM gatW redM redW cc0_scratch4 cc0_scratch5 cc0_scratch6 c 1 <|
            segment outM outW accM accW gatM gatW redM redW cc0_scratch4 cc0_scratch5 cc0_scratch6 c 2 <|
            seqOf (offs.map (recv2 outM outW redM redW cc0_scratch6 c 0)) <|
            seqOf (offs.map (recv2 outM outW redM redW cc0_scratch6 c 1)) <|
            seqOf (offs.map (recv2 outM outW redM redW cc0_scratch6 c 2)) <|
            seqOf (offs.map (left1 accM accW gatM gatW cc0_scratch3 c 0)) <|
            seqOf (offs.map (left1 accM accW gatM gatW cc0_scratch3 c 1)) <|
            seqOf (offs.map (left1 accM accW gatM gatW cc0_scratch3 c 2)) <|
            seqOf (offs.map (left2 outM outW redM redW cc0_scratch5 c 0)) <|
            seqOf (offs.map (left2 outM outW redM redW cc0_scratch5 c 1)) <|
            seqOf (offs.map (left2 outM outW redM redW cc0_scratch5 c 2)) p) Q) := by
  unfold segPre
  iintro ⟨⟨A0, B0, C0, D0, E0⟩, ⟨A1, B1, C1, D1, E1⟩, ⟨A2, B2, C2, D2, E2⟩, HR, HO⟩ Hk
  -- the first phase's sends
  iapply (wp_sends1 xa xb K c 0 (D5 c) Q) $$ [A0 HR HO]
  · isplitl [A0]; · iexact A0
    isplitl [HR]; · iexact HR
    iexact HO
  iintro ⟨A0, HR, HO⟩
  iapply (wp_sends1 xa xb K c 1 (D4 c) Q) $$ [A1 HR HO]
  · isplitl [A1]; · iexact A1
    isplitl [HR]; · iexact HR
    iexact HO
  iintro ⟨A1, HR, HO⟩
  iapply (wp_sends1 xa xb K c 2 (D3 c) Q) $$ [A2 HR HO]
  · isplitl [A2]; · iexact A2
    isplitl [HR]; · iexact HR
    iexact HO
  iintro ⟨A2, HR, HO⟩
  -- the segments
  iapply (wp_segment xa xb K c 0 (Steps.D2 c) (above_D2 c (by decide)) Q) $$ [B0 HR HO]
  · isplitl [B0]; · iexact B0
    isplitl [HR]; · iexact HR
    iexact HO
  iintro ⟨B0, HR, HO⟩
  iapply (wp_segment xa xb K c 1 (Steps.D1 c) (above_D1 c (by decide)) Q) $$ [B1 HR HO]
  · isplitl [B1]; · iexact B1
    isplitl [HR]; · iexact HR
    iexact HO
  iintro ⟨B1, HR, HO⟩
  iapply (wp_segment xa xb K c 2 0 (above_zero _) Q) $$ [B2 HR HO]
  · isplitl [B2]; · iexact B2
    isplitl [HR]; · iexact HR
    iexact HO
  iintro ⟨B2, HR, HO⟩
  unfold segOut
  icases B0 with ⟨Z0, P0, G0, R0, O0, X0⟩
  icases B1 with ⟨Z1, P1, G1, R1, O1, X1⟩
  icases B2 with ⟨Z2, P2, G2, R2, O2, X2⟩
  ihave V0 := (waits_of c 0 0) $$ [A0 D0]; · isplitl [A0] <;> iassumption
  ihave V1 := (waits_of c 0 1) $$ [A1 D1]; · isplitl [A1] <;> iassumption
  ihave V2 := (waits_of c 0 2) $$ [A2 D2]; · isplitl [A2] <;> iassumption
  ihave U0 := (waits_of c 2 0) $$ [X0 E0]; · isplitl [X0] <;> iassumption
  ihave U1 := (waits_of c 2 1) $$ [X1 E1]; · isplitl [X1] <;> iassumption
  ihave U2 := (waits_of c 2 2) $$ [X2 E2]; · isplitl [X2] <;> iassumption
  -- the second phase's arrivals
  iapply (wp_recv2s xa xb K c 0 0 (above_zero _) Q) $$ [C0 HR HO]
  · isplitl [C0]; · iexact C0
    isplitl [HR] <;> iassumption
  iintro ⟨C0, Y0, HR, HO⟩
  iapply (wp_recv2s xa xb K c 1 0 (above_zero _) Q) $$ [C1 HR HO]
  · isplitl [C1]; · iexact C1
    isplitl [HR] <;> iassumption
  iintro ⟨C1, Y1, HR, HO⟩
  iapply (wp_recv2s xa xb K c 2 0 (above_zero _) Q) $$ [C2 HR HO]
  · isplitl [C2]; · iexact C2
    isplitl [HR] <;> iassumption
  iintro ⟨C2, Y2, HR, HO⟩
  -- the departures
  iapply (wp_left1s xa xb K c 0 0 (above_zero _) Q) $$ [V0 HR HO]
  · isplitl [V0]; · iexact V0
    isplitl [HR] <;> iassumption
  iintro ⟨V0, S0, HR, HO⟩
  iapply (wp_left1s xa xb K c 1 0 (above_zero _) Q) $$ [V1 HR HO]
  · isplitl [V1]; · iexact V1
    isplitl [HR] <;> iassumption
  iintro ⟨V1, S1, HR, HO⟩
  iapply (wp_left1s xa xb K c 2 0 (above_zero _) Q) $$ [V2 HR HO]
  · isplitl [V2]; · iexact V2
    isplitl [HR] <;> iassumption
  iintro ⟨V2, S2, HR, HO⟩
  iapply (wp_left2s xa xb K c 0 0 (above_zero _) Q) $$ [U0 HR HO]
  · isplitl [U0]; · iexact U0
    isplitl [HR] <;> iassumption
  iintro ⟨U0, T0, HR, HO⟩
  iapply (wp_left2s xa xb K c 1 0 (above_zero _) Q) $$ [U1 HR HO]
  · isplitl [U1]; · iexact U1
    isplitl [HR] <;> iassumption
  iintro ⟨U1, T1, HR, HO⟩
  iapply (wp_left2s xa xb K c 2 0 (above_zero _) Q) $$ [U2 HR HO]
  · isplitl [U2]; · iexact U2
    isplitl [HR] <;> iassumption
  iintro ⟨U2, T2, -, HO⟩
  iapply Hk
  isplitl [Z0 P0 G0 R0 O0 C0 Y0 V0 S0 U0 T0]
  · iapply (seg_done xa xb c 0)
    iframe
  isplitl [Z1 P1 G1 R1 O1 C1 Y1 V1 S1 U1 T1]
  · iapply (seg_done xa xb c 1)
    iframe
  isplitl [Z2 P2 G2 R2 O2 C2 Y2 V2 S2 U2 T2]
  · iapply (seg_done xa xb c 2)
    iframe
  iexact HO

end Steps

end Cert.Proof.Steps

end
-- ==== Proof.Run.lean ====
/-
One device's run from its start to its end: the two barrier stages, which hand the landing places over, the product,
and the data movement between them and the end.
-/
module

public import proofs.«01_k».proof.Proof.Body

@[expose] public section

noncomputable section

namespace Cert.Proof.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The staged operands -/

abbrev aM : Memref sig .tc .vmem S768x384 .bf16 := Memref.whole cc0_stg0_0
abbrev bM : Memref sig .tc .vmem S384x768 .bf16 := Memref.whole cc0_stg1_0
abbrev aL (c : Dev nD) : Loc nD τ sig := aM.view.loc (c : Thread nD τ)
abbrev bL (c : Dev nD) : Loc nD τ sig := bM.view.loc (c : Thread nD τ)

abbrev rA : Rect S768x384 := Rect.unit (s := S768x384) ![0, 0] S768x384.size inb_S768x384_S768x384_0_0
abbrev rB : Rect S384x768 := Rect.unit (s := S384x768) ![0, 0] S384x768.size inb_S384x768_S384x768_0_0
abbrev rC : Rect S768x768 := Rect.unit (s := S768x768) ![0, 0] S768x768.size inb_S768x768_S768x768_0_0
theorem hz2 : (![0, 0] : Fin 2 → Nat) = fun _ => 0 := funext fun a => by fin_cases a <;> rfl
omit [FloatOps F] in
theorem read_a (f : (cc0_stg0_0 : Ref sig .tc).ty.Contents (Elt F)) :
    (aM.access rA).read (Elt F) f = f :=
  Memref.readAt_unit_zero (Elt F) cc0_stg0_0 hz2 _ f
omit [FloatOps F] in
theorem read_b (f : (cc0_stg1_0 : Ref sig .tc).ty.Contents (Elt F)) :
    (bM.access rB).read (Elt F) f = f :=
  Memref.readAt_unit_zero (Elt F) cc0_stg1_0 hz2 _ f
omit [FloatOps F] in
theorem write_acc (f w : (cc0_scratch0 : Ref sig .tc).ty.Contents (Elt F)) :
    (accM.access rC).write (Elt F) f w Finset.univ = w :=
  Memref.write_access_unit_zero_univ (Elt F) cc0_scratch0 hz2 _ f w

/-! ## What a device starts with -/

/-- The tokens and positions of one segment's transfers. -/
def segToks (c : Dev nD) (s : Fin 3) : sProp 𝕄 :=
  iprop((bigSep Finset.univ fun o => iprop(dutyTok ER (kcell (c, x 0 s o)) 0 0 ∗ dutyTok ER (kcell (fwd c o, x 1 s o)) 0 0))
    ∗ (bigSep Finset.univ fun o => iprop(dutyTok ER (kcell (c, x 2 s o)) 0 0 ∗ dutyTok ER (kcell (fwd c o, x 3 s o)) 0 0))
    ∗ (bigSep Finset.univ fun o => waitIn c (x 1 s o)) ∗ (bigSep Finset.univ fun o => waitIn c (x 3 s o))
    ∗ (bigSep Finset.univ fun o => atPos ER (kcell (c, x 0 s o)) 0 ∅ 0) ∗ bigSep Finset.univ fun o => atPos ER (kcell (c, x 2 s o)) 0 ∅ 0)

/-- The tokens of the signals of a barrier stage. -/
def sigToks (c : Dev nD) (j : Fin 2) (T : Finset (Dev nD)) : sProp 𝕄 := bigSep T fun e => dutyTok ER (kcell (e, .inl j)) 0 c

/-- All of a device's tokens, positions and credits. -/
def toksOf (c : Dev nD) : sProp 𝕄 :=
  iprop(sigToks (F := F) c 0 (plane c) ∗ sigToks (F := F) c 1 (cross c) ∗ waitIn (F := F) c (.inl 0) ∗ waitIn (F := F) c (.inl 1)
    ∗ bigSep Finset.univ fun s => segToks (F := F) c s)

/-- A buffer of a device, whatever it holds. -/
def held (ℓ : Loc nD τ sig) : sProp 𝕄 := iprop(∃ f : Buf (Elt F) ℓ, ℓ ↦{fullShare} f)

omit [FloatOps F] in
/-- A part of a buffer with contents is that part, whatever it holds. -/
theorem outE_intro (c : Dev nD) (s : Fin 3) (e : Dev nD) (f : Buf (Elt F) (outL c)) :
    (outL c ↦[blk s e]{fullShare} f : sProp 𝕄) ⊢ outE (F := F) c s e := by unfold outE; iintro H; iexists f; iexact H
omit [FloatOps F] in
theorem gatE_intro (c : Dev nD) (s : Fin 3) (o : Fin 31) (f : Buf (Elt F) (gatL c)) :
    (gatL c ↦[gblk s o]{fullShare} f : sProp 𝕄) ⊢ gatE (F := F) c s o := by unfold gatE; iintro H; iexists f; iexact H
omit [FloatOps F] in
theorem redE_intro (c : Dev nD) (s : Fin 3) (f : Buf (Elt F) (redL c)) :
    (redL c ↦[rblk s]{fullShare} f : sProp 𝕄) ⊢ redE (F := F) c s := by unfold redE; iintro H; iexists f; iexact H

/-- The gather buffer and the result are the landing places a device owns, and the rows it writes itself. -/
theorem prep (c : Dev nD) :
    iprop(held (F := F) (outL c) ∗ held (F := F) (gatL c))
      ⊢ iprop(bigSep (S0 c) (land (F := F)) ∗ bigSep Finset.univ fun s : Fin 3 => outE (F := F) c s c) := by
  have h1 : held (F := F) (outL c) ⊢ bigSep Finset.univ fun s : Fin 3 => bigSep Finset.univ fun e : Dev nD => outE (F := F) c s e := by
    unfold held
    iintro ⟨%f, H⟩
    ihave H := (Entails.of_eq (out_blocks (q := fullShare) c f)) $$ H
    iapply (show (bigSep Finset.univ fun s : Fin 3 => bigSep Finset.univ fun e : Dev nD => outL c ↦[blk s e]{fullShare} f : sProp 𝕄)
      ⊢ bigSep Finset.univ fun s : Fin 3 => bigSep Finset.univ fun e : Dev nD => outE (F := F) c s e from
        bigSep_mono fun s _ => bigSep_mono fun e _ => outE_intro c s e f) $$ H
  have h2 : held (F := F) (gatL c) ⊢ bigSep Finset.univ fun s : Fin 3 => bigSep Finset.univ fun o : Fin 31 => gatE (F := F) c s o := by
    unfold held
    iintro ⟨%f, H⟩
    ihave H := (Entails.of_eq (gat_blocks (q := fullShare) c f)) $$ H
    iapply (show (bigSep Finset.univ fun s : Fin 3 => bigSep Finset.univ fun o : Fin 31 => gatL c ↦[gblk s o]{fullShare} f : sProp 𝕄)
      ⊢ bigSep Finset.univ fun s : Fin 3 => bigSep Finset.univ fun o : Fin 31 => gatE (F := F) c s o from
        bigSep_mono fun s _ => bigSep_mono fun o _ => gatE_intro c s o f) $$ H
  have h3 : (bigSep Finset.univ fun s : Fin 3 => bigSep Finset.univ fun e : Dev nD => outE (F := F) c s e)
      = iprop((bigSep Finset.univ fun s : Fin 3 => outE (F := F) c s c)
        ∗ bigSep Finset.univ fun s : Fin 3 => bigSep Finset.univ fun o : Fin 31 => outE (F := F) c s (bwd c o)) :=
    (bigSep_congr fun s _ => sep_othersBack c fun e => outE (F := F) c s e).trans (bigSep_sep' _ _ _)
  have h4 : iprop((bigSep Finset.univ fun s : Fin 3 => bigSep Finset.univ fun o : Fin 31 => gatE (F := F) c s o)
        ∗ bigSep Finset.univ fun s : Fin 3 => bigSep Finset.univ fun o : Fin 31 => outE (F := F) c s (bwd c o)) = bigSep (S0 c) (land (F := F)) := by
    rw [land_own]
    refine (bigSep_sep' _ _ _).symm.trans ?_
    refine (bigSep_congr fun s _ => (bigSep_sep' Finset.univ (fun o : Fin 31 => gatE (F := F) c s o) fun o => outE (F := F) c s (bwd c o)).symm).trans ?_
    exact sep_swap fun (s : Fin 3) (o : Fin 31) => iprop(gatE (F := F) c s o ∗ outE (F := F) c s (bwd c o))
  iintro ⟨Ho, Hg⟩
  ihave Ho := h1 $$ Ho
  ihave Hg := h2 $$ Hg
  ihave Ho := (Entails.of_eq h3) $$ Ho
  icases Ho with ⟨Hown, Ho⟩
  isplitl [Ho Hg]
  · iapply (Entails.of_eq h4)
    isplitl [Hg] <;> iassumption
  iexact Hown

section Run

variable (xa : Dev nD → Vec F S768x384 .bf16) (xb : Dev nD → Vec F S384x768 .bf16) (K : Dev nD × CI → ℕ)

/-- What one segment's transfers take, from its parts. -/
theorem seg_deal (c : Dev nD) (s : Fin 3) :
    iprop((bigSep Finset.univ fun e : Dev nD => accP xa xb c s e)
        ∗ (bigSep Finset.univ fun o : Fin 31 => iprop(gatE (F := F) (fwd c o) s o ∗ outE (F := F) (fwd c o) s c))
        ∗ outE (F := F) c s c ∗ redE (F := F) c s ∗ segToks (F := F) c s)
      ⊢ segPre xa xb c s := by
  unfold segPre segIn segToks
  rw [sep_others c fun e => accP xa xb c s e,
    show (bigSep Finset.univ fun o : Fin 31 => iprop(gatE (F := F) (fwd c o) s o ∗ outE (F := F) (fwd c o) s c))
      = iprop((bigSep Finset.univ fun o : Fin 31 => gatE (F := F) (fwd c o) s o) ∗ bigSep Finset.univ fun o : Fin 31 => outE (F := F) (fwd c o) s c)
      from bigSep_sep' _ _ _]
  iintro ⟨⟨Ha, Has⟩, ⟨Hg, Ho⟩, Hown, Hr, Ht1, Ht2, Hw1, Hw3, Hp0, Hp2⟩
  isplitl [Has Hg Ht1]
  · iapply (Entails.of_eq ((bigSep_sep' Finset.univ (fun o => accP xa xb c s (fwd c o)) fun o : Fin 31 =>
        iprop(gatE (F := F) (fwd c o) s o ∗ dutyTok ER (kcell (c, x 0 s o)) 0 0 ∗ dutyTok ER (kcell (fwd c o, x 1 s o)) 0 0)).symm))
    isplitl [Has]; · iexact Has
    iapply (Entails.of_eq ((bigSep_sep' Finset.univ (fun o : Fin 31 => gatE (F := F) (fwd c o) s o) fun o : Fin 31 =>
        iprop(dutyTok ER (kcell (c, x 0 s o)) 0 0 ∗ dutyTok ER (kcell (fwd c o, x 1 s o)) 0 0)).symm))
    isplitl [Hg] <;> iassumption
  isplitl [Hw1 Ha Hr Hown Ho Ht2]
  · isplitl [Hw1]; · iexact Hw1
    isplitl [Ha]; · iexact Ha
    isplitl [Hr]; · iexact Hr
    isplitl [Hown]; · iexact Hown
    iapply (Entails.of_eq ((bigSep_sep' Finset.univ (fun o : Fin 31 => outE (F := F) (fwd c o) s c) fun o : Fin 31 =>
        iprop(dutyTok ER (kcell (c, x 2 s o)) 0 0 ∗ dutyTok ER (kcell (fwd c o, x 3 s o)) 0 0)).symm))
    isplitl [Ho] <;> iassumption
  isplitl [Hw3]; · iexact Hw3
  isplitl [Hp0] <;> iassumption

/-- The landing places a device sends to, segment by segment. -/
theorem land_segments (c : Dev nD) :
    bigSep (S2 c) (land (F := F)) = bigSep Finset.univ fun s : Fin 3 => bigSep Finset.univ fun o : Fin 31 =>
      iprop(gatE (F := F) (fwd c o) s o ∗ outE (F := F) (fwd c o) s c) := by
  rw [land_to]
  have h : (bigSep Finset.univ fun o : Fin 31 => land (F := F) (fwd c o, o))
      = bigSep Finset.univ fun o : Fin 31 => bigSep Finset.univ fun s : Fin 3 => iprop(gatE (F := F) (fwd c o) s o ∗ outE (F := F) (fwd c o) s c) :=
    bigSep_congr fun o _ => by
      unfold land snd
      rw [bwd_fwd]
  exact h.trans (sep_swap fun (o : Fin 31) (s : Fin 3) => iprop(gatE (F := F) (fwd c o) s o ∗ outE (F := F) (fwd c o) s c))

/-- All that the transfers take, from what a device holds after the barriers. -/
theorem deal (c : Dev nD) :
    iprop((accL c ↦{fullShare} (accF xa xb c : Buf (Elt F) (accL c))) ∗ bigSep (S2 c) (land (F := F))
        ∗ (bigSep Finset.univ fun s : Fin 3 => outE (F := F) c s c) ∗ held (F := F) (redL c) ∗ bigSep Finset.univ fun s : Fin 3 => segToks (F := F) c s)
      ⊢ iprop(segPre xa xb c 0 ∗ segPre xa xb c 1 ∗ segPre xa xb c 2) := by
  have hr : held (F := F) (redL c) ⊢ bigSep Finset.univ fun s : Fin 3 => redE (F := F) c s := by
    unfold held
    iintro ⟨%f, H⟩
    ihave H := (Entails.of_eq (red_blocks (q := fullShare) c f)) $$ H
    iapply (show (bigSep Finset.univ fun s : Fin 3 => redL c ↦[rblk s]{fullShare} f : sProp 𝕄) ⊢ bigSep Finset.univ fun s : Fin 3 => redE (F := F) c s from
        bigSep_mono fun s _ => redE_intro c s f) $$ H
  have ha := acc_blocks (q := fullShare) c (accF xa xb c : Buf (Elt F) (accL c))
  have h3 := sep_three fun s => segPre xa xb c s
  rw [← h3, land_segments]
  iintro ⟨Ha, Hl, Ho, Hr, Ht⟩
  ihave Hr := hr $$ Hr
  ihave Ha := (Entails.of_eq ha) $$ Ha
  iapply (show (bigSep Finset.univ fun s : Fin 3 => iprop((bigSep Finset.univ fun e : Dev nD => accP xa xb c s e)
        ∗ (bigSep Finset.univ fun o : Fin 31 => iprop(gatE (F := F) (fwd c o) s o ∗ outE (F := F) (fwd c o) s c))
        ∗ outE (F := F) c s c ∗ redE (F := F) c s ∗ segToks (F := F) c s)) ⊢ bigSep Finset.univ fun s => segPre xa xb c s from
      bigSep_mono fun s _ => seg_deal xa xb c s)
  iapply (Entails.of_eq (bigSep_sep' Finset.univ (fun s : Fin 3 => bigSep Finset.univ fun e : Dev nD => accP xa xb c s e) _).symm)
  isplitl [Ha]; · iexact Ha
  iapply (Entails.of_eq (bigSep_sep' Finset.univ (fun s : Fin 3 => bigSep Finset.univ fun o : Fin 31 =>
    iprop(gatE (F := F) (fwd c o) s o ∗ outE (F := F) (fwd c o) s c)) _).symm)
  isplitl [Hl]; · iexact Hl
  iapply (Entails.of_eq (bigSep_sep' Finset.univ (fun s : Fin 3 => outE (F := F) c s c) _).symm)
  isplitl [Ho]; · iexact Ho
  iapply (Entails.of_eq (bigSep_sep' Finset.univ (fun s : Fin 3 => redE (F := F) c s) _).symm)
  isplitl [Hr] <;> iassumption

/-- What a device ends with. -/
def done (c : Dev nD) : sProp 𝕄 :=
  iprop((accL c ↦{fullShare} (accF xa xb c : Buf (Elt F) (accL c))) ∗ (gatL c ↦{fullShare} (gatF xa xb c : Buf (Elt F) (gatL c)))
    ∗ (redL c ↦{fullShare} (redF xa xb c : Buf (Elt F) (redL c))) ∗ (outL c ↦{fullShare} (outF xa xb : Buf (Elt F) (outL c)))
    ∗ bigSep Finset.univ fun s : Fin 3 => zeros (F := F) c s)

/-- The segments put together again. -/
theorem gather (c : Dev nD) : iprop(segDone xa xb c 0 ∗ segDone xa xb c 1 ∗ segDone xa xb c 2) ⊢ done xa xb c := by
  have h3 := sep_three fun s => segDone xa xb c s
  have h : (bigSep Finset.univ fun s => segDone xa xb c s) = iprop((bigSep Finset.univ fun s : Fin 3 => bigSep Finset.univ fun e : Dev nD => accP xa xb c s e)
      ∗ (bigSep Finset.univ fun s : Fin 3 => bigSep Finset.univ fun o : Fin 31 => gatP xa xb c s o)
      ∗ (bigSep Finset.univ fun s : Fin 3 => redP xa xb fullShare c s)
      ∗ (bigSep Finset.univ fun s : Fin 3 => bigSep Finset.univ fun e : Dev nD => outP xa xb c s e)
      ∗ bigSep Finset.univ fun s : Fin 3 => zeros (F := F) c s) := by
    unfold segDone
    refine (bigSep_sep' _ _ _).trans (congrArg (fun P => iprop(_ ∗ P)) ?_)
    refine (bigSep_sep' _ _ _).trans (congrArg (fun P => iprop(_ ∗ P)) ?_)
    refine (bigSep_sep' _ _ _).trans (congrArg (fun P => iprop(_ ∗ P)) ?_)
    exact bigSep_sep' _ _ _
  rw [← h3, h]
  unfold done
  rw [acc_blocks (q := fullShare) c, gat_blocks (q := fullShare) c, red_blocks (q := fullShare) c, out_blocks (q := fullShare) c]
  exact Entails.of_eq rfl

/-! ## The barrier stages -/

/-- The signals of a stage: each hands the landing places over that its receiver passes on. -/
theorem wp_signals (c : Dev nD) (j : Fin 2) (sm : Sem sig) (hsm : csem (.inl j) = .reg sm) (l : List (Dev nD)) (hl : l.Nodup)
    (hd : ∀ e ∈ l, c ∈ cellDuties (e, .inl j)) (O : CellTallies nD τ sig Unit) (Q : PUnit → sProp 𝕄) (p : Pr F) :
    iprop(sigToks (F := F) c j l.toFinset ∗ (bigSep l.toFinset fun e => cellPay xa xb (e, .inl j) c) ∗ recs xa xb K
        ∗ debt c (O + (l.map fun e => tallyAt (kcell (e, .inl j)) () 1).sum))
      ⊢ iprop(((recs xa xb K ∗ debt c O) -∗ WP c p Q) -∗ WP c (seqOf (l.map (sig1 sm)) p) Q) := by
  have h := wp_seqOf c (sig1 (F := F) sm) (fun e => iprop(dutyTok ER (kcell (e, .inl j)) 0 c ∗ cellPay xa xb (e, .inl j) c))
    (fun _ => iprop(emp)) (fun l => iprop(recs xa xb K ∗ debt c (O + (l.map fun e => tallyAt (kcell (e, .inl j)) () 1).sum))) Q p l hl
    fun e l' he p => by
      rw [sum_cons]
      exact wp_sig_cell xa xb K c e j sm hsm (hd e he) _ Q p
  simp only [List.map_nil, List.sum_nil, add_zero] at h
  unfold sigToks
  iintro ⟨Ht, Hp, HR, HO⟩ Hk
  iapply h $$ [Ht Hp HR HO]
  · isplitl [Ht Hp]
    · iapply (Entails.of_eq (bigSep_sep' l.toFinset (fun e => dutyTok ER (kcell (e, .inl j)) 0 c) fun e => cellPay xa xb (e, .inl j) c).symm)
      isplitl [Ht] <;> iassumption
    isplitl [HR] <;> iassumption
  iintro ⟨-, HR, HO⟩
  iapply Hk
  isplitl [HR] <;> iassumption

/-- What the waits of the two stages hand over. -/
theorem gain0 (c : Dev nD) : cellGain xa xb c (.inl 0) = bigSep (plane c) fun d => bigSep (B1 d c) (land (F := F)) := rfl
theorem gain1 (c : Dev nD) : cellGain xa xb c (.inl 1) = bigSep (cross c) fun d => bigSep (B2 d c) (land (F := F)) := rfl

theorem wait1_spec (c : Dev nD) (sm : Sem sig) (w : BitVec 32) (n : ℕ) (h : w.toInt = (n : ℤ)) (k : PUnit → sProp 𝕄) :
    wpE (defs₀ (F := F)) 𝒱₀ (c : Thread nD τ) none Set.univ (wait1 sm w) k = waitSpec (c : Thread nD τ) Set.univ (.reg sm) n k := by
  unfold wait1
  rw [h]
  exact wpE_semWait_eq 𝒱₀ (c : Thread nD τ) none Set.univ k

theorem wp_end (c : Dev nD) (Q : PUnit → sProp 𝕄) : Q ⟨⟩ ⊢ WP (F := F) c (.ret ⟨⟩) Q := by
  unfold WP
  rw [wp_ret]
  iintro H
  imodintro
  iexact H

/-- A device's run. -/
theorem wp_body (c : Dev nD) (Q : PUnit → sProp 𝕄) :
    iprop(toksOf (F := F) c ∗ recs xa xb K ∗ debt c (O₀ c) ∗ (aL c ↦{fullShare} (xa c : Buf (Elt F) (aL c))) ∗ (bL c ↦{fullShare} (xb c : Buf (Elt F) (bL c)))
        ∗ held (F := F) (outL c) ∗ held (F := F) (accL c) ∗ held (F := F) (gatL c) ∗ held (F := F) (redL c))
      ⊢ iprop(((done xa xb c ∗ semVal (kcell (c, .inl 0)) 0 ∗ semVal (kcell (c, .inl 1)) 0 ∗ debt c 0
          ∗ (aL c ↦{fullShare} (xa c : Buf (Elt F) (aL c))) ∗ (bL c ↦{fullShare} (xb c : Buf (Elt F) (bL c)))) -∗ Q ⟨⟩)
        -∗ WP c (body (F := F) aM bM outM outW accM accW gatM gatW redM redW cc0_scratch3 cc0_scratch4 cc0_scratch5 cc0_scratch6 cc0_scratch7) Q) := by
  unfold body exchange toksOf
  rw [show held (F := F) (accL c) = iprop(∃ f : Buf (Elt F) (accL c), accL c ↦{fullShare} f) from rfl]
  simp only [wp_deviceId]
  iintro ⟨⟨Hs0, Hs1, Hw0, Hw1, Ht⟩, HR, HO, Ha, Hb, Ho, ⟨%fa, Hacc⟩, Hg, Hr⟩ Hk
  ihave Hl := (prep (F := F) c) $$ [Ho Hg]; · isplitl [Ho] <;> iassumption
  icases Hl with ⟨Hl, Hown⟩
  ihave Hl := (Entails.of_eq (land_give (F := F) c)) $$ Hl
  icases Hl with ⟨Hself, Hl⟩
  iapply (wp_signals xa xb K c 0 barS rfl (planePeers c) (planePeers_nodup c)
    (fun e he => (plane_symm c e).mp (planePeers_set c ▸ List.mem_toFinset.mpr he)) (D7 c) Q) $$ [Hs0 Hl HR HO]
  · rw [planePeers_set]
    isplitl [Hs0]; · iexact Hs0
    isplitl [Hl]; · iexact Hl
    isplitl [HR]; · iexact HR
    iexact HO
  iintro ⟨HR, HO⟩
  iapply (wp_load_rect 𝒱₀ (c : Thread nD τ) none Set.univ (m := aM) (r := rA) (Finset.subset_univ _)) $$ Ha; iintro Ha
  iapply (wp_load_rect 𝒱₀ (c : Thread nD τ) none Set.univ (m := bM) (r := rB) (Finset.subset_univ _)) $$ Hb; iintro Hb
  rw [read_a, read_b]
  iapply (wp_load_rect 𝒱₀ (c : Thread nD τ) none Set.univ (m := accM) (r := rC) (Finset.subset_univ _)) $$ Hacc; iintro Hacc
  iapply (wp_store 𝒱₀ (c : Thread nD τ) none Set.univ (m := accM) (r := rC) (Mk := Finset.univ) (Finset.subset_univ _)) $$ Hacc; iintro Hacc
  rw [write_acc]
  iapply (wp_wait_cell xa xb K c (.inl 0) (wait1 barS 7#32) 7 rfl (wait1_spec c barS 7#32 7 (by decide)) (D7 c)
    (above_D7 c (by decide)) Q) $$ [Hw0 HR HO]
  · isplitl [Hw0]; · iexact Hw0
    isplitl [HR] <;> iassumption
  unfold waitOut
  iintro ⟨⟨Hz0, Hl⟩, HR, HO⟩
  ihave Hl := (Entails.of_eq (land_got (F := F) c)) $$ [Hself Hl]
  · isplitl [Hself]; · iexact Hself
    iapply (Entails.of_eq (gain0 xa xb c)) $$ Hl
  ihave Hl := (Entails.of_eq (land_give2 (F := F) c)) $$ Hl
  icases Hl with ⟨Hself, Hl⟩
  iapply (wp_signals xa xb K c 1 cc0_scratch7.sem rfl (crossPeers c) (crossPeers_nodup c)
    (fun e he => (cross_symm c e).mp (crossPeers_set c ▸ List.mem_toFinset.mpr he)) (D6 c) Q) $$ [Hs1 Hl HR HO]
  · rw [crossPeers_set]
    isplitl [Hs1]; · iexact Hs1
    isplitl [Hl]; · iexact Hl
    isplitl [HR]; · iexact HR
    iexact HO
  iintro ⟨HR, HO⟩
  iapply (wp_wait_cell xa xb K c (.inl 1) (wait1 cc0_scratch7.sem 3#32) 3 rfl (wait1_spec c cc0_scratch7.sem 3#32 3 (by decide)) (D6 c)
    (above_D6 c (by decide)) Q) $$ [Hw1 HR HO]
  · isplitl [Hw1]; · iexact Hw1
    isplitl [HR] <;> iassumption
  unfold waitOut
  iintro ⟨⟨Hz1, Hl⟩, HR, HO⟩
  ihave Hl := (Entails.of_eq (land_got2 (F := F) c)) $$ [Hself Hl]
  · isplitl [Hself]; · iexact Hself
    iapply (Entails.of_eq (gain1 xa xb c)) $$ Hl
  ihave Hseg := (deal xa xb c) $$ [Hacc Hl Hown Hr Ht]
  · isplitl [Hacc]; · iexact Hacc
    isplitl [Hl]; · iexact Hl
    isplitl [Hown]; · iexact Hown
    isplitl [Hr] <;> iassumption
  icases Hseg with ⟨H0, H1, H2⟩
  iapply (wp_data xa xb K c Q) $$ [H0 H1 H2 HR HO]
  · isplitl [H0]; · iexact H0
    isplitl [H1]; · iexact H1
    isplitl [H2]; · iexact H2
    isplitl [HR] <;> iassumption
  iintro ⟨H0, H1, H2, HO⟩
  iapply (wp_end c Q)
  iapply Hk
  isplitl [H0 H1 H2]
  · iapply (gather xa xb c)
    isplitl [H0]; · iexact H0
    isplitl [H1] <;> iassumption
  isplitl [Hz0]; · iexact Hz0
  isplitl [Hz1]; · iexact Hz1
  isplitl [HO]; · iexact HO
  isplitl [Ha] <;> iassumption

end Run

end Cert.Proof.Steps

end
-- ==== Proof.Ghost.lean ====
/-
The resources of the launch: what the devices owe each other in all, the tokens dealt to those who pay with them, and
what each device's body starts from.
-/
module

public import proofs.«01_k».proof.Proof.Run

@[expose] public section

noncomputable section

namespace Cert.Proof.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is owed in all -/

/-- What the devices together owe one cell of a device at the launch. -/
def due (i : CI) : ℕ :=
  match i with
  | .inl 0 => 7
  | .inl 1 => 3
  | .inr (k, _, _) => match k with | 0 => 0 | 1 => N | 2 => 0 | 3 => N

/-- A sum over the cells of a device. -/
theorem sum_CI {A : Type} [AddCommMonoid A] (f : CI → A) :
    ∑ i, f i = f (.inl 0) + f (.inl 1) + ((∑ s, ∑ o, f (x 0 s o)) + (∑ s, ∑ o, f (x 1 s o)) + (∑ s, ∑ o, f (x 2 s o)) + ∑ s, ∑ o, f (x 3 s o)) := by
  rw [Fintype.sum_sum_type, Fin.sum_univ_two, Fintype.sum_prod_type, Fin.sum_univ_four]
  simp only [Fintype.sum_prod_type]

theorem oR1_sum (c : Dev nD) (s : Fin 3) : oR1 c s = ∑ o, tR1 c s o := by
  unfold oR1; rw [← List.sum_toFinset _ nodup_offs, offs_univ]
theorem oR2_sum (c : Dev nD) (s : Fin 3) : oR2 c s = ∑ o, tR2 c s o := by
  unfold oR2; rw [← List.sum_toFinset _ nodup_offs, offs_univ]
theorem oB_sum (c : Dev nD) : oB c = ∑ e ∈ plane c, tB e := by
  unfold oB; rw [← List.sum_toFinset _ (planePeers_nodup c), planePeers_set]
theorem oB2_sum (c : Dev nD) : oB2 c = ∑ e ∈ cross c, tB2 e := by
  unfold oB2; rw [← List.sum_toFinset _ (crossPeers_nodup c), crossPeers_set]

theorem O₀_sum (c : Dev nD) : O₀ c = (∑ e ∈ plane c, tB e) + (∑ e ∈ cross c, tB2 e) + ((∑ s, ∑ o, tR1 c s o) + ∑ s, ∑ o, tR2 c s o) := by
  rw [Fin.sum_univ_three, Fin.sum_univ_three]
  unfold O₀ D7 D6 D5 D4 D3 Steps.D2 Steps.D1
  rw [oB_sum, oB2_sum, oR1_sum, oR1_sum, oR1_sum, oR2_sum, oR2_sum, oR2_sum]
  rw [zero_add]
  ac_rfl

/-- The same over all devices, by who is owed. -/
theorem sum_around {A : Type} [AddCommMonoid A] (f : Dev nD → Fin 3 → Fin 31 → A) : ∑ c, ∑ s, ∑ o, f (fwd c o) s o = ∑ c, ∑ s, ∑ o, f c s o := by
  have h : ∀ g : Dev nD → Fin 3 → Fin 31 → A, ∑ c, ∑ s, ∑ o, g c s o = ∑ s, ∑ o, ∑ c, g c s o := fun g => by
    rw [Finset.sum_comm]
    exact Finset.sum_congr rfl fun s _ => Finset.sum_comm
  rw [h, h]
  exact Finset.sum_congr rfl fun s _ => Finset.sum_congr rfl fun o _ => (Equiv.sum_comp (step o) fun c => f c s o)
theorem sum_related {A : Type} [AddCommMonoid A] (T : Dev nD → Finset (Dev nD)) (hT : ∀ c e, e ∈ T c ↔ c ∈ T e) (n : ℕ) (hn : ∀ c, (T c).card = n)
    (f : Dev nD → A) : ∑ c, ∑ e ∈ T c, f e = ∑ c, n • f c := by
  rw [Finset.sum_comm' (t' := Finset.univ) (s' := T) (fun c e => by simp [hT c e])]
  exact Finset.sum_congr rfl fun c _ => by rw [Finset.sum_const, hn]

theorem smul_tally (g : GSem nD τ sig) (n : ℕ) : n • (tallyAt g () 1 : CellTallies nD τ sig Unit) = tallyAt g () n := by
  induction n with
  | zero => rw [zero_smul, tallyAt_zero]
  | succ n ih => rw [succ_nsmul, ih, tallyAt_add]

/-- All that is owed at the launch: to every cell what is due there. -/
theorem owed_all : ∑ d, O₀ d = ∑ c : Dev nD, ∑ i : CI, (tallyAt (kcell (c, i)) () (due i) : CellTallies nD τ sig Unit) := by
  rw [Finset.sum_congr rfl fun d _ => O₀_sum d, Finset.sum_congr rfl fun c _ => sum_CI fun i => (tallyAt (kcell (c, i)) () (due i) : CellTallies nD τ sig Unit)]
  simp only [Finset.sum_add_distrib]
  rw [sum_related plane plane_symm 7 plane_card, sum_related cross cross_symm 3 cross_card]
  have h1 : ∑ c, ∑ s, ∑ o, tR1 c s o = ∑ c : Dev nD, ∑ s, ∑ o, (tallyAt (kcell (c, x 1 s o)) () (due (x 1 s o)) : CellTallies nD τ sig Unit) :=
    sum_around fun c s o => (tallyAt (kcell (c, x 1 s o)) () N : CellTallies nD τ sig Unit)
  have h3 : ∑ c, ∑ s, ∑ o, tR2 c s o = ∑ c : Dev nD, ∑ s, ∑ o, (tallyAt (kcell (c, x 3 s o)) () (due (x 3 s o)) : CellTallies nD τ sig Unit) :=
    sum_around fun c s o => (tallyAt (kcell (c, x 3 s o)) () N : CellTallies nD τ sig Unit)
  have hz : ∀ k : Fin 4, (∀ s o, due (x k s o) = 0) →
      ∑ c : Dev nD, ∑ s, ∑ o, (tallyAt (kcell (c, x k s o)) () (due (x k s o)) : CellTallies nD τ sig Unit) = 0 := fun k hk =>
    Finset.sum_eq_zero fun c _ => Finset.sum_eq_zero fun s _ => Finset.sum_eq_zero fun o _ => by rw [hk, tallyAt_zero]
  rw [h1, h3, hz 0 fun _ _ => rfl, hz 2 fun _ _ => rfl, zero_add, add_zero]
  congr 1
  congr 1
  · exact Finset.sum_congr rfl fun c _ => smul_tally _ 7
  · exact Finset.sum_congr rfl fun c _ => smul_tally _ 3

/-- What the devices owe a cell. -/
theorem owed_at (c : Dev nD) (i : CI) : ∑ d, O₀ d (kcell (c, i)) () = due i := by
  have h : (∑ d, O₀ d) (kcell (c, i)) () = ∑ d, O₀ d (kcell (c, i)) () := by
    rw [Finset.sum_apply, Finsupp.finset_sum_apply]
  rw [← h, owed_all, Finset.sum_apply, Finsupp.finset_sum_apply]
  rw [Finset.sum_congr rfl fun c' _ => by rw [Finset.sum_apply, Finsupp.finset_sum_apply]]
  rw [← Fintype.sum_prod_type' fun (c' : Dev nD) (i' : CI) => (tallyAt (kcell (c', i')) () (due i') : CellTallies nD τ sig Unit) (kcell (c, i)) ()]
  rw [Fintype.sum_eq_single (c, i) fun a ha => ?_]
  · rw [tallyAt_self]
  · rw [tallyAt_ne_cell fun h => ha (kcell_injective h).symm]; rfl

/-! ## Conjunctions over a device's cells -/

omit [FloatOps F] in
theorem sep_two (Φ : Fin 2 → sProp 𝕄) : bigSep Finset.univ Φ = iprop(Φ 0 ∗ Φ 1) := bigSep_univ_eq_bigSepL [0, 1] (by decide) (by decide) Φ
omit [FloatOps F] in
theorem sep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Over the transfers' cells, -/
theorem sep_xfers (Φ : Fin 4 × Fin 3 × Fin 31 → sProp 𝕄) : bigSep Finset.univ Φ
    = iprop((bigSep Finset.univ fun s => bigSep Finset.univ fun o => Φ (0, s, o)) ∗ (bigSep Finset.univ fun s => bigSep Finset.univ fun o => Φ (1, s, o))
      ∗ (bigSep Finset.univ fun s => bigSep Finset.univ fun o => Φ (2, s, o)) ∗ bigSep Finset.univ fun s => bigSep Finset.univ fun o => Φ (3, s, o)) := by
  rw [bigSep_univ_prod, sep_four, bigSep_univ_prod, bigSep_univ_prod, bigSep_univ_prod, bigSep_univ_prod]
omit [FloatOps F] in
/-- and over all of them. -/
theorem sep_CI (Φ : CI → sProp 𝕄) : bigSep Finset.univ Φ
    = iprop((Φ (.inl 0) ∗ Φ (.inl 1)) ∗ (bigSep Finset.univ fun s => bigSep Finset.univ fun o => Φ (x 0 s o)) ∗ (bigSep Finset.univ fun s => bigSep Finset.univ fun o => Φ (x 1 s o))
      ∗ (bigSep Finset.univ fun s => bigSep Finset.univ fun o => Φ (x 2 s o)) ∗ bigSep Finset.univ fun s => bigSep Finset.univ fun o => Φ (x 3 s o)) :=
  (bigSep_univ_sum Φ).trans (congrArg₂ BI.sep (sep_two _) (sep_xfers fun y => Φ (.inr y)))

omit [FloatOps F] in
/-- Every device's transfers, by who is sent to. -/
theorem sep_around (Φ : Dev nD → Fin 3 → Fin 31 → sProp 𝕄) :
    (bigSep Finset.univ fun c => bigSep Finset.univ fun s => bigSep Finset.univ fun o => Φ c s o)
      = bigSep Finset.univ fun c => bigSep Finset.univ fun s => bigSep Finset.univ fun o => Φ (fwd c o) s o := by
  have h : ∀ Ψ : Dev nD → Fin 3 → Fin 31 → sProp 𝕄, (bigSep Finset.univ fun c => bigSep Finset.univ fun s => bigSep Finset.univ fun o => Ψ c s o)
      = bigSep Finset.univ fun s => bigSep Finset.univ fun o => bigSep Finset.univ fun c => Ψ c s o := fun Ψ =>
    (sep_swap fun (c : Dev nD) (s : Fin 3) => bigSep Finset.univ fun o => Ψ c s o).trans
      (bigSep_congr fun s _ => sep_swap fun (c : Dev nD) (o : Fin 31) => Ψ c s o)
  rw [h, h]
  exact bigSep_congr fun s _ => bigSep_congr fun o _ => bigSep_univ_equiv (step o) fun c => Φ c s o

/-! ## Tokens, positions, credits -/

/-- The tokens a device pays with. -/
def payToks (c : Dev nD) : sProp 𝕄 :=
  iprop((sigToks (F := F) c 0 (plane c) ∗ sigToks (F := F) c 1 (cross c))
    ∗ (bigSep Finset.univ fun s => bigSep Finset.univ fun o => dutyTok ER (kcell (c, x 0 s o)) 0 0)
    ∗ (bigSep Finset.univ fun s => bigSep Finset.univ fun o => dutyTok ER (kcell (fwd c o, x 1 s o)) 0 0)
    ∗ (bigSep Finset.univ fun s => bigSep Finset.univ fun o => dutyTok ER (kcell (c, x 2 s o)) 0 0)
    ∗ bigSep Finset.univ fun s => bigSep Finset.univ fun o => dutyTok ER (kcell (fwd c o, x 3 s o)) 0 0)

/-- The tokens of a device's own cells. -/
def ownToks (c : Dev nD) : sProp 𝕄 := bigSep Finset.univ fun i : CI => bigSep (cellDuties (c, i)) fun d => dutyTok ER (kcell (c, i)) 0 d

omit [FloatOps F] in
theorem ownToks_eq (c : Dev nD) : (ownToks (F := F) c)
    = iprop(((bigSep (plane c) fun d => dutyTok ER (kcell (c, .inl 0)) 0 d) ∗ (bigSep (cross c) fun d => dutyTok ER (kcell (c, .inl 1)) 0 d))
      ∗ (bigSep Finset.univ fun s => bigSep Finset.univ fun o => dutyTok ER (kcell (c, x 0 s o)) 0 0)
      ∗ (bigSep Finset.univ fun s => bigSep Finset.univ fun o => dutyTok ER (kcell (c, x 1 s o)) 0 0)
      ∗ (bigSep Finset.univ fun s => bigSep Finset.univ fun o => dutyTok ER (kcell (c, x 2 s o)) 0 0)
      ∗ bigSep Finset.univ fun s => bigSep Finset.univ fun o => dutyTok ER (kcell (c, x 3 s o)) 0 0) := by
  unfold ownToks
  rw [sep_CI]
  have hx : ∀ k : Fin 4, (bigSep Finset.univ fun s => bigSep Finset.univ fun o => bigSep (cellDuties (c, x k s o)) fun d => (dutyTok ER (kcell (c, x k s o)) 0 d : sProp 𝕄))
      = bigSep Finset.univ fun s => bigSep Finset.univ fun o => dutyTok ER (kcell (c, x k s o)) 0 0 := fun k =>
    bigSep_congr fun s _ => bigSep_congr fun o _ => bigSep_singleton
  rw [hx 0, hx 1, hx 2, hx 3]
  rfl

omit [FloatOps F] in
/-- The tokens of all cells are those all devices pay with. -/
theorem toks_around : (bigSep Finset.univ fun c => ownToks (F := F) c) ⊢ bigSep Finset.univ fun c => payToks (F := F) c := by
  have h0 : (bigSep Finset.univ fun c => bigSep (plane c) fun d => (dutyTok ER (kcell (c, .inl 0)) 0 d : sProp 𝕄)) = bigSep Finset.univ fun c => sigToks (F := F) c 0 (plane c) :=
    sep_rel plane plane plane_symm _
  have h1 : (bigSep Finset.univ fun c => bigSep (cross c) fun d => (dutyTok ER (kcell (c, .inl 1)) 0 d : sProp 𝕄)) = bigSep Finset.univ fun c => sigToks (F := F) c 1 (cross c) :=
    sep_rel cross cross cross_symm _
  have h2 := sep_around fun c s o => (dutyTok ER (kcell (c, x 1 s o)) 0 0 : sProp 𝕄)
  have h3 := sep_around fun c s o => (dutyTok ER (kcell (c, x 3 s o)) 0 0 : sProp 𝕄)
  rw [show (fun c => ownToks (F := F) c) = _ from funext ownToks_eq]
  unfold payToks
  simp only [bigSep_sep']
  rw [h0, h1, h2, h3]

/-- A device's positions. -/
def posns (c : Dev nD) : sProp 𝕄 := bigSep Finset.univ fun i : CI => atPos ER (kcell (c, i)) 0 ∅ 0

omit [FloatOps F] in
/-- What a device may count on from the launch: what is due at its cells. -/
theorem creds (c : Dev nD) : (Pipeline.launchCred O₀ c : sProp 𝕄) ⊢ bigSep Finset.univ fun i : CI => cred (tallyAt (kcell (c, i)) () (due i)) := by
  have h : ∀ i : CI, (tallyOn (kcell (c, i)) (launchCredit (Pipeline.owing O₀) 0 (kcell (c, i))) : CellTallies nD τ sig Unit) = tallyAt (kcell (c, i)) () (due i) := fun i => by
    unfold tallyAt; refine congrArg _ (Finsupp.ext fun u => ?_); cases u
    rw [Pipeline.launchCredit_owing, Finsupp.single_eq_same, owed_at]
  unfold Pipeline.launchCred
  refine BI.Entails.trans (bigSep_subset (Finset.subset_univ (Finset.univ.map ⟨csem, csem_injective⟩))) ?_
  rw [bigSep_map]
  exact Entails.of_eq (bigSep_congr fun i _ => congrArg cred (h i))

/-- The invariants and marks of all cells. -/
def marks (xa : Dev nD → Vec F S768x384 .bf16) (xb : Dev nD → Vec F S384x768 .bf16) (K : Dev nD × CI → ℕ) : sProp 𝕄 :=
  iprop((bigSep Finset.univ fun a => cellInv ER (Rd xa xb) (K a) (kcell a)) ∗ bigSep Finset.univ fun a => reached ER (kcell a) 0)

instance marks_persistent (xa : Dev nD → Vec F S768x384 .bf16) (xb : Dev nD → Vec F S384x768 .bf16) (K : Dev nD × CI → ℕ) :
    BI.Persistent (marks xa xb K) := by unfold marks; infer_instance

/-- Credits and positions of the arrivals are what the waits take. -/
theorem waits_arr (c : Dev nD) (k : Fin 4) (s : Fin 3) (hk : ∀ s o, due (x k s o) = N) :
    iprop((bigSep Finset.univ fun o => cred (tallyAt (kcell (c, x k s o)) () (due (x k s o)))) ∗ bigSep Finset.univ fun o => atPos ER (kcell (c, x k s o)) 0 ∅ 0)
      ⊢ (bigSep Finset.univ fun o => waitIn (F := F) c (x k s o) : sProp 𝕄) := by
  have h := waits_of (F := F) c k s
  rw [show (bigSep Finset.univ fun o => cred (tallyAt (kcell (c, x k s o)) () (due (x k s o))) : sProp 𝕄)
    = bigSep Finset.univ fun o => cred (tallyAt (kcell (c, x k s o)) () N) from bigSep_congr fun o _ => by rw [hk]]
  exact h

/-- Everything a device's body takes of tokens, positions and credits. -/
theorem toksOf_intro (c : Dev nD) :
    iprop(payToks (F := F) c ∗ posns (F := F) c ∗ bigSep Finset.univ fun i : CI => cred (tallyAt (kcell (c, i)) () (due i))) ⊢ toksOf (F := F) c := by
  unfold posns payToks
  rw [sep_CI, sep_CI]
  have hs : iprop((bigSep Finset.univ fun s => bigSep Finset.univ fun o => dutyTok ER (kcell (c, x 0 s o)) 0 0)
      ∗ (bigSep Finset.univ fun s => bigSep Finset.univ fun o => dutyTok ER (kcell (fwd c o, x 1 s o)) 0 0)
      ∗ (bigSep Finset.univ fun s => bigSep Finset.univ fun o => dutyTok ER (kcell (c, x 2 s o)) 0 0)
      ∗ (bigSep Finset.univ fun s => bigSep Finset.univ fun o => dutyTok ER (kcell (fwd c o, x 3 s o)) 0 0)
      ∗ (bigSep Finset.univ fun s => bigSep Finset.univ fun o => atPos ER (kcell (c, x 0 s o)) 0 ∅ 0)
      ∗ (bigSep Finset.univ fun s => bigSep Finset.univ fun o => atPos ER (kcell (c, x 1 s o)) 0 ∅ 0)
      ∗ (bigSep Finset.univ fun s => bigSep Finset.univ fun o => atPos ER (kcell (c, x 2 s o)) 0 ∅ 0)
      ∗ (bigSep Finset.univ fun s => bigSep Finset.univ fun o => atPos ER (kcell (c, x 3 s o)) 0 ∅ 0)
      ∗ (bigSep Finset.univ fun s => bigSep Finset.univ fun o => cred (tallyAt (kcell (c, x 1 s o)) () (due (x 1 s o))))
      ∗ (bigSep Finset.univ fun s => bigSep Finset.univ fun o => cred (tallyAt (kcell (c, x 3 s o)) () (due (x 3 s o)))))
      ⊢ (bigSep Finset.univ fun s => segToks (F := F) c s : sProp 𝕄) := by
    simp only [← bigSep_sep']
    refine bigSep_mono fun s _ => ?_
    unfold segToks
    simp only [bigSep_sep']
    show (_ : sProp 𝕄) ⊢ _
    iintro ⟨T0, T1, T2, T3, P0, P1, P2, P3, C1, C3⟩
    isplitl [T0 T1]; · isplitl [T0] <;> iassumption
    isplitl [T2 T3]; · isplitl [T2] <;> iassumption
    isplitl [C1 P1]
    · iapply (waits_arr (F := F) c 1 s fun _ _ => rfl)
      isplitl [C1] <;> iassumption
    isplitl [C3 P3]
    · iapply (waits_arr (F := F) c 3 s fun _ _ => rfl)
      isplitl [C3] <;> iassumption
    isplitl [P0] <;> iassumption
  unfold toksOf
  iintro ⟨⟨⟨S0, S1⟩, T0, T1, T2, T3⟩, ⟨⟨Q0, Q1⟩, P0, P1, P2, P3⟩, ⟨⟨R0, R1⟩, -, C1, -, C3⟩⟩
  isplitl [S0]; · iexact S0
  isplitl [S1]; · iexact S1
  isplitl [R0 Q0]
  · unfold waitIn
    isplitl [R0]; · iexact R0
    iexact Q0
  isplitl [R1 Q1]
  · unfold waitIn
    isplitl [R1]; · iexact R1
    iexact Q1
  iapply hs
  isplitl [T0]; · iexact T0
  isplitl [T1]; · iexact T1
  isplitl [T2]; · iexact T2
  isplitl [T3]; · iexact T3
  isplitl [P0]; · iexact P0
  isplitl [P1]; · iexact P1
  isplitl [P2]; · iexact P2
  isplitl [P3]; · iexact P3
  isplitl [C1] <;> iassumption

end Cert.Proof.Steps

end
-- ==== Proof.Launch.lean ====
/-
The launch: the pipeline's proof data, the body's obligation, the ghost state dealt out, and the run of the whole program
for any float values.
-/
module

public import proofs.«01_k».proof.Proof.Ghost
public import proofs.«01_k».proof.Proof.Gen.KernelIdeal.Points
public import Idealize.ShloMosaic.Lib.Pipeline.Kit
public import Idealize.ShloMosaic.Lib.Pipeline.CollectiveSegs

@[expose] public section

noncomputable section

namespace Cert.Proof.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the launch: any contents, every counter zero. -/
def s₀ : MemSt nD τ sig (Elt F) := ⟨m, fun _ => 0, ρ⟩

/-- A device's operands, as staged. -/
def xA (c : Dev nD) : Vec F S768x384 .bf16 := (win0_0.blk (0 : Fin 1)).view.read (Elt F) ((s₀ m ρ).mem ((c : Thread nD τ).loc main_arg0))
def xB (c : Dev nD) : Vec F S384x768 .bf16 := (win0_1.blk (0 : Fin 1)).view.read (Elt F) ((s₀ m ρ).mem ((c : Thread nD τ).loc main_arg1))

/-! ## The pipeline's data -/

/-- What a device's body starts from, -/
def start (c : Dev nD) : sProp 𝕄 := iprop(∃ K, recs (xA m ρ) (xB m ρ) K ∗ toksOf (F := F) c)
/-- with its scratch buffers; -/
def Φ₀ (c : Dev nD) : sProp 𝕄 := iprop(start m ρ c ∗ held (F := F) (accL c) ∗ held (F := F) (gatL c) ∗ held (F := F) (redL c))
/-- and what it ends with besides its windows. -/
def Φ₁ (c : Dev nD) : sProp 𝕄 :=
  iprop((held (F := F) (accL c) ∗ held (F := F) (gatL c) ∗ held (F := F) (redL c))
    ∗ (bigSep Finset.univ fun s : Fin 3 => zeros (F := F) c s) ∗ semVal (kcell (c, .inl 0)) 0 ∗ semVal (kcell (c, .inl 1)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m ρ c
    | ⟨1, _⟩ => xB m ρ c
    | ⟨2, _⟩ => outF (xA m ρ) (xB m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem sep_W (Φ : Fin cfg0.W → sProp 𝕄) : bigSep Finset.univ Φ = iprop(Φ (0 : Fin 3) ∗ Φ (1 : Fin 3) ∗ Φ (2 : Fin 3)) := bigSep_W0 Φ

theorem fetchA (t : Fin cfg0.N) : (cfg0.win (0 : Fin 3)).fetch t = true := fetch0_0 t
theorem fetchB (t : Fin cfg0.N) : (cfg0.win (1 : Fin 3)).fetch t = true := fetch0_1 t

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (xA m ρ c) ∗ stg c cc0_stg1_0 (xB m ρ c)
    ∗ stg c cc0_stg2_0 (outF (xA m ρ) (xB m ρ)))

theorem held_of (ℓ : Loc nD τ sig) (f : Buf (Elt F) ℓ) : (ℓ ↦{fullShare} f : sProp 𝕄) ⊢ held (F := F) ℓ := by
  unfold held; iintro H; iexists f; iexact H

theorem debt_of (c : Dev nD) : (dats m ρ 0 c).owesAt () t₀.castSucc ⊢ debt (F := F) c (O₀ c) := by
  unfold Dat.owesAt Pipeline.owesWithin debt
  rw [show (dats m ρ 0 c).owed t₀.castSucc = O₀ c from rfl]
  iintro ⟨%W, -, HO⟩
  iexists W
  iexact HO
theorem of_debt (c : Dev nD) : debt (F := F) c 0 ⊢ (dats m ρ 0 c).owesAt () t₀.succ := by
  unfold Dat.owesAt Pipeline.owesWithin debt
  rw [show (dats m ρ 0 c).owed t₀.succ = 0 from rfl]
  iintro ⟨%W, HO⟩
  iexists W
  isplitr; · ipureintro; exact fun _ _ => Or.inl trivial
  iexact HO

/-- What the body ends with is what the point asks for. -/
theorem finish (c : Dev nD) :
    iprop(done (xA m ρ) (xB m ρ) c ∗ semVal (kcell (c, .inl 0)) 0 ∗ semVal (kcell (c, .inl 1)) 0 ∗ debt c 0
        ∗ (aL c ↦{fullShare} (xA m ρ c : Buf (Elt F) (aL c))) ∗ (bL c ↦{fullShare} (xB m ρ c : Buf (Elt F) (bL c))))
      ⊢ bodyPost m ρ c := by
  unfold done bodyPost Φ₁
  iintro ⟨⟨Ha, Hg, Hr, Ho, Hz⟩, Hz0, Hz1, HO, HA, HB⟩
  isplitl [Ha Hg Hr Hz Hz0 Hz1]
  · isplitl [Ha Hg Hr]
    · isplitl [Ha]; · iapply (held_of (F := F) (accL c) _) $$ Ha
      isplitl [Hg]; · iapply (held_of (F := F) (gatL c) _) $$ Hg
      iapply (held_of (F := F) (redL c) _) $$ Hr
    isplitl [Hz]; · iexact Hz
    isplitl [Hz0] <;> iassumption
  isplitl [HO]; · iapply (of_debt m ρ c) $$ HO
  isplitl [HA]
  · iexists (xA m ρ c); isplitr; · (ipureintro; rfl)
    iexact HA
  isplitl [HB]
  · iexists (xB m ρ c); isplitr; · (ipureintro; rfl)
    iexact HB
  iexists (outF (xA m ρ) (xB m ρ)); isplitr; · (ipureintro; rfl)
  iexact Ho

set_option maxRecDepth 100000 in
/-- The body, from what the point gives to what it asks for. -/
theorem sound_body (c : Dev nD) :
    bodyPre m ρ c ⊢ WP c (body (F := F) aM bM outM outW accM accW gatM gatW redM redW cc0_scratch3 cc0_scratch4 cc0_scratch5 cc0_scratch6 cc0_scratch7)
      (fun _ => bodyPost m ρ c) := by
  unfold bodyPre Φ₀ start
  iintro ⟨⟨⟨%K, HR, Ht⟩, Hacc, Hg, Hr⟩, Ho, ⟨%d0, %g0, %hg0, HA⟩, ⟨%d1, %g1, %hg1, HB⟩, ⟨%d2, %g2, %hg2, Hout⟩⟩
  have hA : g0 = xA m ρ c := by rw [hg0]; unfold Dat.before; rw [if_pos (fetchA t₀)]; rfl
  have hB : g1 = xB m ρ c := by rw [hg1]; unfold Dat.before; rw [if_pos (fetchB t₀)]; rfl
  subst hA
  subst hB
  ihave HO := (debt_of m ρ c) $$ Ho
  iapply (wp_body (xA m ρ) (xB m ρ) K c (fun _ => bodyPost m ρ c)) $$ [HR Ht Hacc Hg Hr HO HA HB Hout]
  · isplitl [Ht]; · iexact Ht
    isplitl [HR]; · iexact HR
    isplitl [HO]; · iexact HO
    isplitl [HA]; · iexact HA
    isplitl [HB]; · iexact HB
    isplitl [Hout]; · iapply (held_of (F := F) (outL c) g2) $$ Hout
    isplitl [Hacc]; · iexact Hacc
    isplitl [Hg] <;> iassumption
  iintro H
  iapply (finish m ρ c) $$ H

set_option maxRecDepth 100000 in
/-- The pipeline's obligation for the body. -/
theorem body_obligation (c : Dev nD) : BodyObligation (dats (F := F) m ρ 0 c) (defs₀ (F := F)) 𝒱₀ () Set.univ := fun t => by
  rw [fin_N t]
  rw [sep_W, sep_W]
  simp only [owns_whole_eq]
  show bodyPre m ρ c ⊢ wp frame (wpE defs₀ 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _)
      cc0_scratch3 cc0_scratch4 cc0_scratch5 cc0_scratch6 cc0_scratch7) (fun _ => bodyPost m ρ c)
  rw [body_eq]
  exact sound_body m ρ c

/-! ## The launch -/

/-- The kernel's own scoped semaphores. -/
abbrev osem (k : Unit ⊕ (Fin 4 × Fin 3 × Fin 31)) : SemLoc sig := csem (k.map (fun _ => 1) id)

theorem osem_injective : Function.Injective osem := fun a b h => by
  have h := csem_injective h
  rcases a with ⟨⟩ | a <;> rcases b with ⟨⟩ | b
  · rfl
  · exact nomatch h
  · exact nomatch h
  · exact congrArg Sum.inr (Sum.inr.inj h)

theorem ownSemFacts : Pipeline.OwnSemFacts cfg0.spec osem where
  isScoped := by decide +kernel
  inj := osem_injective
  disj := by decide +kernel

theorem share_eq (c : Dev nD) (w : Fin cfg0.W) : (dats m ρ 0 c).share w = fullShare := by unfold Dat.share; split <;> rfl

/-- All cells, and all tokens. -/
def allCells : Finset (GSem nD τ sig) := Finset.univ.map ⟨kcell, kcell_injective⟩
def tokOf (y : (Dev nD × CI) × Dev nD) : GSem nD τ sig × ℕ × Dev nD := (kcell y.1, 0, y.2)
theorem tokOf_injective : Function.Injective tokOf := fun a b h => by
  have h1 : kcell a.1 = kcell b.1 := congrArg (fun z : GSem nD τ sig × ℕ × Dev nD => z.1) h
  have h2 : a.2 = b.2 := congrArg (fun z : GSem nD τ sig × ℕ × Dev nD => z.2.2) h
  exact Prod.ext (kcell_injective h1) h2
def allToks : Finset (GSem nD τ sig × ℕ × Dev nD) :=
  (Finset.univ.filter fun y : (Dev nD × CI) × Dev nD => y.2 ∈ cellDuties y.1).map ⟨tokOf, tokOf_injective⟩

def u₀ : UU :=
  (initOf (Pipeline.cells cfgs cellOf_inj) (Pipeline.launchToks cfgs cellOf_inj), initOf allCells allToks)

/-- What the launch deals a device, -/
def G (c : Dev nD) : sProp 𝕄 :=
  iprop((bigSep Finset.univ fun i : CI => roundState ER (Rd (xA m ρ) (xB m ρ)) (kcell (c, i)) 0)
    ∗ (posns (F := F) c ∗ bigSep Finset.univ fun i : CI => reached ER (kcell (c, i)) 0) ∗ ownToks (F := F) c)
/-- and what the devices make of it together. -/
def G' (c : Dev nD) : sProp 𝕄 := iprop(∃ K, marks (xA m ρ) (xB m ρ) K ∗ payToks (F := F) c ∗ posns (F := F) c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun y => (dutyTok ER y.1 y.2.1 y.2.2 : sProp 𝕄)) = bigSep Finset.univ fun c : Dev nD => ownToks (F := F) c := by
    unfold allToks
    rw [bigSep_map, bigSep_filter, bigSep_univ_prod, bigSep_univ_prod]
    refine bigSep_congr fun c _ => ?_
    unfold ownToks
    exact bigSep_congr fun i _ => (sep_all (cellDuties (c, i)) fun d => (dutyTok ER (kcell (c, i)) 0 d : sProp 𝕄)).symm
  iintro HX
  imod (Rounds.fund ER (Rd (xA m ρ) (xB m ρ)) allCells allToks) $$ HX with ⟨Hst, Hr, Hat, Htok⟩
  imodintro
  ihave Hst' := (Entails.of_eq (hX fun g => roundState ER (Rd (xA m ρ) (xB m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posns; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell (c, .inl 1)) 0 ∗ bigSep Finset.univ fun y : Fin 4 × Fin 3 × Fin 31 => semVal (kcell (c, .inr y)) 0) := by
  unfold Pipeline.ownSems0
  refine (bigSep_univ_sum _).trans (congrArg (fun P => BI.sep P _) ?_)
  rw [show (Finset.univ : Finset Unit) = {()} from rfl, bigSep_singleton]
  rfl
omit [FloatOps F] in
theorem unscopedSems0_eq (c : Dev nD) : (unscopedSems0 c : sProp 𝕄) = semVal (kcell (c, .inl 0)) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq]
  have h : (bigSep Finset.univ fun i : CI => (semVal (kcell (c, i)) 0 : sProp 𝕄))
      = iprop((semVal (kcell (c, .inl 0)) 0 ∗ semVal (kcell (c, .inl 1)) 0) ∗ bigSep Finset.univ fun y : Fin 4 × Fin 3 × Fin 31 => semVal (kcell (c, .inr y)) 0) :=
    (bigSep_univ_sum _).trans (congrArg (fun P => BI.sep P _) (sep_two _))
  rw [h]
  iintro ⟨⟨H1, HX⟩, H0⟩
  isplitl [H0 H1]; · isplitl [H0] <;> iassumption
  iexact HX

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd (xA m ρ) (xB m ρ)) κ (kcell (c, i))))
          ∗ (posns (F := F) c ∗ bigSep Finset.univ fun i : CI => reached ER (kcell (c, i)) 0) ∗ ownToks (F := F) c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (Rd (xA m ρ) (xB m ρ)) (kcell (c, i)) 0)
      ⊢ (|={Set.univ}=> bigSep Finset.univ fun i => iprop(∃ κ : ℕ, cellInv ER (Rd (xA m ρ) (xB m ρ)) κ (kcell (c, i))) : sProp 𝕄) from by
        rw [← bigSep_sep']
        exact (bigSep_mono fun i _ => (Rounds.body_intro ER (Rd (xA m ρ) (xB m ρ)) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Something persistent goes to every member of a conjunction. -/
theorem sep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd (xA m ρ) (xB m ρ)) κ (kcell (c, i))))
          ∗ (posns (F := F) c ∗ bigSep Finset.univ fun i : CI => reached ER (kcell (c, i)) 0) ∗ ownToks (F := F) c) : sProp 𝕄)
      ⊢ bigSep Finset.univ (G' m ρ) := by
  rw [bigSep_sep', bigSep_sep', bigSep_sep', ← bigSep_univ_prod (fun a : Dev nD × CI => iprop(∃ κ : ℕ, cellInv ER (Rd (xA m ρ) (xB m ρ)) κ (kcell a))),
    ← bigSep_univ_prod (fun a : Dev nD × CI => (reached ER (kcell a) 0 : sProp 𝕄))]
  iintro ⟨HI, ⟨Hat, #HR⟩, Htok⟩
  ihave HK := (BI.bigSep_exists_pi Finset.univ (fun (a : Dev nD × CI) (κ : ℕ) => (cellInv ER (Rd (xA m ρ) (xB m ρ)) κ (kcell a) : sProp 𝕄))) $$ HI
  icases HK with ⟨%K, #HI⟩
  ihave Htk := (toks_around (F := F)) $$ Htok
  iapply (sep_with (R := marks (xA m ρ) (xB m ρ) K) (Φ := fun c : Dev nD => iprop(payToks (F := F) c ∗ posns (F := F) c)) fun c _ =>
    show iprop(marks (xA m ρ) (xB m ρ) K ∗ payToks (F := F) c ∗ posns (F := F) c) ⊢ G' m ρ c by
      unfold G'; iintro H; iexists K; iexact H)
  isplitr
  · unfold marks
    isplitl; · iexact HI
    iexact HR
  · iapply (Entails.of_eq (bigSep_sep' Finset.univ (fun c : Dev nD => payToks (F := F) c) fun c => posns (F := F) c).symm)
    isplitl [Htk]; · iexact Htk
    iexact Hat

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

set_option maxRecDepth 100000 in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  unfold start G' recs marks
  icases HG with ⟨%K, ⟨HI, HR⟩, Ht, Hp⟩
  imodintro
  isplitl
  · iexists K
    isplitl [HI HR Hlev]
    · isplitl [HI]; · iexact HI
      isplitl [HR]; · iexact HR
      iexact Hlev
    iapply (toksOf_intro (F := F) c)
    isplitl [Ht]; · iexact Ht
    isplitl [Hp] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ held
  iintro ⟨Hs, -, Hb⟩
  isplitl [Hs]; · iexact Hs
  iexact Hb

/-- The transfers' semaphores at zero, segment by segment and all together. -/
theorem zeros_all (c : Dev nD) :
    (bigSep Finset.univ fun s : Fin 3 => zeros (F := F) c s) ⊢ bigSep Finset.univ fun y : Fin 4 × Fin 3 × Fin 31 => (semVal (kcell (c, .inr y)) 0 : sProp 𝕄) := by
  unfold zeros
  rw [sep_xfers]
  simp only [bigSep_sep']
  exact Entails.of_eq rfl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ held
  iintro ⟨Hb, Hz, Hz0, Hz1⟩
  isplitl [Hz0]; · iexact Hz0
  isplitl [Hz1 Hz]
  · isplitl [Hz1]; · iexact Hz1
    iapply (zeros_all (F := F) c) $$ Hz
  iexact Hb

theorem stage_not_cell : ∀ (w : Fin 3) (s : Fin (spec0 w).nbuf) (i : CI), (SemLoc.dma ((spec0 w).sem s) : SemLoc sig) ≠ csem i := by decide +kernel

omit [FloatOps F] in
theorem mayWait_stage (c : Dev nD) (q : SemLoc sig) (hq : ∀ i : CI, q ≠ csem i) (O : CellTallies nD τ sig Unit) (hO : O = O₀ c ∨ O = 0) :
    (levAts L lv : sProp 𝕄) ⊢ MayWait (c : Thread nD τ) q () O := by
  refine mayWait_of (n := 0) c q (Nat.le_of_eq ?_) ?_
  · exact Function.extend_apply' _ _ _ fun ⟨a, ha⟩ => hq a.2 (congrArg Prod.snd ha).symm
  · rcases hO with rfl | rfl
    · exact above_O₀ c (by decide)
    · exact above_zero 0

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_not_cell w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- The program on all devices, for any float values and from any memory with zero counters: it ends, with each device's
    arrays as `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands end as they were. -/
theorem final_arg0 (c : Dev nD) : finalA m ρ c (0 : Fin 3) = (s₀ m ρ).mem (win0_0.arr.view.loc (c : Thread nD τ)) :=
  (dats (F := F) m ρ 0 c).arrAt_in (0 : Fin 3) rfl _
theorem final_arg1 (c : Dev nD) : finalA m ρ c (1 : Fin 3) = (s₀ m ρ).mem (win0_1.arr.view.loc (c : Thread nD τ)) :=
  (dats (F := F) m ρ 0 c).arrAt_in (1 : Fin 3) rfl _

end Cert.Proof.Steps

end
-- ==== Proof.Frames.lean ====
/-
The frames: both of the kernel's programs run, their operands end as they were and every counter at zero. Each is the one
run, read at its float values.
-/
module

public import proofs.«01_k».proof.Proof.Launch
public import proofs.«01_k».proof.Defs
public import proofs.«01_k».proof.Proof.Gen.Kernel

@[expose] public section

noncomputable section

namespace Cert.Proof.Steps

open Idealize.ShloMosaic Idealize.ShloMosaic.TcCoe Idealize.SL.Sem

/-- What the run leaves of the operands and the counters. -/
theorem frame_of {F : FTy → Type} [FloatOps F] (m : (ℓ : Loc KernelIdeal.nD KernelIdeal.τ KernelIdeal.sig) → Buf (Elt F) ℓ)
    (g : Dev KernelIdeal.nD → PrngReg) :
    θ_run (KernelIdeal.defs (F := F)) (onTc (τ := KernelIdeal.τ) (KernelIdeal.main (F := F))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run KernelIdeal.defs _ _).mono
    (fun _ h => ⟨fun c => ⟨(h.1 c (0 : Fin 3)).trans (final_arg0 m g c), (h.1 c (1 : Fin 3)).trans (final_arg1 m g c)⟩, h.2⟩) (run_main m g)

theorem frame_KernelIdeal : Cert.quiescent_KernelIdeal (hKernelIdeal := KernelIdeal.Gen.facts) := fun m g _ => frame_of m g

set_option maxRecDepth 1000000 in
/-- The two programs are one text: the bodies that the labels name are the same, -/
theorem bodies_eq {F : FTy → Type} [FloatOps F] : KernelIdeal.defs₀ (F := F) = Kernel.defs₀ (F := F) := by
  unfold KernelIdeal.defs₀ Kernel.defs₀
  refine congrArg Defs.onTc ?_
  funext l x
  match l, x with
  | 0, (t, s) => exact rfl
  | ⟨_ + 1, h⟩, _ => exact absurd h (Nat.not_lt.2 (Nat.le_add_left _ _))

/-- and so are the programs' tables. -/
theorem defs_eq {F : FTy → Type} [FloatOps F] : KernelIdeal.defs (F := F) = Kernel.defs (F := F) :=
  congrArg (Pipeline.defs KernelIdeal.pcfgs) bodies_eq

theorem frame_Kernel : Cert.quiescent_Kernel (hKernel := Kernel.Gen.facts) := fun m g _ => by
  have h := frame_of (F := Bits) m g
  rw [defs_eq] at h
  exact h

end Cert.Proof.Steps

end
-- ==== Proof.Reference.lean ====
/-
The reference's run on its one device, for any float values: the four host operations, one after the other.
-/
module

public import proofs.«01_k».proof.Proof.Gen.ReferenceIdeal
public import proofs.«01_k».proof.Defs
public import Idealize.ShloMosaic.Lib.StableHlo.Run
public import Idealize.ShloMosaic.Lib.StackMember

@[expose] public section

noncomputable section

namespace Cert.Proof.Whole

open Cert.ReferenceIdeal Cert.ReferenceIdeal.Gen
open Idealize.ShloMosaic Idealize.ShloMosaic.TcCoe Idealize.ShloMosaic.StableHlo Idealize.SL.Sem
open Idealize.ShloMosaic.ValueIdx

variable {F : FTy → Type} [FloatOps F]

/-- The reference's result of its two arrays. -/
abbrev product (a : FVec F S768x12288 .bf16) (b : FVec F S12288x768 .bf16) : FVec F S768x768 .bf16 :=
  truncf .bf16 (Host.dotGeneral dot_S768x12288_S12288x768_S768x768_1_0_0_1_n_n none (extf .f32 a bitsLt_bf16_f32) (extf .f32 b bitsLt_bf16_f32))
    bitsLt_bf16_f32

/-- The program, as a list of operations. -/
abbrev steps : List (HloOp τ sig (Elt F)) :=
  [ unary main_arg0 main_v0 ((extf .f32 · bitsLt_bf16_f32) : (⟨S768x12288, .bf16⟩ : BufTy).Contents (Elt F) → (⟨S768x12288, .f32⟩ : BufTy).Contents (Elt F)),
    unary main_arg1 main_v1 ((extf .f32 · bitsLt_bf16_f32) : (⟨S12288x768, .bf16⟩ : BufTy).Contents (Elt F) → (⟨S12288x768, .f32⟩ : BufTy).Contents (Elt F)),
    binary main_v0 main_v1 main_v2 ((fun l r => Host.dotGeneral dot_S768x12288_S12288x768_S768x768_1_0_0_1_n_n none l r)
      : (⟨S768x12288, .f32⟩ : BufTy).Contents (Elt F) → (⟨S12288x768, .f32⟩ : BufTy).Contents (Elt F) → (⟨S768x768, .f32⟩ : BufTy).Contents (Elt F)),
    unary main_v2 main_v3 ((truncf .bf16 · bitsLt_bf16_f32) : (⟨S768x768, .f32⟩ : BufTy).Contents (Elt F) → (⟨S768x768, .bf16⟩ : BufTy).Contents (Elt F)) ]

/-- What the steps leave of the three arrays. -/
theorem after_steps (V : Valuation τ sig (Elt F)) :
    after steps V (main_v3 : DevRef τ sig) = product (V (main_arg0 : DevRef τ sig)) (V (main_arg1 : DevRef τ sig))
      ∧ after steps V (main_arg0 : DevRef τ sig) = V (main_arg0 : DevRef τ sig)
      ∧ after steps V (main_arg1 : DevRef τ sig) = V (main_arg1 : DevRef τ sig) := by
  refine ⟨?_, ?_, ?_⟩
  · after_results
  · after_results
  · after_results

/-- The reference runs, to the product, and leaves its arguments. -/
theorem run_whole (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = product (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono
    (fun _ h c => ⟨(h c main_v3).trans (after_steps _).1, (h c main_arg0).trans (after_steps _).2.1, (h c main_arg1).trans (after_steps _).2.2⟩)
    (run_seq (by decide) (by decide) defs main (fun _ => steps) (fun _ => rfl)
      (fun _ => ⟨unary_bufs_sub .., unary_bufs_sub .., binary_bufs_sub .., unary_bufs_sub ..⟩) m ρ)

/-- The reference's frame. -/
theorem frame_ReferenceIdeal : Cert.quiescent_ReferenceIdeal (hReferenceIdeal := ReferenceIdeal.Gen.facts) := fun m g _ =>
  (θ_run ReferenceIdeal.defs _ _).mono (fun r h => ⟨fun c => (h c).2, Idealize.ShloMosaic.sem_eq_zero_of_no_sems (by decide) r.2⟩)
    (run_whole (F := Ideal) m g)

/-- Exactly, each entry of the reference's result is the sum of 12288 products. -/
theorem product_apply (a : FVec Ideal S768x12288 .bf16) (b : FVec Ideal S12288x768 .bf16) (r l : Fin 768) :
    product (F := Ideal) a b (ix2 r l) = ∑ k : Fin 12288, (a (ix2 r k) * b (ix2 k l) : EReal) :=
  StackMember.dotGeneral_plain_apply (m := 768) (n := 768) (k := 12288) (φ₁ := .f32) (φ₂ := .f32) none a b r l

end Cert.Proof.Whole

end
-- ==== Proof.Value.lean ====
/-
The value, exactly: the result is the product of the whole arrays, each entry the sum over the devices of the entries of
their own products.
-/
module

public import proofs.«01_k».proof.Proof.Frames
public import proofs.«01_k».proof.Proof.Reference
public import Idealize.ShloMosaic.Lib.MatmulPlain
public import Idealize.ShloMosaic.Lib.Pipeline.Value
public import Idealize.ShloMosaic.Lib.Pipeline.ValueKit.Acc

@[expose] public section

noncomputable section

namespace Cert.Proof.Steps

open Cert.KernelIdeal Cert.KernelIdeal.Gen
open Idealize.ShloMosaic Idealize.ShloMosaic.TcCoe Idealize.SL.Sem
open Idealize.ShloMosaic.ValueIdx

/-! ## The devices' products -/

section Exact

variable (xa : Dev nD → Vec Ideal S768x384 .bf16) (xb : Dev nD → Vec Ideal S384x768 .bf16)

/-- An entry of a device's own product. -/
theorem accF_apply (c : Dev nD) (r l : Fin 768) :
    accF xa xb c (ix2 r l) = ∑ k : Fin 384, (xa c (ix2 r k) * xb c (ix2 k l) : EReal) := by
  unfold accF k0_pay1
  rw [shapeCast_self, shapeCast_self, shapeCast_self]
  refine (Ideal.matmul_plain_apply (M := 768) (K := 384) (N := 768) (φ₁ := .bf16) (φ₂ := .bf16) none (xa c) (xb c)
    (constant S768x768 .f32 0x00000000#32) r l).trans ?_
  show Ideal.ofBits .f32 0x00000000#32 + _ = _
  rw [Ideal.ofBits_zero_f32, zero_add]

/-- An entry of a segment reduced: the own block's entry plus those of the 31 blocks received. -/
theorem redOf_apply (s : Fin 3) (x : Vec Ideal S24x256 .bf16) (g : Vec Ideal S31x24x256 .bf16) (j : S24x256.Idx) :
    redOf s x g j = (x j + ∑ o : Fin 31, g (ix3 o (j 0) (j 1)) : EReal) := by
  have h : ∀ (y : FVec Ideal S24x256 .f32) (z : FVec Ideal S31x24x256 .f32),
      addf y (multiReduction .add [0] S24x256 z 0x00000000#32 reduces_S31x24x256_S24x256 (.inl rfl) rfl) j
        = (y j + ∑ o : Fin 31, z (ix3 o (j 0) (j 1)) : EReal) := fun y z => by
    refine congrArg (fun t : EReal => (y j + t : EReal)) ?_
    refine (Ideal.multiReduction_add_single z _ reduces_S31x24x256_S24x256 (.inl rfl) rfl j).trans ?_
    refine Finset.sum_congr rfl fun o _ => congrArg z ?_
    funext a
    match a with
    | ⟨0, _⟩ => rfl
    | ⟨1, _⟩ => rfl
    | ⟨2, _⟩ => rfl
  match s with
  | 0 => unfold redOf k0_pay4 k0_pay2 k0_pay3; dsimp only; rw [shapeCast_self]; exact h _ _
  | 1 => unfold redOf k0_pay5; dsimp only; rw [shapeCast_self]; exact h _ _
  | 2 => unfold redOf k0_pay7 k0_pay6; dsimp only; rw [shapeCast_self]; exact h _ _

/-- A sum over the devices, from device `c` and going back around the mesh. -/
theorem sum_back (c : Dev nD) (f : Dev nD → EReal) : f c + ∑ o : Fin 31, f (bwd c o) = ∑ d : Dev nD, f d := by
  rw [← Equiv.sum_comp (othersBack c) f, Fintype.sum_option]
  rfl

/-- An entry of a device's reduced segment is the sum over all devices of their products' entries there. -/
theorem segR_apply (c : Dev nD) (s : Fin 3) (j : S24x256.Idx) (r l : Fin 768) (hr : r.val = 24 * c.val + (j 0).val)
    (hl : l.val = 256 * s.val + (j 1).val) : segR xa xb c s j = (∑ d : Dev nD, accF xa xb d (ix2 r l) : EReal) := by
  unfold segR
  rw [redOf_apply]
  refine Eq.trans ?_ (sum_back c fun d => accF xa xb d (ix2 r l))
  refine congrArg₂ (fun a b : EReal => a + b) ?_ (Finset.sum_congr rfl fun o _ => ?_)
  · show accF xa xb c ((rOwn s c).emb j) = _
    refine congrArg (accF xa xb c) (idx2_ext ?_ ?_)
    · refine (ValueKit.rect_emb_unit_val (s := S768x768) (oLoad s c) S24x256.size (oLoad_inb s c) j 0).trans ?_
      exact (congrArg (· + (j 0).val) (congrFun ((oLoad_eq s c).trans (oOwn_eq s c)) 0)).trans hr.symm
    · refine (ValueKit.rect_emb_unit_val (s := S768x768) (oLoad s c) S24x256.size (oLoad_inb s c) j 1).trans ?_
      exact (congrArg (· + (j 1).val) (congrFun ((oLoad_eq s c).trans (oOwn_eq s c)) 1)).trans hl.symm
  · show gatF xa xb c ((rAll s).emb (ix3 (n0 := 31) (n1 := 24) (n2 := 256) o (j 0) (j 1))) = _
    have h := fun a : Fin 3 => (ValueKit.rect_emb_unit_val (s := S31x24x768) (oAll s) S31x24x256.size (oAll_inb s)
      (ix3 (n0 := 31) (n1 := 24) (n2 := 256) o (j 0) (j 1)) a).trans
        (congrArg (· + (ix3 (n0 := 31) (n1 := 24) (n2 := 256) o (j 0) (j 1) a).val) (congrFun (oAll_eq s) a))
    have h0 : ((rAll s).emb (ix3 (n0 := 31) (n1 := 24) (n2 := 256) o (j 0) (j 1)) 0) = o :=
      Fin.ext ((h 0).trans (by show 0 + o.val = o.val; omega))
    unfold gatF
    rw [h0]
    refine congrArg (accF xa xb (bwd c o)) (idx2_ext ?_ ?_)
    · refine Eq.trans ?_ hr.symm
      show 24 * c.val + _ = _
      exact congrArg (24 * c.val + ·) ((h 1).trans (by show 0 + (j 0).val = (j 0).val; omega))
    · exact (h 2).trans hl.symm

/-- An entry of the result is the sum over all devices of their products' entries there. -/
theorem outF_apply (r l : Fin 768) : outF xa xb (ix2 r l) = (∑ d : Dev nD, accF xa xb d (ix2 r l) : EReal) := by
  unfold outF redF
  refine segR_apply xa xb _ _ _ r l ?_ ?_
  · show r.val = 24 * (r.val / 24) + r.val % 24
    omega
  · show l.val = 256 * (l.val / 256) + l.val % 256
    omega

end Exact

/-! ## Against the whole arrays -/

/-- If each device holds its part of two arrays, the result is their product. -/
theorem outF_whole (a : FVec Ideal ReferenceIdeal.S768x12288 .bf16) (b : FVec Ideal ReferenceIdeal.S12288x768 .bf16)
    (xa : Dev nD → Vec Ideal S768x384 .bf16) (xb : Dev nD → Vec Ideal S384x768 .bf16)
    (ha : ∀ c, xa c = Layout.block ⟨2, ![768, 384]⟩ ⟨2, ![768, 12288]⟩ 1 32 c a)
    (hb : ∀ c, xb c = Layout.block ⟨2, ![384, 768]⟩ ⟨2, ![12288, 768]⟩ 0 32 c b) :
    outF xa xb = Whole.product (F := Ideal) a b := by
  funext i
  rw [eq_ix2 i]
  refine (outF_apply xa xb (i 0) (i 1)).trans (Eq.trans ?_ (Whole.product_apply a b (i 0) (i 1)).symm)
  refine Eq.trans (Finset.sum_congr rfl fun c _ => (accF_apply xa xb c (i 0) (i 1)).trans (Finset.sum_congr rfl fun k _ => ?_))
    (Fin.sum_mul_add_fin 32 384 (fun k : Fin 12288 => (a (ix2 (i 0) k) * b (ix2 k (i 1)) : EReal)))
  rw [ha, hb]
  refine congrArg₂ (fun p q : EReal => p * q) (congrArg a (idx2_ext ?_ ?_)) (congrArg b (idx2_ext ?_ ?_)) <;> rfl

/-! ## What the run leaves -/

section Final

variable {F : FTy → Type} [FloatOps F] (m : (ℓ : Loc nD τ sig) → Buf (Elt F) ℓ) (ρ : Dev nD → PrngReg)

/-- The staged operands are the operands. -/
theorem xA_eq (c : Dev nD) : xA m ρ c = m ((c : Thread nD τ).loc main_arg0) :=
  Memref.read_access_unit_zero (Elt F) main_arg0 (funext fun a => by fin_cases a <;> decide) (fun a => by fin_cases a <;> decide) _
theorem xB_eq (c : Dev nD) : xB m ρ c = m ((c : Thread nD τ).loc main_arg1) :=
  Memref.read_access_unit_zero (Elt F) main_arg1 (funext fun a => by fin_cases a <;> decide) (fun a => by fin_cases a <;> decide) _

/-- The result ends as `outF`, on every device. -/
theorem final_out (c : Dev nD) : finalA m ρ c (2 : Fin 3) = outF (xA m ρ) (xB m ρ) :=
  (dats (F := F) m ρ 0 c).arrAt_eq_of_after_last (2 : Fin 3) t₀ (by decide +kernel) _ (fun j => rfl)

end Final

/-- The kernel's program computes the reference's product on every device. -/
theorem algebraic : Cert.algebraic_KernelIdeal_ReferenceIdeal (hKernelIdeal := KernelIdeal.Gen.facts) (hReferenceIdeal := ReferenceIdeal.Gen.facts) := by
  intro m g m' g' _ hin
  refine ⟨Whole.product (F := Ideal) (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1)), ?_, ?_⟩
  · have hv := outF_whole _ _ (xA m g) (xB m g) (fun c => (xA_eq m g c).trans (hin c).1) (fun c => (xB_eq m g c).trans (hin c).2)
    exact (θ_run KernelIdeal.defs _ _).mono
      (fun _ h c => ⟨(h.1 c (2 : Fin 3)).trans ((final_out m g c).trans hv), (h.1 c (0 : Fin 3)).trans (final_arg0 m g c),
        (h.1 c (1 : Fin 3)).trans (final_arg1 m g c)⟩) (run_main m g)
  · exact (θ_run ReferenceIdeal.defs _ _).mono (fun _ h => h 0) (Whole.run_whole (F := Ideal) m' g')

end Cert.Proof.Steps

end
-- ==== Proof.lean ====
/-
The proof of `Cert.Claim`: both of the kernel's programs and the reference run and leave everything as it should be, and
over the extended reals every device ends with the reference's product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  Steps.frame_Kernel, Steps.frame_KernelIdeal, Whole.frame_ReferenceIdeal, trivial, Steps.algebraic⟩

end Cert.Proof

end
